-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_router_finite [hPre_router_finite : Cert.Pre_router_finite.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_router_finite.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6))) = (fun _ => 1#1)

def Pre_OutprojRefIdeal (m : (ℓ : Loc Cert.OutprojRefIdeal.nD Cert.OutprojRefIdeal.τ Cert.OutprojRefIdeal.sig) → Buf (Elt Ideal) ℓ) : Prop :=
  True

def Pre_OutprojRefIdeal_router_finite [hPre_router_finite : Cert.Pre_router_finite.Facts] (m : (ℓ : Loc Cert.OutprojRefIdeal.nD Cert.OutprojRefIdeal.τ Cert.OutprojRefIdeal.sig) → Buf (Elt Ideal) ℓ) : Prop :=
  ∀ c : Dev Cert.OutprojRefIdeal.nD,
    (Cert.Pre_router_finite.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3)) (m ((c.tc : Thread Cert.OutprojRefIdeal.nD Cert.OutprojRefIdeal.τ).loc Cert.OutprojRefIdeal.main_arg4)) (m ((c.tc : Thread Cert.OutprojRefIdeal.nD Cert.OutprojRefIdeal.τ).loc Cert.OutprojRefIdeal.main_arg5)) (m ((c.tc : Thread Cert.OutprojRefIdeal.nD Cert.OutprojRefIdeal.τ).loc Cert.OutprojRefIdeal.main_arg6))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojIdeal_pre_router_finite [hOutprojIdeal : Cert.OutprojIdeal.Facts] [hPre_router_finite : Cert.Pre_router_finite.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_router_finite m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def quiescent_OutprojRefIdeal_pre_router_finite [hOutprojRefIdeal : Cert.OutprojRefIdeal.Facts] [hPre_router_finite : Cert.Pre_router_finite.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal_router_finite m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0))
      ∧ r.2.sem = fun _ => 0)

def preserves_Attn_AttnIdeal : Prop :=
  IdealRules.named_const.Statement Cert.AttnIdeal.κ "scale2" .f32 0x3E0293EE#32 (((11863283 * 134217728⁻¹) * (Real.log 2)⁻¹ : ℝ) : EReal)
  ∧ IdealRules.named_const.Statement Cert.AttnIdeal.κ "log2e" .f32 0x3FB8AA3B#32 (((Real.log 2)⁻¹ : ℝ) : EReal)

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v95) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v2) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_v31) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Outproj_OutprojIdeal : Prop :=
  True

def algebraic_OutprojIdeal_OutprojRefIdeal_pre_router_finite [hOutprojIdeal : Cert.OutprojIdeal.Facts] [hOutprojRefIdeal : Cert.OutprojRefIdeal.Facts] [hPre_router_finite : Cert.Pre_router_finite.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal_router_finite m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v3_0)) (v1 : (c : Dev Cert.OutprojIdeal.nD) → Buf (Elt Ideal) ((c.tc : Thread Cert.OutprojIdeal.nD Cert.OutprojIdeal.τ).loc Cert.OutprojIdeal.main_v3_1)) (v2 : (c : Dev Cert.OutprojIdeal.nD) → Buf (Elt Ideal) ((c.tc : Thread Cert.OutprojIdeal.nD Cert.OutprojIdeal.τ).loc Cert.OutprojIdeal.main_v3_2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3_0) = v0 c
          ∧ r.2.mem ((c.tc : Thread Cert.OutprojIdeal.nD Cert.OutprojIdeal.τ).loc Cert.OutprojIdeal.main_v3_1) = v1 c
          ∧ r.2.mem ((c.tc : Thread Cert.OutprojIdeal.nD Cert.OutprojIdeal.τ).loc Cert.OutprojIdeal.main_v3_2) = v2 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v56) = v0 c
          ∧ r.2.mem ((c.tc : Thread Cert.OutprojRefIdeal.nD Cert.OutprojRefIdeal.τ).loc Cert.OutprojRefIdeal.main_v58) = v1 c
          ∧ r.2.mem ((c.tc : Thread Cert.OutprojRefIdeal.nD Cert.OutprojRefIdeal.τ).loc Cert.OutprojRefIdeal.main_v59) = v2 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v1) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v23) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v14_0)) (v1 : (c : Dev Cert.RopeIdeal.nD) → Buf (Elt Ideal) ((c.tc : Thread Cert.RopeIdeal.nD Cert.RopeIdeal.τ).loc Cert.RopeIdeal.main_v14_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v14_0) = v0 c
          ∧ r.2.mem ((c.tc : Thread Cert.RopeIdeal.nD Cert.RopeIdeal.τ).loc Cert.RopeIdeal.main_v14_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v72) = v0 c
          ∧ r.2.mem ((c.tc : Thread Cert.RopeRefIdeal.nD Cert.RopeRefIdeal.τ).loc Cert.RopeRefIdeal.main_v75) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_Route_RouteIdeal : Prop :=
  True

def Claim : Prop :=
  ∃ (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hAda : Cert.Ada.Facts) (hAdaIdeal : Cert.AdaIdeal.Facts) (hAdaRefIdeal : Cert.AdaRefIdeal.Facts) (hPrenorm : Cert.Prenorm.Facts) (hPrenormIdeal : Cert.PrenormIdeal.Facts) (hPrenormRefIdeal : Cert.PrenormRefIdeal.Facts) (hRope : Cert.Rope.Facts) (hRopeIdeal : Cert.RopeIdeal.Facts) (hRopeRefIdeal : Cert.RopeRefIdeal.Facts) (hRoute : Cert.Route.Facts) (hRouteIdeal : Cert.RouteIdeal.Facts) (hPre_router_finite : Cert.Pre_router_finite.Facts),
    quiescent_Attn (hAttn := hAttn)
    ∧ quiescent_AttnIdeal (hAttnIdeal := hAttnIdeal)
    ∧ quiescent_AttnRefIdeal (hAttnRefIdeal := hAttnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojIdeal_pre_router_finite (hOutprojIdeal := hOutprojIdeal) (hPre_router_finite := hPre_router_finite)
    ∧ quiescent_OutprojRefIdeal (hOutprojRefIdeal := hOutprojRefIdeal)
    ∧ quiescent_OutprojRefIdeal_pre_router_finite (hOutprojRefIdeal := hOutprojRefIdeal) (hPre_router_finite := hPre_router_finite)
    ∧ quiescent_Ada (hAda := hAda)
    ∧ quiescent_AdaIdeal (hAdaIdeal := hAdaIdeal)
    ∧ quiescent_AdaRefIdeal (hAdaRefIdeal := hAdaRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Rope (hRope := hRope)
    ∧ quiescent_RopeIdeal (hRopeIdeal := hRopeIdeal)
    ∧ quiescent_RopeRefIdeal (hRopeRefIdeal := hRopeRefIdeal)
    ∧ quiescent_Route (hRoute := hRoute)
    ∧ quiescent_RouteIdeal (hRouteIdeal := hRouteIdeal)
    ∧ preserves_Attn_AttnIdeal
    ∧ algebraic_AttnIdeal_AttnRefIdeal (hAttnIdeal := hAttnIdeal) (hAttnRefIdeal := hAttnRefIdeal)
    ∧ preserves_Inproj_InprojIdeal
    ∧ algebraic_InprojIdeal_InprojRefIdeal (hInprojIdeal := hInprojIdeal) (hInprojRefIdeal := hInprojRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal_pre_router_finite (hOutprojIdeal := hOutprojIdeal) (hOutprojRefIdeal := hOutprojRefIdeal) (hPre_router_finite := hPre_router_finite)
    ∧ preserves_Ada_AdaIdeal
    ∧ algebraic_AdaIdeal_AdaRefIdeal (hAdaIdeal := hAdaIdeal) (hAdaRefIdeal := hAdaRefIdeal)
    ∧ preserves_Prenorm_PrenormIdeal
    ∧ algebraic_PrenormIdeal_PrenormRefIdeal (hPrenormIdeal := hPrenormIdeal) (hPrenormRefIdeal := hPrenormRefIdeal)
    ∧ preserves_Rope_RopeIdeal
    ∧ algebraic_RopeIdeal_RopeRefIdeal (hRopeIdeal := hRopeIdeal) (hRopeRefIdeal := hRopeRefIdeal)
    ∧ preserves_Route_RouteIdeal
-- ==== Pre_router_finite.lean ====
abbrev S8192x2048 : Shape := ⟨2, ![8192, 2048]⟩
abbrev S2048x2048 : Shape := ⟨2, ![2048, 2048]⟩
abbrev S2x6x2048 : Shape := ⟨3, ![2, 6, 2048]⟩
abbrev S2048 : Shape := ⟨1, ![2048]⟩
abbrev S2048x16 : Shape := ⟨2, ![2048, 16]⟩
abbrev S_ : Shape := ⟨0, ![]⟩

class Facts : Prop where
  bcast_S_S2048x16 : S_.BroadcastsInDim S2048x16 (![] : Fin 0 → Fin S2048x16.rank)

variable [Facts]

def fn {F : FTy → Type} [FloatOps F] (main_arg0 : FVec F S8192x2048 .bf16) (main_arg1 : FVec F S2048x2048 .bf16) (main_arg2 : FVec F S8192x2048 .f32) (main_arg3 : FVec F S2x6x2048 .f32) (main_arg4 : FVec F S2048 .f32) (main_arg5 : FVec F S2048 .f32) (main_arg6 : FVec F S2048x16 .f32) : IVec S2048x16 1 :=
  let main_v0 : FVec F S2048x16 .f32 := Host.absf main_arg6
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  main_v2
-- ==== Attn.lean ====
abbrev S8192x1024 : Shape := ⟨2, ![8192, 1024]⟩
abbrev S8192x256 : Shape := ⟨2, ![8192, 256]⟩
abbrev S8192x10752 : Shape := ⟨2, ![8192, 10752]⟩
abbrev S8 : Shape := ⟨1, ![8]⟩
abbrev S128x1024 : Shape := ⟨2, ![128, 1024]⟩
abbrev S128x256 : Shape := ⟨2, ![128, 256]⟩
abbrev S512x384 : Shape := ⟨2, ![512, 384]⟩
abbrev S512x1 : Shape := ⟨2, ![512, 1]⟩
abbrev S128x128 : Shape := ⟨2, ![128, 128]⟩
abbrev S384x128 : Shape := ⟨2, ![384, 128]⟩
abbrev S512x128 : Shape := ⟨2, ![512, 128]⟩
abbrev S1 : Shape := ⟨1, ![1]⟩
abbrev S512 : Shape := ⟨1, ![512]⟩

abbrev nBuf : Space → Nat
  | .hbm => 5
  | .vmem => 16
  | .smem => 1
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x10752, .bf16⟩
  | .hbm, ⟨3, _⟩ => ⟨S8, .f32⟩
  | .hbm, ⟨4, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x1024, .bf16⟩
  | .local _ .vmem, ⟨15, _⟩ => ⟨S128x1024, .bf16⟩
  | .local _ .smem, ⟨0, _⟩ => ⟨S8, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c31_i32 : BitVec 32 := 31#32
  let v2 : BitVec 32 := Scalar.minsi v1 c31_i32
  let v3 : BitVec 32 := Scalar.addi v0 v2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c25_i32 : BitVec 32 := 25#32
  let c0_i32_0 : BitVec 32 := 0#32
  ![v3.toNat, c25_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c25_i32 : BitVec 32 := 25#32
  let c0_i32 : BitVec 32 := 0#32
  ![v1.toNat, c25_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c31_i32 : BitVec 32 := 31#32
  let v2 : BitVec 32 := Scalar.minsi v1 c31_i32
  let v3 : BitVec 32 := Scalar.addi v0 v2
  let c25_i32 : BitVec 32 := 25#32
  let c0_i32 : BitVec 32 := 0#32
  ![v3.toNat, c25_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "log2e" => some (((Real.log 2)⁻¹ : ℝ) : EReal)
  | "scale2" => some (((11863283 * 134217728⁻¹) * (Real.log 2)⁻¹ : ℝ) : EReal)
  | _ => none
-- ==== AttnRefIdeal.lean ====
abbrev S8192x1024 : Shape := ⟨2, ![8192, 1024]⟩
abbrev S8192x256 : Shape := ⟨2, ![8192, 256]⟩
abbrev S8192x10752 : Shape := ⟨2, ![8192, 10752]⟩
abbrev S8 : Shape := ⟨1, ![8]⟩
abbrev S2x4096x10752 : Shape := ⟨3, ![2, 4096, 10752]⟩
abbrev S2x4096x1024 : Shape := ⟨3, ![2, 4096, 1024]⟩
abbrev S2x4096x256 : Shape := ⟨3, ![2, 4096, 256]⟩
abbrev S2x4096x2048 : Shape := ⟨3, ![2, 4096, 2048]⟩
abbrev S2x4096x8x128 : Shape := ⟨4, ![2, 4096, 8, 128]⟩
abbrev S2x8x4096x128 : Shape := ⟨4, ![2, 8, 4096, 128]⟩
abbrev S2x4096x2x128 : Shape := ⟨4, ![2, 4096, 2, 128]⟩
abbrev S2x2x4096x128 : Shape := ⟨4, ![2, 2, 4096, 128]⟩
abbrev S2x2x4x32x128x128 : Shape := ⟨6, ![2, 2, 4, 32, 128, 128]⟩
abbrev S_ : Shape := ⟨0, ![]⟩
abbrev S2x2x4352x128 : Shape := ⟨4, ![2, 2, 4352, 128]⟩
abbrev S2x2x34x128x128 : Shape := ⟨5, ![2, 2, 34, 128, 128]⟩
abbrev S2x2x32x128x128 : Shape := ⟨5, ![2, 2, 32, 128, 128]⟩
abbrev S2x2x32x384x128 : Shape := ⟨5, ![2, 2, 32, 384, 128]⟩
abbrev S2x2x32x384x4x128 : Shape := ⟨6, ![2, 2, 32, 384, 4, 128]⟩
abbrev S2x2x4x32x128x384 : Shape := ⟨6, ![2, 2, 4, 32, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S1x2x4x1x1x1 : Shape := ⟨6, ![1, 2, 4, 1, 1, 1]⟩
abbrev S2x2x4x32x128 : Shape := ⟨5, ![2, 2, 4, 32, 128]⟩
abbrev S2x2x4x32x128x1 : Shape := ⟨6, ![2, 2, 4, 32, 128, 1]⟩
abbrev S2x2x32x128x4x128 : Shape := ⟨6, ![2, 2, 32, 128, 4, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x10752, .bf16⟩
  | .hbm, ⟨3, _⟩ => ⟨S8, .f32⟩
  | .hbm, ⟨4, _⟩ => ⟨S8192x10752, .f32⟩
  | .hbm, ⟨5, _⟩ => ⟨S2x4096x10752, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x1024, .f32⟩
  | .hbm, ⟨12, _⟩ => ⟨S2x4096x256, .f32⟩
  | .hbm, ⟨13, _⟩ => ⟨S2x4096x256, .f32⟩
  | .hbm, ⟨14, _⟩ => ⟨S2x4096x2048, .f32⟩
  | .hbm, ⟨15, _⟩ => ⟨S2x4096x2048, .f32⟩
  | .hbm, ⟨16, _⟩ => ⟨S8192x1024, .f32⟩
  | .hbm, ⟨17, _⟩ => ⟨S2x4096x1024, .f32⟩
  | .hbm, ⟨18, _⟩ => ⟨S2x4096x8x128, .f32⟩
  | .hbm, ⟨19, _⟩ => ⟨S2x8x4096x128, .f32⟩
  | .hbm, ⟨20, _⟩ => ⟨S8192x256, .f32⟩
  | .hbm, ⟨21, _⟩ => ⟨S2x4096x256, .f32⟩
  | .hbm, ⟨22, _⟩ => ⟨S2x4096x2x128, .f32⟩
  | .hbm, ⟨23, _⟩ => ⟨S2x2x4096x128, .f32⟩
  | .hbm, ⟨24, _⟩ => ⟨S2x4096x2x128, .f32⟩
  | .hbm, ⟨25, _⟩ => ⟨S2x2x4096x128, .f32⟩
  | .hbm, ⟨26, _⟩ => ⟨S2x2x4x32x128x128, .f32⟩
  | .hbm, ⟨27, _⟩ => ⟨S_, .i32⟩
  | .hbm, ⟨28, _⟩ => ⟨S_, .f32⟩
  | .hbm, ⟨29, _⟩ => ⟨S2x2x4352x128, .f32⟩
  | .hbm, ⟨30, _⟩ => ⟨S2x2x34x128x128, .f32⟩
  | .hbm, ⟨31, _⟩ => ⟨S_, .i32⟩
  | .hbm, ⟨32, _⟩ => ⟨S_, .f32⟩
  | .hbm, ⟨33, _⟩ => ⟨S2x2x4352x128, .f32⟩
  | .hbm, ⟨34, _⟩ => ⟨S2x2x34x128x128, .f32⟩
  | .hbm, ⟨35, _⟩ => ⟨S2x2x32x128x128, .f32⟩
  | .hbm, ⟨36, _⟩ => ⟨S2x2x32x128x128, .f32⟩
  | .hbm, ⟨37, _⟩ => ⟨S2x2x32x128x128, .f32⟩
  | .hbm, ⟨38, _⟩ => ⟨S2x2x32x384x128, .f32⟩
  | .hbm, ⟨39, _⟩ => ⟨S2x2x32x128x128, .f32⟩
  | .hbm, ⟨40, _⟩ => ⟨S2x2x32x128x128, .f32⟩
  | .hbm, ⟨41, _⟩ => ⟨S2x2x32x128x128, .f32⟩
  | .hbm, ⟨42, _⟩ => ⟨S2x2x32x384x128, .f32⟩
  | .hbm, ⟨43, _⟩ => ⟨S2x2x32x384x4x128, .f32⟩
  | .hbm, ⟨44, _⟩ => ⟨S2x2x4x32x128x384, .f32⟩
  | .hbm, ⟨45, _⟩ => ⟨S_, .f32⟩
  | .hbm, ⟨46, _⟩ => ⟨S2x2x4x32x128x384, .f32⟩
  | .hbm, ⟨47, _⟩ => ⟨S2x2x4x32x128x384, .f32⟩
  | .hbm, ⟨48, _⟩ => ⟨S128, .i32⟩
  | .hbm, ⟨49, _⟩ => ⟨S128x1, .i32⟩
  | .hbm, ⟨50, _⟩ => ⟨S384, .i32⟩
  | .hbm, ⟨51, _⟩ => ⟨S1x384, .i32⟩
  | .hbm, ⟨52, _⟩ => ⟨S_, .i32⟩
  | .hbm, ⟨53, _⟩ => ⟨S1x384, .i32⟩
  | .hbm, ⟨54, _⟩ => ⟨S1x384, .i32⟩
  | .hbm, ⟨55, _⟩ => ⟨S128x384, .i32⟩
  | .hbm, ⟨56, _⟩ => ⟨S128x384, .i32⟩
  | .hbm, ⟨57, _⟩ => ⟨S128x384, .i32⟩
  | .hbm, ⟨58, _⟩ => ⟨S128x384, .i32⟩
  | .hbm, ⟨59, _⟩ => ⟨S_, .i32⟩
  | .hbm, ⟨60, _⟩ => ⟨S128x384, .i32⟩
  | .hbm, ⟨61, _⟩ => ⟨S128x384, .i1⟩
  | .hbm, ⟨62, _⟩ => ⟨S32, .i32⟩
  | .hbm, ⟨63, _⟩ => ⟨S32x1, .i32⟩
  | .hbm, ⟨64, _⟩ => ⟨S_, .i32⟩
  | .hbm, ⟨65, _⟩ => ⟨S32x1, .i32⟩
  | .hbm, ⟨66, _⟩ => ⟨S32x1, .i32⟩
  | .hbm, ⟨67, _⟩ => ⟨S_, .i32⟩
  | .hbm, ⟨68, _⟩ => ⟨S32x1, .i32⟩
  | .hbm, ⟨69, _⟩ => ⟨S32x1, .i32⟩
  | .hbm, ⟨70, _⟩ => ⟨S384, .i32⟩
  | .hbm, ⟨71, _⟩ => ⟨S1x384, .i32⟩
  | .hbm, ⟨72, _⟩ => ⟨S32x384, .i32⟩
  | .hbm, ⟨73, _⟩ => ⟨S32x384, .i32⟩
  | .hbm, ⟨74, _⟩ => ⟨S32x384, .i32⟩
  | .hbm, ⟨75, _⟩ => ⟨S_, .i32⟩
  | .hbm, ⟨76, _⟩ => ⟨S32x384, .i32⟩
  | .hbm, ⟨77, _⟩ => ⟨S32x384, .i1⟩
  | .hbm, ⟨78, _⟩ => ⟨S_, .i32⟩
  | .hbm, ⟨79, _⟩ => ⟨S32x384, .i32⟩
  | .hbm, ⟨80, _⟩ => ⟨S32x384, .i1⟩
  | .hbm, ⟨81, _⟩ => ⟨S32x384, .i1⟩
  | .hbm, ⟨82, _⟩ => ⟨S1x128x384, .i1⟩
  | .hbm, ⟨83, _⟩ => ⟨S32x1x384, .i1⟩
  | .hbm, ⟨84, _⟩ => ⟨S32x128x384, .i1⟩
  | .hbm, ⟨85, _⟩ => ⟨S32x128x384, .i1⟩
  | .hbm, ⟨86, _⟩ => ⟨S32x128x384, .i1⟩
  | .hbm, ⟨87, _⟩ => ⟨S_, .f32⟩
  | .hbm, ⟨88, _⟩ => ⟨S_, .f32⟩
  | .hbm, ⟨89, _⟩ => ⟨S2x2x4x32x128x384, .i1⟩
  | .hbm, ⟨90, _⟩ => ⟨S2x2x4x32x128x384, .f32⟩
  | .hbm, ⟨91, _⟩ => ⟨S2x2x4x32x128x384, .f32⟩
  | .hbm, ⟨92, _⟩ => ⟨S1x2x4x1x1x1, .f32⟩
  | .hbm, ⟨93, _⟩ => ⟨S_, .f32⟩
  | .hbm, ⟨94, _⟩ => ⟨S2x2x4x32x128, .f32⟩
  | .hbm, ⟨95, _⟩ => ⟨S2x2x4x32x128x1, .f32⟩
  | .hbm, ⟨96, _⟩ => ⟨S2x2x4x32x128x1, .f32⟩
  | .hbm, ⟨97, _⟩ => ⟨S2x2x4x32x128x1, .f32⟩
  | .hbm, ⟨98, _⟩ => ⟨S2x2x4x32x128x384, .f32⟩
  | .hbm, ⟨99, _⟩ => ⟨S2x2x4x32x128x384, .f32⟩
  | .hbm, ⟨100, _⟩ => ⟨S2x2x4x32x128x384, .f32⟩
  | .hbm, ⟨101, _⟩ => ⟨S_, .f32⟩
  | .hbm, ⟨102, _⟩ => ⟨S2x2x4x32x128, .f32⟩
  | .hbm, ⟨103, _⟩ => ⟨S2x2x4x32x128x1, .f32⟩
  | .hbm, ⟨104, _⟩ => ⟨S2x2x4x32x128x1, .f32⟩
  | .hbm, ⟨105, _⟩ => ⟨S2x2x4x32x128x1, .f32⟩
  | .hbm, ⟨106, _⟩ => ⟨S2x2x4x32x128x1, .f32⟩
  | .hbm, ⟨107, _⟩ => ⟨S2x2x4x32x128x1, .f32⟩
  | .hbm, ⟨108, _⟩ => ⟨S2x2x32x128x4x128, .f32⟩
  | .hbm, ⟨109, _⟩ => ⟨S2x2x4x32x128x128, .f32⟩
  | .hbm, ⟨110, _⟩ => ⟨S2x2x4x32x128x128, .f32⟩
  | .hbm, ⟨111, _⟩ => ⟨S2x2x4x32x128x128, .f32⟩
  | .hbm, ⟨112, _⟩ => ⟨S2x8x4096x128, .f32⟩
  | .hbm, ⟨113, _⟩ => ⟨S2x4096x8x128, .f32⟩
  | .hbm, ⟨114, _⟩ => ⟨S2x4096x1024, .f32⟩
  | .hbm, ⟨115, _⟩ => ⟨S8192x1024, .f32⟩
  | .hbm, ⟨116, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_call0_v0 : Ref sig .tc := ⟨.hbm, 28, rfl⟩
abbrev main_v23 : Ref sig .tc := ⟨.hbm, 29, rfl⟩
abbrev main_v24 : Ref sig .tc := ⟨.hbm, 30, rfl⟩
abbrev main_c_0 : Ref sig .tc := ⟨.hbm, 31, rfl⟩
abbrev main_call1_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_1 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_2 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_3 : Ref sig .tc := ⟨.hbm, 64, rfl⟩
abbrev main_v53 : Ref sig .tc := ⟨.hbm, 65, rfl⟩
abbrev main_v54 : Ref sig .tc := ⟨.hbm, 66, rfl⟩
abbrev main_c_4 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_5 : Ref sig .tc := ⟨.hbm, 75, rfl⟩
abbrev main_v62 : Ref sig .tc := ⟨.hbm, 76, rfl⟩
abbrev main_v63 : Ref sig .tc := ⟨.hbm, 77, rfl⟩
abbrev main_c_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_7 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v72 : Ref sig .tc := ⟨.hbm, 91, rfl⟩
abbrev main_v73 : Ref sig .tc := ⟨.hbm, 92, rfl⟩
abbrev main_cst_8 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩

abbrev nD : Nat := 1
abbrev τ : Topo := Topo.v7x

variable {F : FTy → Type} [FloatOps F]
-- ==== Inproj.lean ====
abbrev S8192x2048 : Shape := ⟨2, ![8192, 2048]⟩
abbrev S2048x10752 : Shape := ⟨2, ![2048, 10752]⟩
abbrev S8192x10752 : Shape := ⟨2, ![8192, 10752]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x10752, .f32⟩
  | .hbm, ⟨2, _⟩ => ⟨S8192x10752, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .f32⟩
  | .local _ .vmem, ⟨3, _⟩ => ⟨S2048x1792, .f32⟩
  | .local _ .vmem, ⟨4, _⟩ => ⟨S1024x1792, .bf16⟩
  | .local _ .vmem, ⟨5, _⟩ => ⟨S1024x1792, .bf16⟩
  | .local _ .vmem, ⟨6, _⟩ => ⟨S2048x1792, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojRefIdeal.lean ====
abbrev S8192x2048 : Shape := ⟨2, ![8192, 2048]⟩
abbrev S2048x10752 : Shape := ⟨2, ![2048, 10752]⟩
abbrev S8192x10752 : Shape := ⟨2, ![8192, 10752]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10752, .f32⟩
  | .hbm, ⟨2, _⟩ => ⟨S8192x2048, .f32⟩
  | .hbm, ⟨3, _⟩ => ⟨S8192x10752, .f32⟩
  | .hbm, ⟨4, _⟩ => ⟨S8192x10752, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ffn.lean ====
abbrev S16x1024x2048 : Shape := ⟨3, ![16, 1024, 2048]⟩
abbrev S16x2048x1024 : Shape := ⟨3, ![16, 2048, 1024]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 5
  | .vmem => 11
  | .smem => 0
  | _ => 0

abbrev bufTy : (tb : Table) → Fin (tcTables nBuf tb) → BufTy
  | .hbm, ⟨0, _⟩ => ⟨S16x1024x2048, .bf16⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S16x1024x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1024x2048, .f32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_18 : BitVec 32 := 0#32
  let v28 : BitVec 1 := Scalar.cmpi .ne v27 c0_i32_18
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S16x1024x2048 : Shape := ⟨3, ![16, 1024, 2048]⟩
abbrev S16x2048x1024 : Shape := ⟨3, ![16, 2048, 1024]⟩
abbrev S16x1024x1024 : Shape := ⟨3, ![16, 1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S16x1024x2048, .f32⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S_, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S16x1024x1024, .f32⟩
  | .hbm, ⟨17, _⟩ => ⟨S16x1024x2048, .f32⟩
  | .hbm, ⟨18, _⟩ => ⟨S16x1024x2048, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Merge.lean ====
abbrev S8192x1024 : Shape := ⟨2, ![8192, 1024]⟩
abbrev S8192x10752 : Shape := ⟨2, ![8192, 10752]⟩
abbrev S1024x2048 : Shape := ⟨2, ![1024, 2048]⟩
abbrev S2048x2048 : Shape := ⟨2, ![2048, 2048]⟩
abbrev S8192x2048 : Shape := ⟨2, ![8192, 2048]⟩
abbrev S1024x1024 : Shape := ⟨2, ![1024, 1024]⟩
abbrev S1024x512 : Shape := ⟨2, ![1024, 512]⟩
abbrev S128x2048 : Shape := ⟨2, ![128, 2048]⟩

abbrev nBuf : Space → Nat
  | .hbm => 8
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x10752, .bf16⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S8192x2048, .bf16⟩
  | .hbm, ⟨7, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S128x2048, .f32⟩
  | .local _ .vmem, ⟨17, _⟩ => ⟨S128x2048, .f32⟩
  | .local _ .vmem, ⟨18, _⟩ => ⟨S1024x1024, .bf16⟩
  | .local _ .vmem, ⟨19, _⟩ => ⟨S1024x1024, .bf16⟩
  | .local _ .vmem, ⟨20, _⟩ => ⟨S128x2048, .bf16⟩
  | .local _ .vmem, ⟨21, _⟩ => ⟨S128x2048, .bf16⟩
  | .local _ .vmem, ⟨22, _⟩ => ⟨S1024x1024, .bf16⟩
  | .local _ .vmem, ⟨23, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c13_i32 : BitVec 32 := 13#32
  let v1 : BitVec 32 := Scalar.addi c13_i32 v0
  let c0_i32 : BitVec 32 := 0#32
  let v2 : BitVec 32 := Scalar.addi v1 c0_i32
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c13_i32 : BitVec 32 := 13#32
  let v1 : BitVec 32 := Scalar.addi c13_i32 v0
  let c1_i32 : BitVec 32 := 1#32
  let v2 : BitVec 32 := Scalar.addi v1 c1_i32
  let c0_i32 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c17_i32 : BitVec 32 := 17#32
  let v1 : BitVec 32 := Scalar.addi c17_i32 v0
  let c0_i32 : BitVec 32 := 0#32
  let v2 : BitVec 32 := Scalar.addi v1 c0_i32
  let c0_i32_0 : BitVec 32 := 0#32
  ![arg1.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c17_i32 : BitVec 32 := 17#32
  let v1 : BitVec 32 := Scalar.addi c17_i32 v0
  let c1_i32 : BitVec 32 := 1#32
  let v2 : BitVec 32 := Scalar.addi v1 c1_i32
  let c0_i32 : BitVec 32 := 0#32
  ![arg1.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S8192x1024 : Shape := ⟨2, ![8192, 1024]⟩
abbrev S8192x10752 : Shape := ⟨2, ![8192, 10752]⟩
abbrev S1024x2048 : Shape := ⟨2, ![1024, 2048]⟩
abbrev S2048x2048 : Shape := ⟨2, ![2048, 2048]⟩
abbrev S8192x256 : Shape := ⟨2, ![8192, 256]⟩
abbrev S8192x2048 : Shape := ⟨2, ![8192, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x10752, .bf16⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S8192x10752, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x256, .f32⟩
  | .hbm, ⟨14, _⟩ => ⟨S8192x256, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x2048, .f32⟩
  | .hbm, ⟨19, _⟩ => ⟨S8192x1024, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | .hbm, ⟨41, _⟩ => ⟨S2048x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Outproj.lean ====
abbrev S8192x2048 : Shape := ⟨2, ![8192, 2048]⟩
abbrev S2048x2048 : Shape := ⟨2, ![2048, 2048]⟩
abbrev S2x6x2048 : Shape := ⟨3, ![2, 6, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8192x128 : Shape := ⟨2, ![8192, 128]⟩
abbrev S512x2048 : Shape := ⟨2, ![512, 2048]⟩
abbrev S1x6x2048 : Shape := ⟨3, ![1, 6, 2048]⟩
abbrev S512x128 : Shape := ⟨2, ![512, 128]⟩
abbrev S2x512x2048 : Shape := ⟨3, ![2, 512, 2048]⟩
abbrev S1x512x2048 : Shape := ⟨3, ![1, 512, 2048]⟩
abbrev S2048x256 : Shape := ⟨2, ![2048, 256]⟩
abbrev S1x1x2048 : Shape := ⟨3, ![1, 1, 2048]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩
abbrev S256x256 : Shape := ⟨2, ![256, 256]⟩
abbrev S256x128 : Shape := ⟨2, ![256, 128]⟩

abbrev nBuf : Space → Nat
  | .hbm => 15
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x6x2048, .f32⟩
  | .hbm, ⟨4, _⟩ => ⟨S2048, .f32⟩
  | .hbm, ⟨5, _⟩ => ⟨S2048, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .hbm, ⟨14, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x2048, .f32⟩
  | .local _ .vmem, ⟨8, _⟩ => ⟨S1x2048, .f32⟩
  | .local _ .vmem, ⟨9, _⟩ => ⟨S2048x128, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x128, .f32⟩
  | .local _ .vmem, ⟨15, _⟩ => ⟨S512x128, .f32⟩
  | .local _ .vmem, ⟨16, _⟩ => ⟨S2x512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutprojRefIdeal.lean ====
abbrev S8192x2048 : Shape := ⟨2, ![8192, 2048]⟩
abbrev S2048x2048 : Shape := ⟨2, ![2048, 2048]⟩
abbrev S2x6x2048 : Shape := ⟨3, ![2, 6, 2048]⟩
abbrev S2048 : Shape := ⟨1, ![2048]⟩
abbrev S2048x16 : Shape := ⟨2, ![2048, 16]⟩
abbrev S2x1x2048 : Shape := ⟨3, ![2, 1, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x16 : Shape := ⟨3, ![2, 4096, 16]⟩
abbrev S2x4096x128 : Shape := ⟨3, ![2, 4096, 128]⟩
abbrev S8192x128 : Shape := ⟨2, ![8192, 128]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2x6x2048, .f32⟩
  | .hbm, ⟨4, _⟩ => ⟨S2048, .f32⟩
  | .hbm, ⟨5, _⟩ => ⟨S2048, .f32⟩
  | .hbm, ⟨6, _⟩ => ⟨S2048x16, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S8192x2048, .f32⟩
  | .hbm, ⟨11, _⟩ => ⟨S2048x2048, .f32⟩
  | .hbm, ⟨12, _⟩ => ⟨S8192x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S1x1x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x4096, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x1, .f32⟩
  | .hbm, ⟨45, _⟩ => ⟨S2x4096x2048, .f32⟩
  | .hbm, ⟨46, _⟩ => ⟨S2x4096x2048, .f32⟩
  | .hbm, ⟨47, _⟩ => ⟨S1x1x2048, .f32⟩
  | .hbm, ⟨48, _⟩ => ⟨S2x4096x2048, .f32⟩
  | .hbm, ⟨49, _⟩ => ⟨S2x4096x2048, .f32⟩
  | .hbm, ⟨50, _⟩ => ⟨S_, .f32⟩
  | .hbm, ⟨51, _⟩ => ⟨S2x1x2048, .f32⟩
  | .hbm, ⟨52, _⟩ => ⟨S2x1x2048, .f32⟩
  | .hbm, ⟨53, _⟩ => ⟨S2x4096x2048, .f32⟩
  | .hbm, ⟨54, _⟩ => ⟨S2x4096x2048, .f32⟩
  | .hbm, ⟨55, _⟩ => ⟨S2x4096x2048, .f32⟩
  | .hbm, ⟨56, _⟩ => ⟨S2x4096x2048, .f32⟩
  | .hbm, ⟨57, _⟩ => ⟨S2x4096x16, .f32⟩
  | .hbm, ⟨58, _⟩ => ⟨S_, .f32⟩
  | .hbm, ⟨59, _⟩ => ⟨S_, .f32⟩
  | .hbm, ⟨60, _⟩ => ⟨S2x4096x128, .f32⟩
  | .hbm, ⟨61, _⟩ => ⟨S_, .f32⟩
  | .hbm, ⟨62, _⟩ => ⟨S2x4096, .f32⟩
  | .hbm, ⟨63, _⟩ => ⟨S_, .f32⟩
  | .hbm, ⟨64, _⟩ => ⟨S2x4096, .f32⟩
  | .hbm, ⟨65, _⟩ => ⟨S2x4096, .f32⟩
  | .hbm, ⟨66, _⟩ => ⟨S2x4096x1, .f32⟩
  | .hbm, ⟨67, _⟩ => ⟨S2x4096x128, .f32⟩
  | .hbm, ⟨68, _⟩ => ⟨S2x4096x128, .f32⟩
  | .hbm, ⟨69, _⟩ => ⟨S2x4096x128, .f32⟩
  | .hbm, ⟨70, _⟩ => ⟨S_, .f32⟩
  | .hbm, ⟨71, _⟩ => ⟨S2x4096, .f32⟩
  | .hbm, ⟨72, _⟩ => ⟨S2x4096x1, .f32⟩
  | .hbm, ⟨73, _⟩ => ⟨S2x4096x128, .f32⟩
  | .hbm, ⟨74, _⟩ => ⟨S2x4096x128, .f32⟩
  | .hbm, ⟨75, _⟩ => ⟨S8192x2048, .f32⟩
  | .hbm, ⟨76, _⟩ => ⟨S8192x2048, .f32⟩
  | .hbm, ⟨77, _⟩ => ⟨S8192x2048, .bf16⟩
  | .hbm, ⟨78, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_call0_v0 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Ada.lean ====
abbrev S2x2048 : Shape := ⟨2, ![2, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x12288, .f32⟩
  | .hbm, ⟨7, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S2x2048 : Shape := ⟨2, ![2, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S8x12288 : Shape := ⟨2, ![8, 12288]⟩
abbrev S1x12288 : Shape := ⟨2, ![1, 12288]⟩

abbrev nBuf : Space → Nat
  | .hbm => 19
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x12288, .f32⟩
  | .hbm, ⟨16, _⟩ => ⟨S1x12288, .f32⟩
  | .hbm, ⟨17, _⟩ => ⟨S8x12288, .f32⟩
  | .hbm, ⟨18, _⟩ => ⟨S8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_call1_v0 : Ref sig .tc := ⟨.hbm, 6, rfl⟩
abbrev main_call1_v1 : Ref sig .tc := ⟨.hbm, 7, rfl⟩
abbrev main_call1_cst : Ref sig .tc := ⟨.hbm, 8, rfl⟩
abbrev main_call1_v2 : Ref sig .tc := ⟨.hbm, 9, rfl⟩
abbrev main_call1_v3 : Ref sig .tc := ⟨.hbm, 10, rfl⟩
abbrev main_call1_cst_0 : Ref sig .tc := ⟨.hbm, 11, rfl⟩
abbrev main_call1_v4 : Ref sig .tc := ⟨.hbm, 12, rfl⟩
abbrev main_call1_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Prenorm.lean ====
abbrev S8192x2048 : Shape := ⟨2, ![8192, 2048]⟩
abbrev S2048 : Shape := ⟨1, ![2048]⟩
abbrev S2x6x2048 : Shape := ⟨3, ![2, 6, 2048]⟩
abbrev S1x2048 : Shape := ⟨2, ![1, 2048]⟩
abbrev S1024x2048 : Shape := ⟨2, ![1024, 2048]⟩
abbrev S1x6x2048 : Shape := ⟨3, ![1, 6, 2048]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x6x2048, .f32⟩
  | .hbm, ⟨3, _⟩ => ⟨S1x2048, .f32⟩
  | .hbm, ⟨4, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1024x2048, .bf16⟩
  | .local _ .vmem, ⟨6, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrenormRefIdeal.lean ====
abbrev S8192x2048 : Shape := ⟨2, ![8192, 2048]⟩
abbrev S2048 : Shape := ⟨1, ![2048]⟩
abbrev S2x6x2048 : Shape := ⟨3, ![2, 6, 2048]⟩
abbrev S2x1x2048 : Shape := ⟨3, ![2, 1, 2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x6x2048, .f32⟩
  | .hbm, ⟨3, _⟩ => ⟨S2x1x2048, .f32⟩
  | .hbm, ⟨4, _⟩ => ⟨S2x1x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S8192x2048, .f32⟩
  | .hbm, ⟨30, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Rope.lean ====
abbrev S8192x10752 : Shape := ⟨2, ![8192, 10752]⟩
abbrev S2x4096 : Shape := ⟨2, ![2, 4096]⟩
abbrev S8192x1 : Shape := ⟨2, ![8192, 1]⟩
abbrev S64 : Shape := ⟨1, ![64]⟩
abbrev S_ : Shape := ⟨0, ![]⟩
abbrev S128 : Shape := ⟨1, ![128]⟩
abbrev S1x128 : Shape := ⟨2, ![1, 128]⟩
abbrev S8192x1024 : Shape := ⟨2, ![8192, 1024]⟩
abbrev S8192x256 : Shape := ⟨2, ![8192, 256]⟩
abbrev S512x1024 : Shape := ⟨2, ![512, 1024]⟩
abbrev S512x256 : Shape := ⟨2, ![512, 256]⟩
abbrev S512x1 : Shape := ⟨2, ![512, 1]⟩
abbrev S512x128 : Shape := ⟨2, ![512, 128]⟩

abbrev nBuf : Space → Nat
  | .hbm => 22
  | .vmem => 12
  | .smem => 0
  | _ => 0

abbrev bufTy : (tb : Table) → Fin (tcTables nBuf tb) → BufTy
  | .hbm, ⟨0, _⟩ => ⟨S8192x10752, .bf16⟩
  | .hbm, ⟨1, _⟩ => ⟨S2x4096, .i32⟩
  | .hbm, ⟨2, _⟩ => ⟨S8192x1, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S128, .f32⟩
  | .hbm, ⟨19, _⟩ => ⟨S1x128, .f32⟩
  | .hbm, ⟨20, _⟩ => ⟨S8192x1024, .bf16⟩
  | .hbm, ⟨21, _⟩ => ⟨S8192x256, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S512x1, .i32⟩
  | .local _ .vmem, ⟨5, _⟩ => ⟨S512x1, .i32⟩
  | .local _ .vmem, ⟨6, _⟩ => ⟨S1x128, .f32⟩
  | .local _ .vmem, ⟨7, _⟩ => ⟨S1x128, .f32⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RopeRefIdeal.lean ====
abbrev S8192x10752 : Shape := ⟨2, ![8192, 10752]⟩
abbrev S2x4096 : Shape := ⟨2, ![2, 4096]⟩
abbrev S2x4096x10752 : Shape := ⟨3, ![2, 4096, 10752]⟩
abbrev S2x4096x1024 : Shape := ⟨3, ![2, 4096, 1024]⟩
abbrev S2x4096x256 : Shape := ⟨3, ![2, 4096, 256]⟩
abbrev S2x4096x2048 : Shape := ⟨3, ![2, 4096, 2048]⟩
abbrev S2x4096x8x128 : Shape := ⟨4, ![2, 4096, 8, 128]⟩
abbrev S2x8x4096x128 : Shape := ⟨4, ![2, 8, 4096, 128]⟩
abbrev S64 : Shape := ⟨1, ![64]⟩
abbrev S_ : Shape := ⟨0, ![]⟩
abbrev S2x1x4096x1 : Shape := ⟨4, ![2, 1, 4096, 1]⟩
abbrev S1x1x1x64 : Shape := ⟨4, ![1, 1, 1, 64]⟩
abbrev S2x1x4096x64 : Shape := ⟨4, ![2, 1, 4096, 64]⟩
abbrev S2x8x4096x64 : Shape := ⟨4, ![2, 8, 4096, 64]⟩
abbrev S2x4096x2x128 : Shape := ⟨4, ![2, 4096, 2, 128]⟩
abbrev S2x2x4096x128 : Shape := ⟨4, ![2, 2, 4096, 128]⟩
abbrev S2x2x4096x64 : Shape := ⟨4, ![2, 2, 4096, 64]⟩
abbrev S8192x1024 : Shape := ⟨2, ![8192, 1024]⟩
abbrev S8192x256 : Shape := ⟨2, ![8192, 256]⟩

abbrev nBuf : Space → Nat
  | .hbm => 82
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S2x4096, .i32⟩
  | .hbm, ⟨2, _⟩ => ⟨S8192x10752, .f32⟩
  | .hbm, ⟨3, _⟩ => ⟨S2x4096x10752, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x256, .f32⟩
  | .hbm, ⟨11, _⟩ => ⟨S2x4096x256, .f32⟩
  | .hbm, ⟨12, _⟩ => ⟨S2x4096x2048, .f32⟩
  | .hbm, ⟨13, _⟩ => ⟨S2x4096x2048, .f32⟩
  | .hbm, ⟨14, _⟩ => ⟨S2x4096x8x128, .f32⟩
  | .hbm, ⟨15, _⟩ => ⟨S2x8x4096x128, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S2x1x4096x1, .i32⟩
  | .hbm, ⟨25, _⟩ => ⟨S2x1x4096x1, .f32⟩
  | .hbm, ⟨26, _⟩ => ⟨S1x1x1x64, .f32⟩
  | .hbm, ⟨27, _⟩ => ⟨S2x1x4096x64, .f32⟩
  | .hbm, ⟨28, _⟩ => ⟨S2x1x4096x64, .f32⟩
  | .hbm, ⟨29, _⟩ => ⟨S2x1x4096x64, .f32⟩
  | .hbm, ⟨30, _⟩ => ⟨S2x1x4096x64, .f32⟩
  | .hbm, ⟨31, _⟩ => ⟨S2x1x4096x64, .f32⟩
  | .hbm, ⟨32, _⟩ => ⟨S2x8x4096x64, .f32⟩
  | .hbm, ⟨33, _⟩ => ⟨S2x8x4096x64, .f32⟩
  | .hbm, ⟨34, _⟩ => ⟨S2x8x4096x64, .f32⟩
  | .hbm, ⟨35, _⟩ => ⟨S2x8x4096x64, .f32⟩
  | .hbm, ⟨36, _⟩ => ⟨S2x8x4096x64, .f32⟩
  | .hbm, ⟨37, _⟩ => ⟨S2x8x4096x64, .f32⟩
  | .hbm, ⟨38, _⟩ => ⟨S2x8x4096x64, .f32⟩
  | .hbm, ⟨39, _⟩ => ⟨S2x8x4096x64, .f32⟩
  | .hbm, ⟨40, _⟩ => ⟨S2x8x4096x64, .f32⟩
  | .hbm, ⟨41, _⟩ => ⟨S2x8x4096x64, .f32⟩
  | .hbm, ⟨42, _⟩ => ⟨S2x8x4096x64, .f32⟩
  | .hbm, ⟨43, _⟩ => ⟨S2x8x4096x64, .f32⟩
  | .hbm, ⟨44, _⟩ => ⟨S2x8x4096x128, .f32⟩
  | .hbm, ⟨45, _⟩ => ⟨S2x4096x2x128, .f32⟩
  | .hbm, ⟨46, _⟩ => ⟨S2x2x4096x128, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S2x1x4096x1, .i32⟩
  | .hbm, ⟨56, _⟩ => ⟨S2x1x4096x1, .f32⟩
  | .hbm, ⟨57, _⟩ => ⟨S1x1x1x64, .f32⟩
  | .hbm, ⟨58, _⟩ => ⟨S2x1x4096x64, .f32⟩
  | .hbm, ⟨59, _⟩ => ⟨S2x1x4096x64, .f32⟩
  | .hbm, ⟨60, _⟩ => ⟨S2x1x4096x64, .f32⟩
  | .hbm, ⟨61, _⟩ => ⟨S2x1x4096x64, .f32⟩
  | .hbm, ⟨62, _⟩ => ⟨S2x1x4096x64, .f32⟩
  | .hbm, ⟨63, _⟩ => ⟨S2x2x4096x64, .f32⟩
  | .hbm, ⟨64, _⟩ => ⟨S2x2x4096x64, .f32⟩
  | .hbm, ⟨65, _⟩ => ⟨S2x2x4096x64, .f32⟩
  | .hbm, ⟨66, _⟩ => ⟨S2x2x4096x64, .f32⟩
  | .hbm, ⟨67, _⟩ => ⟨S2x2x4096x64, .f32⟩
  | .hbm, ⟨68, _⟩ => ⟨S2x2x4096x64, .f32⟩
  | .hbm, ⟨69, _⟩ => ⟨S2x2x4096x64, .f32⟩
  | .hbm, ⟨70, _⟩ => ⟨S2x2x4096x64, .f32⟩
  | .hbm, ⟨71, _⟩ => ⟨S2x2x4096x64, .f32⟩
  | .hbm, ⟨72, _⟩ => ⟨S2x2x4096x64, .f32⟩
  | .hbm, ⟨73, _⟩ => ⟨S2x2x4096x64, .f32⟩
  | .hbm, ⟨74, _⟩ => ⟨S2x2x4096x64, .f32⟩
  | .hbm, ⟨75, _⟩ => ⟨S2x2x4096x128, .f32⟩
  | .hbm, ⟨76, _⟩ => ⟨S2x4096x8x128, .f32⟩
  | .hbm, ⟨77, _⟩ => ⟨S8192x1024, .f32⟩
  | .hbm, ⟨78, _⟩ => ⟨S8192x1024, .bf16⟩
  | .hbm, ⟨79, _⟩ => ⟨S2x4096x2x128, .f32⟩
  | .hbm, ⟨80, _⟩ => ⟨S8192x256, .f32⟩
  | .hbm, ⟨81, _⟩ => ⟨S8192x256, .bf16⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_cst_1 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩

abbrev nD : Nat := 1
abbrev τ : Topo := Topo.v7x

variable {F : FTy → Type} [FloatOps F]
-- ==== Route.lean ====
abbrev S8192x128 : Shape := ⟨2, ![8192, 128]⟩
abbrev S32x4096 : Shape := ⟨2, ![32, 4096]⟩
abbrev S32x128 : Shape := ⟨2, ![32, 128]⟩
abbrev S128x128 : Shape := ⟨2, ![128, 128]⟩
abbrev S16x128 : Shape := ⟨2, ![16, 128]⟩
abbrev S32x1 : Shape := ⟨2, ![32, 1]⟩
abbrev S32 : Shape := ⟨1, ![32]⟩
abbrev S112x128 : Shape := ⟨2, ![112, 128]⟩

abbrev nBuf : Space → Nat
  | .hbm => 4
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S32x4096, .f32⟩
  | .hbm, ⟨2, _⟩ => ⟨S8192x128, .f32⟩
  | .hbm, ⟨3, _⟩ => ⟨S32x128, .i32⟩
  | .local _ .vmem, ⟨0, _⟩ => ⟨S8192x128, .f32⟩
  | .local _ .vmem, ⟨1, _⟩ => ⟨S32x4096, .f32⟩
  | .local _ .vmem, ⟨2, _⟩ => ⟨S8192x128, .f32⟩
  | .local _ .vmem, ⟨3, _⟩ => ⟨S32x128, .i32⟩
  | .local _ .vmem, ⟨4, _⟩ => ⟨S32x4096, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c76_i32 : BitVec 32 := 76#32
  let v386 : BitVec 32 := Scalar.addi c0_i32 c76_i32
  let c1_i32 : BitVec 32 := 1#32
  ⟨c0_i32, v386, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Proof.Frames.lean ====
/-
  The frames of the programs: each kernel's is the generated one, each reference's is read off its run.
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Inproj.Frame
public import proofs.«01_k».proof.Proof.Gen.InprojIdeal.Frame
public import proofs.«01_k».proof.Proof.Gen.InprojRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.Outproj.Frame
public import proofs.«01_k».proof.Proof.Gen.OutprojIdeal.Frame
public import proofs.«01_k».proof.Proof.Gen.OutprojRefIdeal.Run
public import proofs.«01_k».proof.Proof.Gen.Ada.Frame
public import proofs.«01_k».proof.Proof.Gen.AdaIdeal.Frame
public import proofs.«01_k».proof.Proof.Gen.AdaRefIdeal.Run
public import proofs.«01_k».proof.Proof.Gen.Prenorm.Frame
public import proofs.«01_k».proof.Proof.Gen.PrenormIdeal.Frame
public import proofs.«01_k».proof.Proof.Gen.PrenormRefIdeal.Run
public import proofs.«01_k».proof.Proof.Gen.Rope.Frame
public import proofs.«01_k».proof.Proof.Gen.RopeIdeal.Frame
public import proofs.«01_k».proof.Proof.Gen.RopeRefIdeal.Run
public import proofs.«01_k».proof.Proof.Gen.Route.Frame
public import proofs.«01_k».proof.Proof.Gen.RouteIdeal.Frame
public import Idealize.ShloMosaic.Lib.Claim

@[expose] public section

noncomputable section

namespace Cert.Proof.Frames

open Idealize.ShloMosaic Idealize.ShloMosaic.TcCoe Idealize.SL.Sem

theorem attn : Cert.quiescent_Attn := fun m ρ _ => Cert.Attn.Gen.frame m ρ

theorem attnIdeal : Cert.quiescent_AttnIdeal := fun m ρ _ => Cert.AttnIdeal.Gen.frame m ρ

theorem attnRefIdeal : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem inproj : Cert.quiescent_Inproj := fun m ρ _ => Cert.Inproj.Gen.frame m ρ

theorem inprojIdeal : Cert.quiescent_InprojIdeal := fun m ρ _ => Cert.InprojIdeal.Gen.frame m ρ

theorem inprojRefIdeal : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem ffn : Cert.quiescent_Ffn := fun m ρ _ => Cert.Ffn.Gen.frame m ρ

theorem ffnIdeal : Cert.quiescent_FfnIdeal := fun m ρ _ => Cert.FfnIdeal.Gen.frame m ρ

theorem ffnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem merge : Cert.quiescent_Merge := fun m ρ _ => Cert.Merge.Gen.frame m ρ

theorem mergeIdeal : Cert.quiescent_MergeIdeal := fun m ρ _ => Cert.MergeIdeal.Gen.frame m ρ

theorem mergeRefIdeal : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

theorem outproj : Cert.quiescent_Outproj := fun m ρ _ => Cert.Outproj.Gen.frame m ρ

theorem outprojIdeal : Cert.quiescent_OutprojIdeal := fun m ρ _ => Cert.OutprojIdeal.Gen.frame m ρ

theorem outprojRefIdeal : Cert.quiescent_OutprojRefIdeal := fun m ρ _ =>
  (θ_run Cert.OutprojRefIdeal.defs _ _).mono (fun r h => ⟨fun c => (h c).2.2.2, sem_eq_zero_of_no_sems (by decide) r.2⟩)
    (Cert.OutprojRefIdeal.Value.run (F := Ideal) m ρ)

theorem ada : Cert.quiescent_Ada := fun m ρ _ => Cert.Ada.Gen.frame m ρ

theorem adaIdeal : Cert.quiescent_AdaIdeal := fun m ρ _ => Cert.AdaIdeal.Gen.frame m ρ

theorem adaRefIdeal : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem prenorm : Cert.quiescent_Prenorm := fun m ρ _ => Cert.Prenorm.Gen.frame m ρ

theorem prenormIdeal : Cert.quiescent_PrenormIdeal := fun m ρ _ => Cert.PrenormIdeal.Gen.frame m ρ

theorem prenormRefIdeal : Cert.quiescent_PrenormRefIdeal := fun m ρ _ =>
  (θ_run Cert.PrenormRefIdeal.defs _ _).mono (fun r h => ⟨fun c => (h c).2, sem_eq_zero_of_no_sems (by decide) r.2⟩)
    (Cert.PrenormRefIdeal.Value.run (F := Ideal) m ρ)

theorem rope : Cert.quiescent_Rope := fun m ρ _ => Cert.Rope.Gen.frame m ρ

theorem ropeIdeal : Cert.quiescent_RopeIdeal := fun m ρ _ => Cert.RopeIdeal.Gen.frame m ρ

theorem ropeRefIdeal : Cert.quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

theorem route : Cert.quiescent_Route := fun m ρ _ => Cert.Route.Gen.frame m ρ

theorem routeIdeal : Cert.quiescent_RouteIdeal := fun m ρ _ => Cert.RouteIdeal.Gen.frame m ρ

/-- The precondition's one side condition. -/
theorem routerFacts : Cert.Pre_router_finite.Facts := ⟨by decide⟩

/-- The frames hold of every arguments, so of those that meet the precondition. -/
theorem outprojIdeal_pre [Cert.Pre_router_finite.Facts] : Cert.quiescent_OutprojIdeal_pre_router_finite := fun m ρ _ => outprojIdeal m ρ trivial

theorem outprojRefIdeal_pre [Cert.Pre_router_finite.Facts] : Cert.quiescent_OutprojRefIdeal_pre_router_finite := fun m ρ _ => outprojRefIdeal m ρ trivial

theorem attn_preserves : Cert.preserves_Attn_AttnIdeal :=
  ⟨IdealRules.named_const.statement Cert.AttnIdeal.κ "scale2" .f32 0x3E0293EE#32 (((11863283 * 134217728⁻¹) * (Real.log 2)⁻¹ : ℝ) : EReal) rfl,
    IdealRules.named_const.statement Cert.AttnIdeal.κ "log2e" .f32 0x3FB8AA3B#32 (((Real.log 2)⁻¹ : ℝ) : EReal) rfl⟩

end Cert.Proof.Frames

end
-- ==== Proof.AttnMath.lean ====
/-
  One row of attention with a sink, over the extended reals: the row's scores, their maximum with the sink's score, the
  weights, and the weighted mean of the values. Scaling every score by 1/ln 2 and raising 2 instead of e gives the same,
  and a value whose score is minus infinity does not count.
-/
module

public import Idealize.ShloMosaic.PureOps.Ideal
public import Idealize.ShloMosaic.PureOps.Ideal.Laws
public import Idealize.ShloMosaic.Lib.Pointwise
public import Idealize.ShloMosaic.Lib.Tactic

@[expose] public section

noncomputable section

namespace Cert.Proof.AttnMath

open Idealize.ShloMosaic

/-- One row's output entry from its scores, the sink's score and a column of values, with weights by `e`. -/
def attend {n : ℕ} (e : EReal → EReal) (s : Fin n → EReal) (sk : EReal) (v : Fin n → EReal) : EReal :=
  Ideal.div (∑ j, e (s j - max (Finset.univ.fold max ⊥ s) sk) * v j)
    ((∑ j, e (s j - max (Finset.univ.fold max ⊥ s) sk)) + e (sk - max (Finset.univ.fold max ⊥ s) sk))

/-- 1/ln 2. -/
def lg : EReal := (((Real.log 2)⁻¹ : ℝ) : EReal)

theorem log2_pos : 0 < Real.log 2 := Real.log_pos (by norm_num)

theorem lg_nonneg : 0 ≤ lg := EReal.coe_nonneg.mpr (inv_nonneg.mpr log2_pos.le)

theorem lg_ne_top : lg ≠ ⊤ := EReal.coe_ne_top _

theorem lg_bot : lg * ⊥ = ⊥ := EReal.coe_mul_bot_of_pos (inv_pos.mpr log2_pos)

theorem lg_top : lg * ⊤ = ⊤ := EReal.coe_mul_top_of_pos (inv_pos.mpr log2_pos)

/-- 2 to the power x/ln 2 is e to the power x. -/
theorem exp2_lg (x : EReal) : Ideal.exp2 (lg * x) = Ideal.exp x := by
  induction x with
  | bot => rw [lg_bot]; rfl
  | top => rw [lg_top]; rfl
  | coe r =>
    show Ideal.exp2 ((((Real.log 2)⁻¹ : ℝ) : EReal) * (r : EReal)) = _
    rw [← EReal.coe_mul]
    show ((Real.rpow 2 ((Real.log 2)⁻¹ * r) : ℝ) : EReal) = ((Real.exp r : ℝ) : EReal)
    congr 1
    show (2 : ℝ) ^ ((Real.log 2)⁻¹ * r) = _
    rw [Real.rpow_def_of_pos (by norm_num), ← mul_assoc, mul_inv_cancel₀ log2_pos.ne', one_mul]

theorem lg_max (a b : EReal) : lg * max a b = max (lg * a) (lg * b) :=
  (monotone_id.const_mul lg_nonneg).map_max

theorem lg_fold {n : ℕ} (s : Fin n → EReal) (S : Finset (Fin n)) :
    S.fold max ⊥ (fun j => lg * s j) = lg * S.fold max ⊥ s := by
  induction S using Finset.induction_on with
  | empty => simp [lg_bot]
  | insert a S h ih => rw [Finset.fold_insert h, Finset.fold_insert h, ih, lg_max]

theorem lg_sub (a b : EReal) : lg * (a - b) = lg * a - lg * b := by
  rw [sub_eq_add_neg, EReal.left_distrib_of_nonneg_of_ne_top lg_nonneg lg_ne_top, sub_eq_add_neg, mul_neg]

theorem attend_scaled {n : ℕ} (s : Fin n → EReal) (sk : EReal) (v : Fin n → EReal) :
    attend Ideal.exp2 (fun j => lg * s j) (lg * sk) v = attend Ideal.exp s sk v := by
  unfold attend
  rw [lg_fold, ← lg_max]
  simp only [← lg_sub, exp2_lg]

/-- A value whose score is minus infinity may be any. -/
theorem attend_congr {n : ℕ} (s : Fin n → EReal) (sk : EReal) (v w : Fin n → EReal) (h : ∀ j, s j = ⊥ ∨ v j = w j) :
    attend Ideal.exp s sk v = attend Ideal.exp s sk w := by
  unfold attend
  congr 1
  refine Finset.sum_congr rfl fun j _ => ?_
  rcases h j with h | h
  · rw [h, EReal.bot_sub, Ideal.exp_bot, zero_mul, zero_mul]
  · rw [h]

/-- Under a mask only the scores and values it lets through matter. -/
theorem attend_masked {n : ℕ} (p : Fin n → Prop) [DecidablePred p] (s t : Fin n → EReal) (sk : EReal) (v w : Fin n → EReal)
    (hs : ∀ j, p j → s j = t j) (hv : ∀ j, p j → v j = w j) :
    attend Ideal.exp (fun j => if p j then s j else ⊥) sk v = attend Ideal.exp (fun j => if p j then t j else ⊥) sk w := by
  have e : (fun j => if p j then s j else ⊥) = fun j => if p j then t j else (⊥ : EReal) := funext fun j => by
    split
    · rename_i h
      exact hs j h
    · rfl
  rw [e]
  refine attend_congr _ _ _ _ fun j => ?_
  by_cases h : p j
  · exact Or.inr (hv j h)
  · exact Or.inl (if_neg h)

/-- A finite factor that is not negative moves out of a sum. -/
theorem mul_sum {n : ℕ} (c : EReal) (h0 : 0 ≤ c) (ht : c ≠ ⊤) (f : Fin n → EReal) (S : Finset (Fin n)) :
    ∑ j ∈ S, c * f j = c * ∑ j ∈ S, f j := by
  induction S using Finset.induction_on with
  | empty => simp
  | insert a S h ih => rw [Finset.sum_insert h, Finset.sum_insert h, ih, EReal.left_distrib_of_nonneg_of_ne_top h0 ht]

/-- The factor on the scores, 11863283 / 2^27. -/
def sc : EReal := ((11863283 * (134217728 : ℝ)⁻¹ : ℝ) : EReal)

theorem sc_nonneg : 0 ≤ sc := EReal.coe_nonneg.mpr (by positivity)

theorem sc_ne_top : sc ≠ ⊤ := EReal.coe_ne_top _

/-- Scaling the queries by both factors scales the scores. -/
theorem score_scaled {n : ℕ} (q k : Fin n → EReal) :
    (∑ d, (q d * (sc * lg)) * k d) = lg * ((∑ d, q d * k d) * sc) := by
  rw [mul_comm (∑ d, q d * k d) sc, ← mul_sum sc sc_nonneg sc_ne_top, ← mul_sum lg lg_nonneg lg_ne_top]
  refine Finset.sum_congr rfl fun d _ => ?_
  ac_rfl

theorem bot_bits : (Ideal.ofBits .f32 0xFF800000#32 : EReal) = ⊥ := by
  simp [Ideal.ofBits, Ideal.ieee]

theorem sc_bits : (Ideal.ofBits .f32 0x3DB504F3#32 : EReal) = sc := by
  simp [Ideal.ofBits, Ideal.ieee, sc, -EReal.coe_mul]; norm_num

end Cert.Proof.AttnMath

end
-- ==== Proof.AttnKernel.lean ====
/-
  The window attention, the kernel's side: each grid point's output block is eight heads' columns, four for each of the
  two key heads; a head's row is attention with a sink over the 384 keys of three neighbouring blocks.
-/
module

public import proofs.«01_k».proof.Defs
public import proofs.«01_k».proof.Proof.AttnMath
public import proofs.«01_k».proof.Proof.Gen.AttnIdeal.Value
public import Idealize.ShloMosaic.Lib.Pipeline.Value
public import Idealize.ShloMosaic.Lib.Pointwise
public import Idealize.ShloMosaic.Lib.Claim
public import Idealize.ShloMosaic.Lib.Tactic

@[expose] public section

set_option maxRecDepth 16384

noncomputable section

namespace Cert.AttnIdeal.Val

open Cert.Proof Cert.AttnIdeal Cert.AttnIdeal.Gen Cert.AttnIdeal.Value Idealize.ShloMosaic Idealize.ShloMosaic.TcCoe Idealize.SL.Sem
open Idealize.ShloMosaic.Pipeline (Dat)

section
variable {F : FTy → Type} [FloatOps F] [Named F]

/-- Which keys a row sees: the band, and at the ends of the sequence only the blocks that are there. -/
def mask (i : grid0.Coords) : IVec S512x384 1 :=
  k0_pay8 (k0_pay6 i) k0_pay7 (Scalar.cmpi .slt (BitVec.ofNat 32 (i 1).val) 31#32)

/-- The four heads of one key head, stacked: their rows' outputs from the sinks, the keys, the values and the queries. -/
def core (i : grid0.Coords) (s0 s1 s2 s3 : F .f32) (kp kc kn vp vc vn q0 q1 q2 q3 : Vec F S128x128 .bf16) : FVec F S512x128 .bf16 :=
  k0_pay15 (k0_pay11 vp vc vn) (k0_pay12 k0_pay9 s0 s1 s2 s3) (k0_pay13 (mask i) (k0_pay10 kp kc kn) q0 q1 q2 q3)
    (k0_pay14 (mask i) k0_pay9 (k0_pay10 kp kc kn) q0 q1 q2 q3 s0 s1 s2 s3)

/-- The stacked heads of key head 0, from the point's blocks. -/
def core0 (i : grid0.Coords) (x0 : Vec F S8 .f32) (x1 : Vec F S128x1024 .bf16) (x2 x3 x4 x5 x6 x7 : Vec F S128x256 .bf16) : FVec F S512x128 .bf16 :=
  core i (View.ld x0 (Rect.unit (s := S8) ![0] S1.size inb_S8_S1_0) (Shape.Idx.first (Nat.lt_of_lt_of_eq Nat.one_pos numel1_S1.symm))) (View.ld x0 (Rect.unit (s := S8) ![1] S1.size inb_S8_S1_1) (Shape.Idx.first (Nat.lt_of_lt_of_eq Nat.one_pos numel1_S1.symm))) (View.ld x0 (Rect.unit (s := S8) ![2] S1.size inb_S8_S1_2) (Shape.Idx.first (Nat.lt_of_lt_of_eq Nat.one_pos numel1_S1.symm))) (View.ld x0 (Rect.unit (s := S8) ![3] S1.size inb_S8_S1_3) (Shape.Idx.first (Nat.lt_of_lt_of_eq Nat.one_pos numel1_S1.symm)))
    (View.ld x2 (Rect.unit (s := S128x256) ![0, 0] S128x128.size inb_S128x256_S128x128_0_0)) (View.ld x3 (Rect.unit (s := S128x256) ![0, 0] S128x128.size inb_S128x256_S128x128_0_0)) (View.ld x4 (Rect.unit (s := S128x256) ![0, 0] S128x128.size inb_S128x256_S128x128_0_0)) (View.ld x5 (Rect.unit (s := S128x256) ![0, 0] S128x128.size inb_S128x256_S128x128_0_0)) (View.ld x6 (Rect.unit (s := S128x256) ![0, 0] S128x128.size inb_S128x256_S128x128_0_0)) (View.ld x7 (Rect.unit (s := S128x256) ![0, 0] S128x128.size inb_S128x256_S128x128_0_0))
    (View.ld x1 (Rect.unit (s := S128x1024) ![0, 0] S128x128.size inb_S128x1024_S128x128_0_0)) (View.ld x1 (Rect.unit (s := S128x1024) ![0, 128] S128x128.size inb_S128x1024_S128x128_0_128)) (View.ld x1 (Rect.unit (s := S128x1024) ![0, 256] S128x128.size inb_S128x1024_S128x128_0_256)) (View.ld x1 (Rect.unit (s := S128x1024) ![0, 384] S128x128.size inb_S128x1024_S128x128_0_384))

/-- The stacked heads of key head 1, from the point's blocks. -/
def core1 (i : grid0.Coords) (x0 : Vec F S8 .f32) (x1 : Vec F S128x1024 .bf16) (x2 x3 x4 x5 x6 x7 : Vec F S128x256 .bf16) : FVec F S512x128 .bf16 :=
  core i (View.ld x0 (Rect.unit (s := S8) ![4] S1.size inb_S8_S1_4) (Shape.Idx.first (Nat.lt_of_lt_of_eq Nat.one_pos numel1_S1.symm))) (View.ld x0 (Rect.unit (s := S8) ![5] S1.size inb_S8_S1_5) (Shape.Idx.first (Nat.lt_of_lt_of_eq Nat.one_pos numel1_S1.symm))) (View.ld x0 (Rect.unit (s := S8) ![6] S1.size inb_S8_S1_6) (Shape.Idx.first (Nat.lt_of_lt_of_eq Nat.one_pos numel1_S1.symm))) (View.ld x0 (Rect.unit (s := S8) ![7] S1.size inb_S8_S1_7) (Shape.Idx.first (Nat.lt_of_lt_of_eq Nat.one_pos numel1_S1.symm)))
    (View.ld x2 (Rect.unit (s := S128x256) ![0, 128] S128x128.size inb_S128x256_S128x128_0_128)) (View.ld x3 (Rect.unit (s := S128x256) ![0, 128] S128x128.size inb_S128x256_S128x128_0_128)) (View.ld x4 (Rect.unit (s := S128x256) ![0, 128] S128x128.size inb_S128x256_S128x128_0_128)) (View.ld x5 (Rect.unit (s := S128x256) ![0, 128] S128x128.size inb_S128x256_S128x128_0_128)) (View.ld x6 (Rect.unit (s := S128x256) ![0, 128] S128x128.size inb_S128x256_S128x128_0_128)) (View.ld x7 (Rect.unit (s := S128x256) ![0, 128] S128x128.size inb_S128x256_S128x128_0_128))
    (View.ld x1 (Rect.unit (s := S128x1024) ![0, 512] S128x128.size inb_S128x1024_S128x128_0_512)) (View.ld x1 (Rect.unit (s := S128x1024) ![0, 640] S128x128.size inb_S128x1024_S128x128_0_640)) (View.ld x1 (Rect.unit (s := S128x1024) ![0, 768] S128x128.size inb_S128x1024_S128x128_0_768)) (View.ld x1 (Rect.unit (s := S128x1024) ![0, 896] S128x128.size inb_S128x1024_S128x128_0_896))

/-- The output block's eight pieces as the body stores them, the last head's first. -/
def pieces (i : grid0.Coords) (x0 : Vec F S8 .f32) (x1 : Vec F S128x1024 .bf16) (x2 x3 x4 x5 x6 x7 : Vec F S128x256 .bf16) : List (View.Piece (Elt F) S128x1024 .bf16) :=
  [⟨Rect.unit (s := S128x1024) ![0, 896] S128x128.size inb_S128x1024_S128x128_0_896, extractStridedSlice S128x128 ![384, 0] (core1 i x0 x1 x2 x3 x4 x5 x6 x7) slices_S512x128_o384_0_S128x128⟩,
    ⟨Rect.unit (s := S128x1024) ![0, 768] S128x128.size inb_S128x1024_S128x128_0_768, extractStridedSlice S128x128 ![256, 0] (core1 i x0 x1 x2 x3 x4 x5 x6 x7) slices_S512x128_o256_0_S128x128⟩,
    ⟨Rect.unit (s := S128x1024) ![0, 640] S128x128.size inb_S128x1024_S128x128_0_640, extractStridedSlice S128x128 ![128, 0] (core1 i x0 x1 x2 x3 x4 x5 x6 x7) slices_S512x128_o128_0_S128x128⟩,
    ⟨Rect.unit (s := S128x1024) ![0, 512] S128x128.size inb_S128x1024_S128x128_0_512, extractStridedSlice S128x128 ![0, 0] (core1 i x0 x1 x2 x3 x4 x5 x6 x7) slices_S512x128_o0_0_S128x128⟩,
    ⟨Rect.unit (s := S128x1024) ![0, 384] S128x128.size inb_S128x1024_S128x128_0_384, extractStridedSlice S128x128 ![384, 0] (core0 i x0 x1 x2 x3 x4 x5 x6 x7) slices_S512x128_o384_0_S128x128⟩,
    ⟨Rect.unit (s := S128x1024) ![0, 256] S128x128.size inb_S128x1024_S128x128_0_256, extractStridedSlice S128x128 ![256, 0] (core0 i x0 x1 x2 x3 x4 x5 x6 x7) slices_S512x128_o256_0_S128x128⟩,
    ⟨Rect.unit (s := S128x1024) ![0, 128] S128x128.size inb_S128x1024_S128x128_0_128, extractStridedSlice S128x128 ![128, 0] (core0 i x0 x1 x2 x3 x4 x5 x6 x7) slices_S512x128_o128_0_S128x128⟩,
    ⟨Rect.unit (s := S128x1024) ![0, 0] S128x128.size inb_S128x1024_S128x128_0_0, extractStridedSlice S128x128 ![0, 0] (core0 i x0 x1 x2 x3 x4 x5 x6 x7) slices_S512x128_o0_0_S128x128⟩]

theorem out8_eq (c : Dev nD) (i : grid0.Coords) (arg2 : Memref sig .tc .smem S8 .f32) (harg2 : arg2.IsWhole) (arg3 : Memref sig .tc .vmem S128x1024 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x1024 .bf16) (harg10 : arg10.IsWhole)
    (x0 : Vec F S8 .f32) (x1 : Vec F S128x1024 .bf16) (x2 : Vec F S128x256 .bf16) (x3 : Vec F S128x256 .bf16) (x4 : Vec F S128x256 .bf16) (x5 : Vec F S128x256 .bf16) (x6 : Vec F S128x256 .bf16) (x7 : Vec F S128x256 .bf16) :
    out0_A_8 c i arg2 harg2 arg3 harg3 arg4 harg4 arg5 harg5 arg6 harg6 arg7 harg7 arg8 harg8 arg9 harg9 arg10 harg10 x0 x1 x2 x3 x4 x5 x6 x7 = View.canon (pieces i x0 x1 x2 x3 x4 x5 x6 x7) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread]
  rfl

end

/-! ## Over the extended reals -/

/-- Whether key `j` of the three blocks is in the band of row `q`. -/
def band (q j : ℕ) : BitVec 1 :=
  IntOp.cmpi CmpIPredicate.sle (IntOp.absi (IntOp.subi (IntOp.subi (BitVec.ofNat 32 j) 128#32) (BitVec.ofNat 32 q))) 128#32

/-- A row's number within its head, as the body computes it. -/
theorem row_eq : ∀ r : Fin 512, IntOp.subi (BitVec.ofNat 32 r.val)
    (IntOp.muli (Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 r.val) 128#32) 0#32))
      (IntOp.subi (IntOp.divsi ArithUnit.vector (BitVec.ofNat 32 r.val) 128#32) 1#32)
      (IntOp.divsi ArithUnit.vector (BitVec.ofNat 32 r.val) 128#32)) 128#32) = BitVec.ofNat 32 (r.val % 128) := by
  decide +kernel

/-- Whether key `j` of the three blocks about block `n` is in the sequence. -/
def inSeq (n j : ℕ) : Prop := (128 ≤ j ∨ 0 < n) ∧ (j < 256 ∨ n < 31)

instance (n j : ℕ) : Decidable (inSeq n j) := inferInstanceAs (Decidable (_ ∧ _))

theorem ends_eq : ∀ (n : Fin 32) (j : Fin 384), (IntOp.andi
      (IntOp.ori (IntOp.cmpi CmpIPredicate.sge (BitVec.ofNat 32 j.val) 128#32) (Scalar.cmpi CmpIPredicate.sgt (BitVec.ofNat 32 n.val) 0#32))
      (IntOp.ori (IntOp.cmpi CmpIPredicate.slt (BitVec.ofNat 32 j.val) 256#32) (Scalar.cmpi CmpIPredicate.slt (BitVec.ofNat 32 n.val) 31#32)) = 1#1)
    ↔ inSeq n.val j.val := by
  decide +kernel

theorem and_one : ∀ a b : BitVec 1, IntOp.andi a b = 1#1 ↔ a = 1#1 ∧ b = 1#1 := by decide

theorem andi_assoc : ∀ a b c : BitVec 1, IntOp.andi (IntOp.andi a b) c = IntOp.andi a (IntOp.andi b c) := by decide

theorem mask_apply (i : grid0.Coords) (r : Fin 512) (j : Fin 384) :
    mask i (ix2 r j) = 1#1 ↔ band (r.val % 128) j.val = 1#1 ∧ inSeq (i 1).val j.val := by
  pointwise [mask, k0_pay8, k0_pay6, k0_pay7]
  rw [row_eq r, andi_assoc, and_one]
  exact and_congr Iff.rfl (ends_eq (i 1) j)

theorem pay9_apply (r : Fin 512) : k0_pay9 (ix2 r (0 : Fin 1)) = BitVec.ofNat 32 (r.val / 128) := by
  pointwise [k0_pay9]
  revert r
  decide +kernel

/-- Row `j` of three stacked blocks. -/
def cat3 (a b c : Vec Ideal S128x128 .bf16) (j : Fin 384) (d : Fin 128) : EReal :=
  if h : j.val < 128 then a (ix2 ⟨j.val, h⟩ d)
  else if h' : j.val - 128 < 128 then b (ix2 ⟨j.val - 128, h'⟩ d) else c (ix2 ⟨j.val - 128 - 128, by omega⟩ d)

/-- Row `r` of four stacked blocks. -/
def cat4 (a b c e : Vec Ideal S128x128 .bf16) (r : Fin 512) (d : Fin 128) : EReal :=
  if h : r.val < 128 then a (ix2 ⟨r.val, h⟩ d)
  else if h' : r.val - 128 < 128 then b (ix2 ⟨r.val - 128, h'⟩ d)
  else if h'' : r.val - 128 - 128 < 128 then c (ix2 ⟨r.val - 128 - 128, h''⟩ d) else e (ix2 ⟨r.val - 128 - 128 - 128, by omega⟩ d)

theorem pay10_apply (kp kc kn : Vec Ideal S128x128 .bf16) (j : Fin 384) (d : Fin 128) : k0_pay10 (F := Ideal) kp kc kn (ix2 j d) = cat3 kp kc kn j d := by
  pointwise [k0_pay10]
  rfl

theorem pay11_apply (kp kc kn : Vec Ideal S128x128 .bf16) (j : Fin 384) (d : Fin 128) : k0_pay11 (F := Ideal) kp kc kn (ix2 j d) = cat3 kp kc kn j d :=
  pay10_apply kp kc kn j d

/-- The sink of row `r`'s head, in units of ln 2. -/
def sinkOf (s0 s1 s2 s3 : EReal) (r : Fin 512) : EReal :=
  if r.val / 128 = 3 then s3 else if r.val / 128 = 2 then s2 else if r.val / 128 = 1 then s1 else s0

theorem log2e_eq : (Named.named κ "log2e" 0x3FB8AA3B#32 : Ideal .f32) = AttnMath.lg := rfl

theorem scale2_eq : (Named.named κ "scale2" 0x3E0293EE#32 : Ideal .f32) = AttnMath.sc * AttnMath.lg := EReal.coe_mul _ _

theorem pay12_apply (s0 s1 s2 s3 : EReal) (r : Fin 512) :
    k0_pay12 (F := Ideal) k0_pay9 s0 s1 s2 s3 (ix2 r (0 : Fin 1)) = AttnMath.lg * sinkOf s0 s1 s2 s3 r := by
  pointwise [k0_pay12]
  rw [pay9_apply, log2e_eq, mul_comm AttnMath.lg, sinkOf]
  have h := r.isLt
  have hd : r.val / 128 = 0 ∨ r.val / 128 = 1 ∨ r.val / 128 = 2 ∨ r.val / 128 = 3 := by omega
  rcases hd with e | e | e | e <;> rw [e] <;> rfl

theorem pay13_apply (M : IVec S512x384 1) (K : FVec Ideal S384x128 .bf16) (q0 q1 q2 q3 : Vec Ideal S128x128 .bf16) (r : Fin 512) (j : Fin 384) :
    k0_pay13 (F := Ideal) M K q0 q1 q2 q3 (ix2 r j)
      = if M (ix2 r j) = 1#1 then AttnMath.lg * ((∑ d : Fin 128, cat4 q0 q1 q2 q3 r d * K (ix2 j d)) * AttnMath.sc) else ⊥ := by
  pointwise [k0_pay13]
  rw [scale2_eq, AttnMath.bot_bits, ← AttnMath.score_scaled]
  by_cases h : M (ix2 r j) = 1#1
  · rw [if_pos h]
    exact (if_pos h).trans rfl
  · rw [if_neg h]
    exact (if_neg h).trans rfl

theorem pay14_apply (M : IVec S512x384 1) (K : FVec Ideal S384x128 .bf16) (q0 q1 q2 q3 : Vec Ideal S128x128 .bf16) (s0 s1 s2 s3 : EReal) (r : Fin 512) :
    k0_pay14 (F := Ideal) M k0_pay9 K q0 q1 q2 q3 s0 s1 s2 s3 (ix2 r (0 : Fin 1))
      = max (Finset.univ.fold max ⊥ fun j : Fin 384 => k0_pay13 (F := Ideal) M K q0 q1 q2 q3 (ix2 r j))
          (k0_pay12 (F := Ideal) k0_pay9 s0 s1 s2 s3 (ix2 r (0 : Fin 1))) := by
  pointwise [k0_pay14]
  rw [AttnMath.bot_bits]

theorem pay15_apply (V : FVec Ideal S384x128 .bf16) (sk : FVec Ideal S512x1 .f32) (s : FVec Ideal S512x384 .f32) (mx : FVec Ideal S512x1 .f32) (r : Fin 512) (d : Fin 128) :
    k0_pay15 (F := Ideal) V sk s mx (ix2 r d)
      = Ideal.div (∑ j : Fin 384, Ideal.exp2 (s (ix2 r j) - mx (ix2 r (0 : Fin 1))) * V (ix2 j d))
          ((∑ j : Fin 384, Ideal.exp2 (s (ix2 r j) - mx (ix2 r (0 : Fin 1)))) + Ideal.exp2 (sk (ix2 r (0 : Fin 1)) - mx (ix2 r (0 : Fin 1)))) := by
  pointwise [k0_pay15]
  rfl

/-- A row of a step's block of one group: attention over the three blocks, where the mask lets it look. -/
theorem core_apply (i : grid0.Coords) (s0 s1 s2 s3 : EReal) (kp kc kn vp vc vn q0 q1 q2 q3 : Vec Ideal S128x128 .bf16) (r : Fin 512) (d : Fin 128) :
    core (F := Ideal) i s0 s1 s2 s3 kp kc kn vp vc vn q0 q1 q2 q3 (ix2 r d)
      = AttnMath.attend Ideal.exp
          (fun j : Fin 384 => if band (r.val % 128) j.val = 1#1 ∧ inSeq (i 1).val j.val then (∑ e : Fin 128, cat4 q0 q1 q2 q3 r e * cat3 kp kc kn j e) * AttnMath.sc else ⊥)
          (sinkOf s0 s1 s2 s3 r) (fun j => cat3 vp vc vn j d) := by
  have hs : ∀ j : Fin 384, k0_pay13 (F := Ideal) (mask i) (k0_pay10 kp kc kn) q0 q1 q2 q3 (ix2 r j)
      = AttnMath.lg * (if band (r.val % 128) j.val = 1#1 ∧ inSeq (i 1).val j.val then (∑ e : Fin 128, cat4 q0 q1 q2 q3 r e * cat3 kp kc kn j e) * AttnMath.sc else ⊥) := fun j => by
    rw [pay13_apply]
    simp only [pay10_apply, mask_apply]
    split
    · rfl
    · exact AttnMath.lg_bot.symm
  rw [core, pay15_apply, ← AttnMath.attend_scaled, pay14_apply, pay12_apply, AttnMath.attend]
  simp only [hs, pay11_apply]

/-- Row `j` of three blocks of keys (or values), at column `l`. -/
def catw (a b c : Vec Ideal S128x256 .bf16) (j : Fin 384) (l : Fin 256) : EReal :=
  if h : j.val < 128 then a (ix2 ⟨j.val, h⟩ l)
  else if h' : j.val - 128 < 128 then b (ix2 ⟨j.val - 128, h'⟩ l) else c (ix2 ⟨j.val - 128 - 128, by omega⟩ l)

/-- Column `d` of head `h`'s queries. -/
def qcol (h : Fin 8) (d : Fin 128) : Fin 1024 := ⟨h.val * 128 + d.val, by omega⟩

/-- Column `d` of the keys that head `h` reads: four heads share one. -/
def kcol (h : Fin 8) (d : Fin 128) : Fin 256 := ⟨h.val / 4 * 128 + d.val, by omega⟩

/-- A step's output at row `q` and column `d` of head `h`. -/
def blkAt (i : grid0.Coords) (x0 : Vec Ideal S8 .f32) (x1 : Vec Ideal S128x1024 .bf16) (x2 x3 x4 x5 x6 x7 : Vec Ideal S128x256 .bf16)
    (q : Fin 128) (h : Fin 8) (d : Fin 128) : EReal :=
  AttnMath.attend Ideal.exp
    (fun j : Fin 384 => if band q.val j.val = 1#1 ∧ inSeq (i 1).val j.val then (∑ e : Fin 128, x1 (ix2 q (qcol h e)) * catw x2 x3 x4 j (kcol h e)) * AttnMath.sc else ⊥)
    (x0 (ix1 h)) (fun j => catw x5 x6 x7 j (kcol h d))

theorem ldk (x : Vec Ideal S128x256 .bf16) (o : ℕ) (inb : ∀ a : Fin 2, ![0, o] a + S128x128.size a ≤ S128x256.size a) (r e : Fin 128) (l : Fin 256) (hl : l.val = o + e.val) :
    View.ld x (Rect.unit (s := S128x256) ![0, o] S128x128.size inb) (ix2 r e) = x (ix2 r l) := by
  show x _ = x _
  congr 1
  funext a
  apply Fin.ext
  match a with
  | ⟨0, _⟩ => show 0 + 1 * r.val = r.val; omega
  | ⟨1, _⟩ => show o + 1 * e.val = l.val; omega

theorem ldq (x : Vec Ideal S128x1024 .bf16) (o : ℕ) (inb : ∀ a : Fin 2, ![0, o] a + S128x128.size a ≤ S128x1024.size a) (r e : Fin 128) (l : Fin 1024) (hl : l.val = o + e.val) :
    View.ld x (Rect.unit (s := S128x1024) ![0, o] S128x128.size inb) (ix2 r e) = x (ix2 r l) := by
  show x _ = x _
  congr 1
  funext a
  apply Fin.ext
  match a with
  | ⟨0, _⟩ => show 0 + 1 * r.val = r.val; omega
  | ⟨1, _⟩ => show o + 1 * e.val = l.val; omega

theorem lds (x : Vec Ideal S8 .f32) (o : ℕ) (inb : ∀ a : Fin 1, ![o] a + S1.size a ≤ S8.size a) (hp : 0 < S1.numel) (l : Fin 8) (hl : l.val = o) :
    View.ld x (Rect.unit (s := S8) ![o] S1.size inb) (Shape.Idx.first hp) = x (ix1 l) := by
  show x _ = x _
  congr 1
  funext a
  apply Fin.ext
  match a with
  | ⟨0, _⟩ => show o + 1 * 0 = l.val; omega

theorem cat3_ld (x y z : Vec Ideal S128x256 .bf16) (o : ℕ) (inb : ∀ a : Fin 2, ![0, o] a + S128x128.size a ≤ S128x256.size a) (j : Fin 384) (e : Fin 128) (l : Fin 256) (hl : l.val = o + e.val) :
    cat3 (View.ld x (Rect.unit (s := S128x256) ![0, o] S128x128.size inb)) (View.ld y (Rect.unit (s := S128x256) ![0, o] S128x128.size inb))
      (View.ld z (Rect.unit (s := S128x256) ![0, o] S128x128.size inb)) j e = catw x y z j l := by
  unfold cat3 catw
  split
  · exact ldk x o inb _ e l hl
  · split
    · exact ldk y o inb _ e l hl
    · exact ldk z o inb _ e l hl

/-- One head's rows of a step, from what the head's loads read. -/
theorem row_eq_blkAt (i : grid0.Coords) (x0 : Vec Ideal S8 .f32) (x1 : Vec Ideal S128x1024 .bf16) (x2 x3 x4 x5 x6 x7 : Vec Ideal S128x256 .bf16)
    (s0 s1 s2 s3 : EReal) (kp kc kn vp vc vn q0 q1 q2 q3 : Vec Ideal S128x128 .bf16) (r : Fin 512) (q : Fin 128) (h : Fin 8) (d : Fin 128)
    (hr : r.val % 128 = q.val) (hs : sinkOf s0 s1 s2 s3 r = x0 (ix1 h)) (hq : ∀ e, cat4 q0 q1 q2 q3 r e = x1 (ix2 q (qcol h e)))
    (hk : ∀ j e, cat3 kp kc kn j e = catw x2 x3 x4 j (kcol h e)) (hv : ∀ j e, cat3 vp vc vn j e = catw x5 x6 x7 j (kcol h e)) :
    core (F := Ideal) i s0 s1 s2 s3 kp kc kn vp vc vn q0 q1 q2 q3 (ix2 r d) = blkAt i x0 x1 x2 x3 x4 x5 x6 x7 q h d := by
  rw [core_apply, blkAt, hr, hs]
  simp only [hq, hk, hv]

theorem head0 (i : grid0.Coords) (x0 : Vec Ideal S8 .f32) (x1 : Vec Ideal S128x1024 .bf16) (x2 x3 x4 x5 x6 x7 : Vec Ideal S128x256 .bf16) (q d : Fin 128) :
    core0 (F := Ideal) i x0 x1 x2 x3 x4 x5 x6 x7 (ix2 ⟨0 + q.val, by omega⟩ d) = blkAt i x0 x1 x2 x3 x4 x5 x6 x7 q 0 d := by
  have hq := q.isLt
  refine row_eq_blkAt i x0 x1 x2 x3 x4 x5 x6 x7 _ _ _ _ _ _ _ _ _ _ _ _ _ _ _ q 0 d (by show (0 + q.val) % 128 = q.val; omega) ?_ (fun e => ?_)
    (fun j e => cat3_ld _ _ _ _ _ _ _ _ rfl) (fun j e => cat3_ld _ _ _ _ _ _ _ _ rfl)
  · unfold sinkOf
    rw [if_neg (show ¬(0 + q.val) / 128 = 3 by omega)]
    rw [if_neg (show ¬(0 + q.val) / 128 = 2 by omega)]
    rw [if_neg (show ¬(0 + q.val) / 128 = 1 by omega)]
    exact lds _ _ _ _ _ rfl
  · unfold cat4
    rw [dif_pos (show (0 + q.val) < 128 by omega)]
    refine (ldq _ _ _ _ _ (qcol 0 e) rfl).trans ?_
    exact congrArg (fun a : Fin 128 => x1 (ix2 a (qcol 0 e))) (Fin.ext (by show 0 + q.val = q.val; omega))

theorem head1 (i : grid0.Coords) (x0 : Vec Ideal S8 .f32) (x1 : Vec Ideal S128x1024 .bf16) (x2 x3 x4 x5 x6 x7 : Vec Ideal S128x256 .bf16) (q d : Fin 128) :
    core0 (F := Ideal) i x0 x1 x2 x3 x4 x5 x6 x7 (ix2 ⟨128 + q.val, by omega⟩ d) = blkAt i x0 x1 x2 x3 x4 x5 x6 x7 q 1 d := by
  have hq := q.isLt
  refine row_eq_blkAt i x0 x1 x2 x3 x4 x5 x6 x7 _ _ _ _ _ _ _ _ _ _ _ _ _ _ _ q 1 d (by show (128 + q.val) % 128 = q.val; omega) ?_ (fun e => ?_)
    (fun j e => cat3_ld _ _ _ _ _ _ _ _ rfl) (fun j e => cat3_ld _ _ _ _ _ _ _ _ rfl)
  · unfold sinkOf
    rw [if_neg (show ¬(128 + q.val) / 128 = 3 by omega)]
    rw [if_neg (show ¬(128 + q.val) / 128 = 2 by omega)]
    rw [if_pos (show (128 + q.val) / 128 = 1 by omega)]
    exact lds _ _ _ _ _ rfl
  · unfold cat4
    rw [dif_neg (show ¬(128 + q.val) < 128 by omega)]
    rw [dif_pos (show (128 + q.val) - 128 < 128 by omega)]
    refine (ldq _ _ _ _ _ (qcol 1 e) rfl).trans ?_
    exact congrArg (fun a : Fin 128 => x1 (ix2 a (qcol 1 e))) (Fin.ext (by show 128 + q.val - 128 = q.val; omega))

theorem head2 (i : grid0.Coords) (x0 : Vec Ideal S8 .f32) (x1 : Vec Ideal S128x1024 .bf16) (x2 x3 x4 x5 x6 x7 : Vec Ideal S128x256 .bf16) (q d : Fin 128) :
    core0 (F := Ideal) i x0 x1 x2 x3 x4 x5 x6 x7 (ix2 ⟨256 + q.val, by omega⟩ d) = blkAt i x0 x1 x2 x3 x4 x5 x6 x7 q 2 d := by
  have hq := q.isLt
  refine row_eq_blkAt i x0 x1 x2 x3 x4 x5 x6 x7 _ _ _ _ _ _ _ _ _ _ _ _ _ _ _ q 2 d (by show (256 + q.val) % 128 = q.val; omega) ?_ (fun e => ?_)
    (fun j e => cat3_ld _ _ _ _ _ _ _ _ rfl) (fun j e => cat3_ld _ _ _ _ _ _ _ _ rfl)
  · unfold sinkOf
    rw [if_neg (show ¬(256 + q.val) / 128 = 3 by omega)]
    rw [if_pos (show (256 + q.val) / 128 = 2 by omega)]
    exact lds _ _ _ _ _ rfl
  · unfold cat4
    rw [dif_neg (show ¬(256 + q.val) < 128 by omega)]
    rw [dif_neg (show ¬(256 + q.val) - 128 < 128 by omega)]
    rw [dif_pos (show (256 + q.val) - 128 - 128 < 128 by omega)]
    refine (ldq _ _ _ _ _ (qcol 2 e) rfl).trans ?_
    exact congrArg (fun a : Fin 128 => x1 (ix2 a (qcol 2 e))) (Fin.ext (by show 256 + q.val - 128 - 128 = q.val; omega))

theorem head3 (i : grid0.Coords) (x0 : Vec Ideal S8 .f32) (x1 : Vec Ideal S128x1024 .bf16) (x2 x3 x4 x5 x6 x7 : Vec Ideal S128x256 .bf16) (q d : Fin 128) :
    core0 (F := Ideal) i x0 x1 x2 x3 x4 x5 x6 x7 (ix2 ⟨384 + q.val, by omega⟩ d) = blkAt i x0 x1 x2 x3 x4 x5 x6 x7 q 3 d := by
  have hq := q.isLt
  refine row_eq_blkAt i x0 x1 x2 x3 x4 x5 x6 x7 _ _ _ _ _ _ _ _ _ _ _ _ _ _ _ q 3 d (by show (384 + q.val) % 128 = q.val; omega) ?_ (fun e => ?_)
    (fun j e => cat3_ld _ _ _ _ _ _ _ _ rfl) (fun j e => cat3_ld _ _ _ _ _ _ _ _ rfl)
  · unfold sinkOf
    rw [if_pos (show (384 + q.val) / 128 = 3 by omega)]
    exact lds _ _ _ _ _ rfl
  · unfold cat4
    rw [dif_neg (show ¬(384 + q.val) < 128 by omega)]
    rw [dif_neg (show ¬(384 + q.val) - 128 < 128 by omega)]
    rw [dif_neg (show ¬(384 + q.val) - 128 - 128 < 128 by omega)]
    refine (ldq _ _ _ _ _ (qcol 3 e) rfl).trans ?_
    exact congrArg (fun a : Fin 128 => x1 (ix2 a (qcol 3 e))) (Fin.ext (by show 384 + q.val - 128 - 128 - 128 = q.val; omega))

theorem head4 (i : grid0.Coords) (x0 : Vec Ideal S8 .f32) (x1 : Vec Ideal S128x1024 .bf16) (x2 x3 x4 x5 x6 x7 : Vec Ideal S128x256 .bf16) (q d : Fin 128) :
    core1 (F := Ideal) i x0 x1 x2 x3 x4 x5 x6 x7 (ix2 ⟨0 + q.val, by omega⟩ d) = blkAt i x0 x1 x2 x3 x4 x5 x6 x7 q 4 d := by
  have hq := q.isLt
  refine row_eq_blkAt i x0 x1 x2 x3 x4 x5 x6 x7 _ _ _ _ _ _ _ _ _ _ _ _ _ _ _ q 4 d (by show (0 + q.val) % 128 = q.val; omega) ?_ (fun e => ?_)
    (fun j e => cat3_ld _ _ _ _ _ _ _ _ rfl) (fun j e => cat3_ld _ _ _ _ _ _ _ _ rfl)
  · unfold sinkOf
    rw [if_neg (show ¬(0 + q.val) / 128 = 3 by omega)]
    rw [if_neg (show ¬(0 + q.val) / 128 = 2 by omega)]
    rw [if_neg (show ¬(0 + q.val) / 128 = 1 by omega)]
    exact lds _ _ _ _ _ rfl
  · unfold cat4
    rw [dif_pos (show (0 + q.val) < 128 by omega)]
    refine (ldq _ _ _ _ _ (qcol 4 e) rfl).trans ?_
    exact congrArg (fun a : Fin 128 => x1 (ix2 a (qcol 4 e))) (Fin.ext (by show 0 + q.val = q.val; omega))

theorem head5 (i : grid0.Coords) (x0 : Vec Ideal S8 .f32) (x1 : Vec Ideal S128x1024 .bf16) (x2 x3 x4 x5 x6 x7 : Vec Ideal S128x256 .bf16) (q d : Fin 128) :
    core1 (F := Ideal) i x0 x1 x2 x3 x4 x5 x6 x7 (ix2 ⟨128 + q.val, by omega⟩ d) = blkAt i x0 x1 x2 x3 x4 x5 x6 x7 q 5 d := by
  have hq := q.isLt
  refine row_eq_blkAt i x0 x1 x2 x3 x4 x5 x6 x7 _ _ _ _ _ _ _ _ _ _ _ _ _ _ _ q 5 d (by show (128 + q.val) % 128 = q.val; omega) ?_ (fun e => ?_)
    (fun j e => cat3_ld _ _ _ _ _ _ _ _ rfl) (fun j e => cat3_ld _ _ _ _ _ _ _ _ rfl)
  · unfold sinkOf
    rw [if_neg (show ¬(128 + q.val) / 128 = 3 by omega)]
    rw [if_neg (show ¬(128 + q.val) / 128 = 2 by omega)]
    rw [if_pos (show (128 + q.val) / 128 = 1 by omega)]
    exact lds _ _ _ _ _ rfl
  · unfold cat4
    rw [dif_neg (show ¬(128 + q.val) < 128 by omega)]
    rw [dif_pos (show (128 + q.val) - 128 < 128 by omega)]
    refine (ldq _ _ _ _ _ (qcol 5 e) rfl).trans ?_
    exact congrArg (fun a : Fin 128 => x1 (ix2 a (qcol 5 e))) (Fin.ext (by show 128 + q.val - 128 = q.val; omega))

theorem head6 (i : grid0.Coords) (x0 : Vec Ideal S8 .f32) (x1 : Vec Ideal S128x1024 .bf16) (x2 x3 x4 x5 x6 x7 : Vec Ideal S128x256 .bf16) (q d : Fin 128) :
    core1 (F := Ideal) i x0 x1 x2 x3 x4 x5 x6 x7 (ix2 ⟨256 + q.val, by omega⟩ d) = blkAt i x0 x1 x2 x3 x4 x5 x6 x7 q 6 d := by
  have hq := q.isLt
  refine row_eq_blkAt i x0 x1 x2 x3 x4 x5 x6 x7 _ _ _ _ _ _ _ _ _ _ _ _ _ _ _ q 6 d (by show (256 + q.val) % 128 = q.val; omega) ?_ (fun e => ?_)
    (fun j e => cat3_ld _ _ _ _ _ _ _ _ rfl) (fun j e => cat3_ld _ _ _ _ _ _ _ _ rfl)
  · unfold sinkOf
    rw [if_neg (show ¬(256 + q.val) / 128 = 3 by omega)]
    rw [if_pos (show (256 + q.val) / 128 = 2 by omega)]
    exact lds _ _ _ _ _ rfl
  · unfold cat4
    rw [dif_neg (show ¬(256 + q.val) < 128 by omega)]
    rw [dif_neg (show ¬(256 + q.val) - 128 < 128 by omega)]
    rw [dif_pos (show (256 + q.val) - 128 - 128 < 128 by omega)]
    refine (ldq _ _ _ _ _ (qcol 6 e) rfl).trans ?_
    exact congrArg (fun a : Fin 128 => x1 (ix2 a (qcol 6 e))) (Fin.ext (by show 256 + q.val - 128 - 128 = q.val; omega))

theorem head7 (i : grid0.Coords) (x0 : Vec Ideal S8 .f32) (x1 : Vec Ideal S128x1024 .bf16) (x2 x3 x4 x5 x6 x7 : Vec Ideal S128x256 .bf16) (q d : Fin 128) :
    core1 (F := Ideal) i x0 x1 x2 x3 x4 x5 x6 x7 (ix2 ⟨384 + q.val, by omega⟩ d) = blkAt i x0 x1 x2 x3 x4 x5 x6 x7 q 7 d := by
  have hq := q.isLt
  refine row_eq_blkAt i x0 x1 x2 x3 x4 x5 x6 x7 _ _ _ _ _ _ _ _ _ _ _ _ _ _ _ q 7 d (by show (384 + q.val) % 128 = q.val; omega) ?_ (fun e => ?_)
    (fun j e => cat3_ld _ _ _ _ _ _ _ _ rfl) (fun j e => cat3_ld _ _ _ _ _ _ _ _ rfl)
  · unfold sinkOf
    rw [if_pos (show (384 + q.val) / 128 = 3 by omega)]
    exact lds _ _ _ _ _ rfl
  · unfold cat4
    rw [dif_neg (show ¬(384 + q.val) < 128 by omega)]
    rw [dif_neg (show ¬(384 + q.val) - 128 < 128 by omega)]
    rw [dif_neg (show ¬(384 + q.val) - 128 - 128 < 128 by omega)]
    refine (ldq _ _ _ _ _ (qcol 7 e) rfl).trans ?_
    exact congrArg (fun a : Fin 128 => x1 (ix2 a (qcol 7 e))) (Fin.ext (by show 384 + q.val - 128 - 128 - 128 = q.val; omega))

/-- The whole block, at row `y 0` and column `y 1`. -/
def blkG (i : grid0.Coords) (x0 : Vec Ideal S8 .f32) (x1 : Vec Ideal S128x1024 .bf16) (x2 x3 x4 x5 x6 x7 : Vec Ideal S128x256 .bf16) : Vec Ideal S128x1024 .bf16 := fun y =>
  blkAt i x0 x1 x2 x3 x4 x5 x6 x7 (y 0) ⟨(y 1).val / 128, by have : (y 1).val < 1024 := (y 1).isLt; omega⟩ ⟨(y 1).val % 128, by omega⟩

/-- A piece of the block is a head's columns. -/
theorem piece_eq (i : grid0.Coords) (x0 : Vec Ideal S8 .f32) (x1 : Vec Ideal S128x1024 .bf16) (x2 x3 x4 x5 x6 x7 : Vec Ideal S128x256 .bf16) (C : FVec Ideal S512x128 .bf16)
    (h : Fin 8) (o g : ℕ) (hg : g + 128 ≤ 512) (ho : o = 128 * h.val) (hc : ∀ q d : Fin 128, C (ix2 ⟨g + q.val, by omega⟩ d) = blkAt i x0 x1 x2 x3 x4 x5 x6 x7 q h d)
    (inb : ∀ a : Fin 2, ![0, o] a + S128x128.size a ≤ S128x1024.size a) (hs : S512x128.Slices ![g, 0] S128x128) (x : S128x128.Idx) :
    extractStridedSlice S128x128 ![g, 0] C hs x = blkG i x0 x1 x2 x3 x4 x5 x6 x7 ((Rect.unit (s := S128x1024) ![0, o] S128x128.size inb).emb x) := by
  have h1 : (x 1).val < 128 := (x 1).isLt
  have e1 : (((Rect.unit (s := S128x1024) ![0, o] S128x128.size inb).emb x) 1).val = o + 1 * (x 1).val := rfl
  have e0 : (((Rect.unit (s := S128x1024) ![0, o] S128x128.size inb).emb x) 0) = x 0 := Fin.ext (by show 0 + 1 * (x 0).val = (x 0).val; omega)
  have l : extractStridedSlice S128x128 ![g, 0] C hs x = C (ix2 ⟨g + (x 0).val, by have : (x 0).val < 128 := (x 0).isLt; omega⟩ (x 1)) := by
    refine extractStridedSlice_apply _ _ _ _ _ fun a => ?_
    match a with
    | ⟨0, _⟩ => rfl
    | ⟨1, _⟩ => show (x 1).val = 0 + (x 1).val; omega
  rw [l, hc (x 0) (x 1)]
  unfold blkG
  congr 1
  · exact e0.symm
  · apply Fin.ext
    show h.val = (((Rect.unit (s := S128x1024) ![0, o] S128x128.size inb).emb x) 1).val / 128
    rw [e1]; omega
  · apply Fin.ext
    show (x 1).val = (((Rect.unit (s := S128x1024) ![0, o] S128x128.size inb).emb x) 1).val % 128
    rw [e1]; omega

theorem mem_cols (o : ℕ) (inb : ∀ a : Fin 2, ![0, o] a + S128x128.size a ≤ S128x1024.size a) (y : S128x1024.Idx) (h : o ≤ (y 1).val ∧ (y 1).val < o + 128) :
    y ∈ (Rect.unit (s := S128x1024) ![0, o] S128x128.size inb).set := by
  have h0 : (y 0).val < 128 := (y 0).isLt
  rw [Rect.mem_set_unit]
  intro a
  match a with
  | ⟨0, _⟩ => show 0 ≤ (y 0).val ∧ (y 0).val < 0 + 128; omega
  | ⟨1, _⟩ => exact h

theorem pieces_apply (i : grid0.Coords) (x0 : Vec Ideal S8 .f32) (x1 : Vec Ideal S128x1024 .bf16) (x2 x3 x4 x5 x6 x7 : Vec Ideal S128x256 .bf16) (y : S128x1024.Idx) :
    View.canon (pieces (F := Ideal) i x0 x1 x2 x3 x4 x5 x6 x7) y = blkG i x0 x1 x2 x3 x4 x5 x6 x7 y := by
  refine View.canon_apply_of_pieces (blkG i x0 x1 x2 x3 x4 x5 x6 x7) _ ?_ y ?_
  · intro p hp
    unfold pieces at hp
    simp only [List.mem_cons, List.mem_nil_iff, or_false] at hp
    rcases hp with rfl | rfl | rfl | rfl | rfl | rfl | rfl | rfl
    · exact fun x => piece_eq i x0 x1 x2 x3 x4 x5 x6 x7 _ 7 896 384 (by decide) rfl (head7 i x0 x1 x2 x3 x4 x5 x6 x7) inb_S128x1024_S128x128_0_896 slices_S512x128_o384_0_S128x128 x
    · exact fun x => piece_eq i x0 x1 x2 x3 x4 x5 x6 x7 _ 6 768 256 (by decide) rfl (head6 i x0 x1 x2 x3 x4 x5 x6 x7) inb_S128x1024_S128x128_0_768 slices_S512x128_o256_0_S128x128 x
    · exact fun x => piece_eq i x0 x1 x2 x3 x4 x5 x6 x7 _ 5 640 128 (by decide) rfl (head5 i x0 x1 x2 x3 x4 x5 x6 x7) inb_S128x1024_S128x128_0_640 slices_S512x128_o128_0_S128x128 x
    · exact fun x => piece_eq i x0 x1 x2 x3 x4 x5 x6 x7 _ 4 512 0 (by decide) rfl (head4 i x0 x1 x2 x3 x4 x5 x6 x7) inb_S128x1024_S128x128_0_512 slices_S512x128_o0_0_S128x128 x
    · exact fun x => piece_eq i x0 x1 x2 x3 x4 x5 x6 x7 _ 3 384 384 (by decide) rfl (head3 i x0 x1 x2 x3 x4 x5 x6 x7) inb_S128x1024_S128x128_0_384 slices_S512x128_o384_0_S128x128 x
    · exact fun x => piece_eq i x0 x1 x2 x3 x4 x5 x6 x7 _ 2 256 256 (by decide) rfl (head2 i x0 x1 x2 x3 x4 x5 x6 x7) inb_S128x1024_S128x128_0_256 slices_S512x128_o256_0_S128x128 x
    · exact fun x => piece_eq i x0 x1 x2 x3 x4 x5 x6 x7 _ 1 128 128 (by decide) rfl (head1 i x0 x1 x2 x3 x4 x5 x6 x7) inb_S128x1024_S128x128_0_128 slices_S512x128_o128_0_S128x128 x
    · exact fun x => piece_eq i x0 x1 x2 x3 x4 x5 x6 x7 _ 0 0 0 (by decide) rfl (head0 i x0 x1 x2 x3 x4 x5 x6 x7) inb_S128x1024_S128x128_0_0 slices_S512x128_o0_0_S128x128 x
  · have h1 : (y 1).val < 1024 := (y 1).isLt
    have hd : 896 ≤ (y 1).val ∧ (y 1).val < 896 + 128 ∨ 768 ≤ (y 1).val ∧ (y 1).val < 768 + 128 ∨ 640 ≤ (y 1).val ∧ (y 1).val < 640 + 128
        ∨ 512 ≤ (y 1).val ∧ (y 1).val < 512 + 128 ∨ 384 ≤ (y 1).val ∧ (y 1).val < 384 + 128 ∨ 256 ≤ (y 1).val ∧ (y 1).val < 256 + 128
        ∨ 128 ≤ (y 1).val ∧ (y 1).val < 128 + 128 ∨ 0 ≤ (y 1).val ∧ (y 1).val < 0 + 128 := by omega
    unfold pieces
    simp only [List.mem_cons, List.mem_nil_iff, or_false, exists_eq_or_imp, exists_eq_left]
    rcases hd with h | h | h | h | h | h | h | h
    · exact Or.inl (mem_cols _ _ y h)
    · exact Or.inr (Or.inl (mem_cols _ _ y h))
    · exact Or.inr (Or.inr (Or.inl (mem_cols _ _ y h)))
    · exact Or.inr (Or.inr (Or.inr (Or.inl (mem_cols _ _ y h))))
    · exact Or.inr (Or.inr (Or.inr (Or.inr (Or.inl (mem_cols _ _ y h)))))
    · exact Or.inr (Or.inr (Or.inr (Or.inr (Or.inr (Or.inl (mem_cols _ _ y h))))))
    · exact Or.inr (Or.inr (Or.inr (Or.inr (Or.inr (Or.inr (Or.inl (mem_cols _ _ y h)))))))
    · exact Or.inr (Or.inr (Or.inr (Or.inr (Or.inr (Or.inr (Or.inr (mem_cols _ _ y h)))))))

/-- The key row that slot `j` of row `R`'s three blocks holds, where it is in the sequence. -/
def keyRow (R : Fin 8192) (j : Fin 384) : Fin 8192 := ⟨(R.val / 128 * 128 + j.val - 128) % 8192, by omega⟩

/-- Windowed attention with a sink at row `R` and column `d` of head `h`: the keys are those of the three blocks about the
    row's, in its sequence and at most a block away. -/
def window (q : Vec Ideal S8192x1024 .bf16) (k : Vec Ideal S8192x256 .bf16) (p : Vec Ideal S8192x10752 .bf16) (s : Vec Ideal S8 .f32)
    (R : Fin 8192) (h : Fin 8) (d : Fin 128) : EReal :=
  AttnMath.attend Ideal.exp
    (fun j : Fin 384 => if band (R.val % 128) j.val = 1#1 ∧ inSeq (R.val / 128 % 32) j.val then (∑ e : Fin 128, q (ix2 R (qcol h e)) * k (ix2 (keyRow R j) (kcol h e))) * AttnMath.sc else ⊥)
    (s (ix1 h)) (fun j => p (ix2 (keyRow R j) ⟨6400 + (kcol h d).val, by omega⟩))

variable (m : (ℓ : Loc nD τ sig) → Buf (Elt Ideal) ℓ)

/-- The block indices of the windows, in closed form. -/
theorem idx0 : ∀ t : Fin cfg0.N, win0_0.index t (0 : Fin 1) = 0
    ∧ (win0_1.index t (0 : Fin 2) = t.val ∧ win0_1.index t (1 : Fin 2) = 0)
    ∧ (win0_2.index t (0 : Fin 2) = t.val / 32 * 32 + (t.val % 32 - 1) ∧ win0_2.index t (1 : Fin 2) = 0)
    ∧ (win0_3.index t (0 : Fin 2) = t.val ∧ win0_3.index t (1 : Fin 2) = 0)
    ∧ (win0_4.index t (0 : Fin 2) = t.val / 32 * 32 + min (t.val % 32 + 1) 31 ∧ win0_4.index t (1 : Fin 2) = 0)
    ∧ (win0_5.index t (0 : Fin 2) = t.val / 32 * 32 + (t.val % 32 - 1) ∧ win0_5.index t (1 : Fin 2) = 25)
    ∧ (win0_6.index t (0 : Fin 2) = t.val ∧ win0_6.index t (1 : Fin 2) = 25)
    ∧ (win0_7.index t (0 : Fin 2) = t.val / 32 * 32 + min (t.val % 32 + 1) 31 ∧ win0_7.index t (1 : Fin 2) = 25)
    ∧ (win0_8.index t (0 : Fin 2) = t.val ∧ win0_8.index t (1 : Fin 2) = 0)
    ∧ (grid0.coords t 1).val = t.val % 32 :=
  (by decide +kernel : ∀ t : Fin grid0.N, _)

theorem flush8 : ∀ t : Fin cfg0.N, (cfg0.win 8).flush t = true :=
  (by decide +kernel : ∀ t : Fin grid0.N, win0_8.flush t = true)

theorem iblk0 (c : Dev nD) (t : Fin cfg0.N) (h : Fin 8) :
    (iblk m c 0 t : Vec Ideal S8 .f32) (ix1 h) = m ((c : Thread nD τ).loc main_arg3) (ix1 h) := by
  obtain ⟨e0, -⟩ := idx0 t
  unfold iblk
  rw [View.read_apply]
  show V m c main_arg3 _ = m (c.tc.loc main_arg3) _
  unfold V
  congr 1
  funext a
  apply Fin.ext
  match a with
  | ⟨0, _⟩ => show win0_0.index t 0 * 8 + 1 * h.val = h.val; rw [e0]; omega

theorem iblk1 (c : Dev nD) (t : Fin cfg0.N) (j : S128x1024.Idx) (J : S8192x1024.Idx)
    (h0 : (J 0).val = 128 * t.val + (j 0).val) (h1 : (J 1).val = (j 1).val) :
    (iblk m c 1 t : Vec Ideal S128x1024 .bf16) j = m ((c : Thread nD τ).loc main_arg0) J := by
  obtain ⟨-, ⟨e0, e1⟩, -⟩ := idx0 t
  unfold iblk
  rw [View.read_apply]
  show V m c main_arg0 _ = m (c.tc.loc main_arg0) _
  unfold V
  congr 1
  funext a
  apply Fin.ext
  match a with
  | ⟨0, _⟩ => show win0_1.index t 0 * 128 + 1 * (j 0).val = (J 0).val; rw [e0, h0]; omega
  | ⟨1, _⟩ => show win0_1.index t 1 * 1024 + 1 * (j 1).val = (J 1).val; rw [e1, h1]; omega

theorem iblk2 (c : Dev nD) (t : Fin cfg0.N) (j : S128x256.Idx) (J : S8192x256.Idx)
    (h0 : (J 0).val = 128 * (t.val / 32 * 32 + (t.val % 32 - 1)) + (j 0).val) (h1 : (J 1).val = (j 1).val) :
    (iblk m c 2 t : Vec Ideal S128x256 .bf16) j = m ((c : Thread nD τ).loc main_arg1) J := by
  obtain ⟨-, -, ⟨e0, e1⟩, -⟩ := idx0 t
  unfold iblk
  rw [View.read_apply]
  show V m c main_arg1 _ = m (c.tc.loc main_arg1) _
  unfold V
  congr 1
  funext a
  apply Fin.ext
  match a with
  | ⟨0, _⟩ => show win0_2.index t 0 * 128 + 1 * (j 0).val = (J 0).val; rw [e0, h0]; omega
  | ⟨1, _⟩ => show win0_2.index t 1 * 256 + 1 * (j 1).val = (J 1).val; rw [e1, h1]; omega

theorem iblk3 (c : Dev nD) (t : Fin cfg0.N) (j : S128x256.Idx) (J : S8192x256.Idx)
    (h0 : (J 0).val = 128 * t.val + (j 0).val) (h1 : (J 1).val = (j 1).val) :
    (iblk m c 3 t : Vec Ideal S128x256 .bf16) j = m ((c : Thread nD τ).loc main_arg1) J := by
  obtain ⟨-, -, -, ⟨e0, e1⟩, -⟩ := idx0 t
  unfold iblk
  rw [View.read_apply]
  show V m c main_arg1 _ = m (c.tc.loc main_arg1) _
  unfold V
  congr 1
  funext a
  apply Fin.ext
  match a with
  | ⟨0, _⟩ => show win0_3.index t 0 * 128 + 1 * (j 0).val = (J 0).val; rw [e0, h0]; omega
  | ⟨1, _⟩ => show win0_3.index t 1 * 256 + 1 * (j 1).val = (J 1).val; rw [e1, h1]; omega

theorem iblk4 (c : Dev nD) (t : Fin cfg0.N) (j : S128x256.Idx) (J : S8192x256.Idx)
    (h0 : (J 0).val = 128 * (t.val / 32 * 32 + min (t.val % 32 + 1) 31) + (j 0).val) (h1 : (J 1).val = (j 1).val) :
    (iblk m c 4 t : Vec Ideal S128x256 .bf16) j = m ((c : Thread nD τ).loc main_arg1) J := by
  obtain ⟨-, -, -, -, ⟨e0, e1⟩, -⟩ := idx0 t
  unfold iblk
  rw [View.read_apply]
  show V m c main_arg1 _ = m (c.tc.loc main_arg1) _
  unfold V
  congr 1
  funext a
  apply Fin.ext
  match a with
  | ⟨0, _⟩ => show win0_4.index t 0 * 128 + 1 * (j 0).val = (J 0).val; rw [e0, h0]; omega
  | ⟨1, _⟩ => show win0_4.index t 1 * 256 + 1 * (j 1).val = (J 1).val; rw [e1, h1]; omega

theorem iblk5 (c : Dev nD) (t : Fin cfg0.N) (j : S128x256.Idx) (J : S8192x10752.Idx)
    (h0 : (J 0).val = 128 * (t.val / 32 * 32 + (t.val % 32 - 1)) + (j 0).val) (h1 : (J 1).val = 6400 + (j 1).val) :
    (iblk m c 5 t : Vec Ideal S128x256 .bf16) j = m ((c : Thread nD τ).loc main_arg2) J := by
  obtain ⟨-, -, -, -, -, ⟨e0, e1⟩, -⟩ := idx0 t
  unfold iblk
  rw [View.read_apply]
  show V m c main_arg2 _ = m (c.tc.loc main_arg2) _
  unfold V
  congr 1
  funext a
  apply Fin.ext
  match a with
  | ⟨0, _⟩ => show win0_5.index t 0 * 128 + 1 * (j 0).val = (J 0).val; rw [e0, h0]; omega
  | ⟨1, _⟩ => show win0_5.index t 1 * 256 + 1 * (j 1).val = (J 1).val; rw [e1, h1]; omega

theorem iblk6 (c : Dev nD) (t : Fin cfg0.N) (j : S128x256.Idx) (J : S8192x10752.Idx)
    (h0 : (J 0).val = 128 * t.val + (j 0).val) (h1 : (J 1).val = 6400 + (j 1).val) :
    (iblk m c 6 t : Vec Ideal S128x256 .bf16) j = m ((c : Thread nD τ).loc main_arg2) J := by
  obtain ⟨-, -, -, -, -, -, ⟨e0, e1⟩, -⟩ := idx0 t
  unfold iblk
  rw [View.read_apply]
  show V m c main_arg2 _ = m (c.tc.loc main_arg2) _
  unfold V
  congr 1
  funext a
  apply Fin.ext
  match a with
  | ⟨0, _⟩ => show win0_6.index t 0 * 128 + 1 * (j 0).val = (J 0).val; rw [e0, h0]; omega
  | ⟨1, _⟩ => show win0_6.index t 1 * 256 + 1 * (j 1).val = (J 1).val; rw [e1, h1]; omega

theorem iblk7 (c : Dev nD) (t : Fin cfg0.N) (j : S128x256.Idx) (J : S8192x10752.Idx)
    (h0 : (J 0).val = 128 * (t.val / 32 * 32 + min (t.val % 32 + 1) 31) + (j 0).val) (h1 : (J 1).val = 6400 + (j 1).val) :
    (iblk m c 7 t : Vec Ideal S128x256 .bf16) j = m ((c : Thread nD τ).loc main_arg2) J := by
  obtain ⟨-, -, -, -, -, -, -, ⟨e0, e1⟩, -⟩ := idx0 t
  unfold iblk
  rw [View.read_apply]
  show V m c main_arg2 _ = m (c.tc.loc main_arg2) _
  unfold V
  congr 1
  funext a
  apply Fin.ext
  match a with
  | ⟨0, _⟩ => show win0_7.index t 0 * 128 + 1 * (j 0).val = (J 0).val; rw [e0, h0]; omega
  | ⟨1, _⟩ => show win0_7.index t 1 * 256 + 1 * (j 1).val = (J 1).val; rw [e1, h1]; omega

theorem keys_eq (c : Dev nD) (t : Fin cfg0.N) (R : Fin 8192) (hR : R.val / 128 = t.val) (j : Fin 384) (hj : inSeq (t.val % 32) j.val) (l : Fin 256) :
    catw (iblk m c 2 t) (iblk m c 3 t) (iblk m c 4 t) j l = m ((c : Thread nD τ).loc main_arg1) (ix2 (keyRow R j) l) := by
  have hR' := R.isLt
  obtain ⟨h1, h2⟩ := hj
  unfold catw
  split
  · refine iblk2 m c t _ _ ?_ rfl
    show (R.val / 128 * 128 + j.val - 128) % 8192 = 128 * (t.val / 32 * 32 + (t.val % 32 - 1)) + j.val
    omega
  · split
    · refine iblk3 m c t _ _ ?_ rfl
      show (R.val / 128 * 128 + j.val - 128) % 8192 = 128 * t.val + (j.val - 128)
      omega
    · refine iblk4 m c t _ _ ?_ rfl
      show (R.val / 128 * 128 + j.val - 128) % 8192 = 128 * (t.val / 32 * 32 + min (t.val % 32 + 1) 31) + (j.val - 128 - 128)
      omega

theorem vals_eq (c : Dev nD) (t : Fin cfg0.N) (R : Fin 8192) (hR : R.val / 128 = t.val) (j : Fin 384) (hj : inSeq (t.val % 32) j.val) (l : Fin 256) :
    catw (iblk m c 5 t) (iblk m c 6 t) (iblk m c 7 t) j l = m ((c : Thread nD τ).loc main_arg2) (ix2 (keyRow R j) ⟨6400 + l.val, by omega⟩) := by
  have hR' := R.isLt
  obtain ⟨h1, h2⟩ := hj
  unfold catw
  split
  · refine iblk5 m c t _ _ ?_ rfl
    show (R.val / 128 * 128 + j.val - 128) % 8192 = 128 * (t.val / 32 * 32 + (t.val % 32 - 1)) + j.val
    omega
  · split
    · refine iblk6 m c t _ _ ?_ rfl
      show (R.val / 128 * 128 + j.val - 128) % 8192 = 128 * t.val + (j.val - 128)
      omega
    · refine iblk7 m c t _ _ ?_ rfl
      show (R.val / 128 * 128 + j.val - 128) % 8192 = 128 * (t.val / 32 * 32 + min (t.val % 32 + 1) 31) + (j.val - 128 - 128)
      omega

/-- A step's block at row `q`, where `R` is the row of the whole array. -/
theorem outBlock (c : Dev nD) (t : Fin cfg0.N) (R : Fin 8192) (hR : R.val / 128 = t.val) (q : Fin 128) (hq : q.val = R.val % 128) (h : Fin 8) (d : Fin 128) :
    blkAt (grid0.coords t) (iblk m c 0 t) (iblk m c 1 t) (iblk m c 2 t) (iblk m c 3 t) (iblk m c 4 t) (iblk m c 5 t) (iblk m c 6 t) (iblk m c 7 t) q h d
      = window (m ((c : Thread nD τ).loc main_arg0)) (m ((c : Thread nD τ).loc main_arg1)) (m ((c : Thread nD τ).loc main_arg2)) (m ((c : Thread nD τ).loc main_arg3)) R h d := by
  obtain ⟨-, -, -, -, -, -, -, -, -, ec⟩ := idx0 t
  unfold blkAt window
  rw [iblk0, ec, hq, hR]
  refine AttnMath.attend_masked _ _ _ _ _ _ (fun j hj => ?_) (fun j hj => vals_eq m c t R hR j hj.2 _)
  refine congrArg (fun a : EReal => a * AttnMath.sc) (Finset.sum_congr rfl fun e _ => congrArg₂ (fun a b : EReal => a * b) ?_ (keys_eq m c t R hR j hj.2 _))
  exact iblk1 m c t _ _ (by show R.val = 128 * t.val + q.val; omega) rfl

/-- What the result array ends holding. -/
def attention (q : Vec Ideal S8192x1024 .bf16) (k : Vec Ideal S8192x256 .bf16) (p : Vec Ideal S8192x10752 .bf16) (s : Vec Ideal S8 .f32) : Vec Ideal S8192x1024 .bf16 := fun I =>
  window q k p s (I 0) ⟨(I 1).val / 128, by have : (I 1).val < 1024 := (I 1).isLt; omega⟩ ⟨(I 1).val % 128, by omega⟩

theorem result8 (c : Dev nD) (I : S8192x1024.Idx) :
    (dats m 0 c).arrAt 8 cfg0.N I
      = attention (m ((c : Thread nD τ).loc main_arg0)) (m ((c : Thread nD τ).loc main_arg1)) (m ((c : Thread nD τ).loc main_arg2)) (m ((c : Thread nD τ).loc main_arg3)) I := by
  have hI0 : (I 0).val < 8192 := (I 0).isLt
  have hI1 : (I 1).val < 1024 := (I 1).isLt
  have ht : (I 0).val / 128 < cfg0.N := by
    rw [show cfg0.N = 64 from N_0]
    omega
  obtain ⟨-, -, -, -, -, -, -, -, ⟨e0, e1⟩, -⟩ := idx0 ⟨(I 0).val / 128, ht⟩
  have hb := congrFun (blocks8 m c ⟨(I 0).val / 128, ht⟩ (flush8 _)) (ix2 (⟨(I 0).val % 128, by omega⟩ : Fin 128) (I 1))
  rw [View.read_apply] at hb
  have he : ((cfg0.win 8).blk ⟨(I 0).val / 128, ht⟩).view.emb (ix2 (⟨(I 0).val % 128, by omega⟩ : Fin 128) (I 1)) = I := by
    funext a
    apply Fin.ext
    match a with
    | ⟨0, _⟩ => show win0_8.index ⟨(I 0).val / 128, ht⟩ 0 * 128 + 1 * ((I 0).val % 128) = (I 0).val; rw [e0]; show (I 0).val / 128 * 128 + _ = _; omega
    | ⟨1, _⟩ => show win0_8.index ⟨(I 0).val / 128, ht⟩ 1 * 1024 + 1 * (I 1).val = (I 1).val; rw [e1]; omega
  rw [he, flushed8_A, out8_eq] at hb
  refine hb.trans ?_
  refine (pieces_apply _ _ _ _ _ _ _ _ _ (ix2 (⟨(I 0).val % 128, by omega⟩ : Fin 128) (I 1))).trans ?_
  exact outBlock m c ⟨(I 0).val / 128, ht⟩ (I 0) rfl _ rfl _ _

end Cert.AttnIdeal.Val

end
-- ==== Proof.AttnValue.lean ====
/-
  The window attention: the kernel's result array and the reference's result are the same array.
-/
module

public import proofs.«01_k».proof.Defs
public import proofs.«01_k».proof.Proof.AttnMath
public import proofs.«01_k».proof.Proof.AttnKernel
public import proofs.«01_k».proof.Proof.Gen.AttnRefIdeal.Read
public import Idealize.ShloMosaic.Lib.Pipeline.Value
public import Idealize.ShloMosaic.Lib.Pointwise
public import Idealize.ShloMosaic.Lib.KernelVsHost
public import Idealize.ShloMosaic.Lib.Claim
public import Idealize.ShloMosaic.Lib.Tactic

@[expose] public section

set_option maxRecDepth 16384

noncomputable section

namespace Cert.AttnRefIdeal.Val

open Cert.Proof Cert.AttnRefIdeal Cert.AttnRefIdeal.Read Idealize.ShloMosaic Idealize.ShloMosaic.TcCoe Idealize.SL.Sem
open Cert.AttnIdeal.Val (band inSeq qcol kcol keyRow window attention and_one)

/-- An index of rank six: the sequence, the key head, the head within it, the block, the row within it, and the last. -/
def j6 {N : ℕ} (b h : Fin 2) (g : Fin 4) (n : Fin 32) (q : Fin 128) (d : Fin N) : (⟨6, ![2, 2, 4, 32, 128, N]⟩ : Shape).Idx := fun a => match a with
  | ⟨0, _⟩ => b
  | ⟨1, _⟩ => h
  | ⟨2, _⟩ => g
  | ⟨3, _⟩ => n
  | ⟨4, _⟩ => q
  | ⟨5, _⟩ => d

/-- The row of the flat arrays. -/
def row (b : Fin 2) (n : Fin 32) (q : Fin 128) : Fin 8192 := ⟨(b.val * 32 + n.val) * 128 + q.val, by omega⟩

/-- The query head. -/
def hd (h : Fin 2) (g : Fin 4) : Fin 8 := ⟨h.val * 4 + g.val, by omega⟩

/-! ## The mask -/

theorem band_read (q : Fin 128) (j : Fin 384) : val_main_v50 (F := Ideal) (ix2 q j) = band q.val j.val := by
  rw [val_main_v50_apply, val_main_v48_apply, val_main_v47_apply, val_main_v45_apply, val_main_v44_apply, val_main_v42_apply, val_main_v41_apply,
    val_main_v43_apply, val_main_v46_apply, val_main_v40_apply, val_main_v39_apply, val_main_v49_apply, val_main_c_1_apply, val_main_c_2_apply]
  rfl

theorem range_dec : ∀ (n : Fin 32) (j : Fin 384), (IntOp.andi
      (IntOp.cmpi .sge (IntOp.addi (IntOp.subi (IntOp.muli (BitVec.ofNat 32 n.val) 128#32) 128#32) (BitVec.ofNat 32 j.val)) 0#32)
      (IntOp.cmpi .slt (IntOp.addi (IntOp.subi (IntOp.muli (BitVec.ofNat 32 n.val) 128#32) 128#32) (BitVec.ofNat 32 j.val)) 4096#32) = 1#1)
    ↔ inSeq n.val j.val := by
  decide +kernel

theorem range_read (n : Fin 32) (j : Fin 384) : val_main_v66 (F := Ideal) (ix2 n j) = 1#1 ↔ inSeq n.val j.val := by
  rw [val_main_v66_apply, val_main_v63_apply, val_main_v65_apply, val_main_v61_apply, val_main_v59_apply, val_main_v56_apply, val_main_v54_apply,
    val_main_v52_apply, val_main_v51_apply, val_main_v53_apply, val_main_v55_apply, val_main_v60_apply, val_main_v58_apply, val_main_v57_apply,
    val_main_v62_apply, val_main_v64_apply, val_main_c_3_apply, val_main_c_4_apply, val_main_c_5_apply, val_main_c_6_apply]
  exact range_dec n j

theorem mask_read (b h : Fin 2) (g : Fin 4) (n : Fin 32) (q : Fin 128) (j : Fin 384) :
    val_main_call2_v1 (F := Ideal) (j6 b h g n q j) = 1#1 ↔ band q.val j.val = 1#1 ∧ inSeq n.val j.val := by
  rw [val_main_call2_v1_apply, val_main_v71_apply, val_main_v69_apply, val_main_v67_apply, val_main_v70_apply, val_main_v68_apply, and_one]
  refine and_congr (iff_of_eq (congrArg (· = 1#1) ?_)) (Iff.trans (iff_of_eq (congrArg (· = 1#1) ?_)) (range_read n j))
  · refine Eq.trans (congrArg _ ?_) (band_read q j)
    funext a
    match a with
    | ⟨0, _⟩ => rfl
    | ⟨1, _⟩ => rfl
  · refine congrArg _ ?_
    funext a
    match a with
    | ⟨0, _⟩ => rfl
    | ⟨1, _⟩ => rfl

/-! ## Queries, keys and values -/

theorem pos6 {N : ℕ} (b h : Fin 2) (g : Fin 4) (n : Fin 32) (q : Fin 128) (d : Fin N) :
    ((⟨6, ![2, 2, 4, 32, 128, N]⟩ : Shape).rowMajor (j6 b h g n q d)).val
      = b.val * (2 * (4 * (32 * (128 * N)))) + h.val * (4 * (32 * (128 * N))) + g.val * (32 * (128 * N)) + n.val * (128 * N) + q.val * N + d.val :=
  rowMajor_val6 (j6 b h g n q d) _ _ _ _ _ rfl rfl rfl rfl rfl

theorem q_read (x : Vec Ideal S8192x1024 .bf16) (b h : Fin 2) (g : Fin 4) (n : Fin 32) (q e : Fin 128) :
    val_main_v22 (F := Ideal) x (j6 b h g n q e) = x (ix2 (row b n q) (qcol (hd h g) e)) := by
  unfold val_main_v22
  rw [shapeCast_apply _ _ _ (ix4 b (hd h g) (⟨n.val * 128 + q.val, by omega⟩ : Fin 4096) e) (by
    refine (Shape.rowMajor_val_four _).trans (Eq.trans ?_ (pos6 b h g n q e).symm)
    show ((b.val * 8 + (h.val * 4 + g.val)) * 4096 + (n.val * 128 + q.val)) * 128 + e.val = _
    omega)]
  rw [val_main_v15_apply, val_main_v14_apply, val_main_v13_apply, val_main_v12_apply]
  show x _ = x _
  congr 1
  funext a
  apply Fin.ext
  match a with
  | ⟨0, _⟩ =>
    show (((((b.val * 4096 + (n.val * 128 + q.val)) * 8 + (h.val * 4 + g.val)) * 128 + e.val) / 4194304 * 4096 + (((b.val * 4096 + (n.val * 128 + q.val)) * 8 + (h.val * 4 + g.val)) * 128 + e.val) / 1024 % 4096) * 1024 + (((b.val * 4096 + (n.val * 128 + q.val)) * 8 + (h.val * 4 + g.val)) * 128 + e.val) % 1024) / 1024 = (b.val * 32 + n.val) * 128 + q.val
    omega
  | ⟨1, _⟩ =>
    show (((((b.val * 4096 + (n.val * 128 + q.val)) * 8 + (h.val * 4 + g.val)) * 128 + e.val) / 4194304 * 4096 + (((b.val * 4096 + (n.val * 128 + q.val)) * 8 + (h.val * 4 + g.val)) * 128 + e.val) / 1024 % 4096) * 1024 + (((b.val * 4096 + (n.val * 128 + q.val)) * 8 + (h.val * 4 + g.val)) * 128 + e.val) % 1024) % 1024 = (h.val * 4 + g.val) * 128 + e.val
    omega

theorem k_slot (x : Vec Ideal S8192x256 .bf16) (b h : Fin 2) (n : Fin 34) (r e : Fin 128) (R : Fin 8192) (L : Fin 256)
    (hR : R.val + 128 = b.val * 4096 + n.val * 128 + r.val) (lo : 128 ≤ n.val * 128 + r.val) (hi : n.val * 128 + r.val < 4224) (hL : L.val = h.val * 128 + e.val) :
    val_main_v24 (F := Ideal) x (ix5 b h n r e) = x (ix2 R L) := by
  rw [val_main_v24_apply]
  unfold val_main_v23
  rw [pad_apply_of_inside _ _ _ _ _ _ _ _ (ix4 b h (⟨n.val * 128 + r.val - 128, by omega⟩ : Fin 4096) e) (fun a => match a with
    | ⟨0, _⟩ => by show ((((b.val * 2 + h.val) * 34 + n.val) * 128 + r.val) * 128 + e.val) / 1114112 = 0 + b.val * (0 + 1); omega
    | ⟨1, _⟩ => by show ((((b.val * 2 + h.val) * 34 + n.val) * 128 + r.val) * 128 + e.val) / 557056 % 2 = 0 + h.val * (0 + 1); omega
    | ⟨2, _⟩ => by show ((((b.val * 2 + h.val) * 34 + n.val) * 128 + r.val) * 128 + e.val) / 128 % 4352 = 128 + (n.val * 128 + r.val - 128) * (0 + 1); omega
    | ⟨3, _⟩ => by show ((((b.val * 2 + h.val) * 34 + n.val) * 128 + r.val) * 128 + e.val) % 128 = 0 + e.val * (0 + 1); omega)]
  rw [val_main_v19_apply, val_main_v18_apply, val_main_v17_apply, val_main_v16_apply]
  show x _ = x _
  congr 1
  funext a
  apply Fin.ext
  match a with
  | ⟨0, _⟩ =>
    show (((((b.val * 4096 + (n.val * 128 + r.val - 128)) * 2 + h.val) * 128 + e.val) / 1048576 * 4096 + (((b.val * 4096 + (n.val * 128 + r.val - 128)) * 2 + h.val) * 128 + e.val) / 256 % 4096) * 256 + (((b.val * 4096 + (n.val * 128 + r.val - 128)) * 2 + h.val) * 128 + e.val) % 256) / 256 = R.val
    omega
  | ⟨1, _⟩ =>
    show (((((b.val * 4096 + (n.val * 128 + r.val - 128)) * 2 + h.val) * 128 + e.val) / 1048576 * 4096 + (((b.val * 4096 + (n.val * 128 + r.val - 128)) * 2 + h.val) * 128 + e.val) / 256 % 4096) * 256 + (((b.val * 4096 + (n.val * 128 + r.val - 128)) * 2 + h.val) * 128 + e.val) % 256) % 256 = L.val
    omega

theorem v_slot (x : Vec Ideal S8192x10752 .bf16) (b h : Fin 2) (n : Fin 34) (r e : Fin 128) (R : Fin 8192) (L : Fin 10752)
    (hR : R.val + 128 = b.val * 4096 + n.val * 128 + r.val) (lo : 128 ≤ n.val * 128 + r.val) (hi : n.val * 128 + r.val < 4224) (hL : L.val = 6400 + (h.val * 128 + e.val)) :
    val_main_v26 (F := Ideal) x (ix5 b h n r e) = x (ix2 R L) := by
  rw [val_main_v26_apply]
  unfold val_main_v25
  rw [pad_apply_of_inside _ _ _ _ _ _ _ _ (ix4 b h (⟨n.val * 128 + r.val - 128, by omega⟩ : Fin 4096) e) (fun a => match a with
    | ⟨0, _⟩ => by show ((((b.val * 2 + h.val) * 34 + n.val) * 128 + r.val) * 128 + e.val) / 1114112 = 0 + b.val * (0 + 1); omega
    | ⟨1, _⟩ => by show ((((b.val * 2 + h.val) * 34 + n.val) * 128 + r.val) * 128 + e.val) / 557056 % 2 = 0 + h.val * (0 + 1); omega
    | ⟨2, _⟩ => by show ((((b.val * 2 + h.val) * 34 + n.val) * 128 + r.val) * 128 + e.val) / 128 % 4352 = 128 + (n.val * 128 + r.val - 128) * (0 + 1); omega
    | ⟨3, _⟩ => by show ((((b.val * 2 + h.val) * 34 + n.val) * 128 + r.val) * 128 + e.val) % 128 = 0 + e.val * (0 + 1); omega)]
  rw [val_main_v21_apply, val_main_v20_apply, val_main_v9_apply, val_main_v1_apply, val_main_v0_apply]
  show x _ = x _
  congr 1
  funext a
  apply Fin.ext
  match a with
  | ⟨0, _⟩ =>
    show (((((b.val * 4096 + (n.val * 128 + r.val - 128)) * 2 + h.val) * 128 + e.val) / 1048576 * 4096 + (((b.val * 4096 + (n.val * 128 + r.val - 128)) * 2 + h.val) * 128 + e.val) / 256 % 4096) * 10752 + (6400 + (((b.val * 4096 + (n.val * 128 + r.val - 128)) * 2 + h.val) * 128 + e.val) % 256)) / 10752 = R.val
    omega
  | ⟨1, _⟩ =>
    show (((((b.val * 4096 + (n.val * 128 + r.val - 128)) * 2 + h.val) * 128 + e.val) / 1048576 * 4096 + (((b.val * 4096 + (n.val * 128 + r.val - 128)) * 2 + h.val) * 128 + e.val) / 256 % 4096) * 10752 + (6400 + (((b.val * 4096 + (n.val * 128 + r.val - 128)) * 2 + h.val) * 128 + e.val) % 256)) % 10752 = L.val
    omega

theorem k_read (x : Vec Ideal S8192x256 .bf16) (b h : Fin 2) (n : Fin 32) (j : Fin 384) (e : Fin 128) (hj : inSeq n.val j.val) (R : Fin 8192) (L : Fin 256)
    (hR : R.val + 128 = (b.val * 32 + n.val) * 128 + j.val) (hL : L.val = h.val * 128 + e.val) :
    val_main_v30 (F := Ideal) x (ix5 b h n j e) = x (ix2 R L) := by
  obtain ⟨h1, h2⟩ := hj
  have hn := n.isLt
  unfold val_main_v30
  by_cases c1 : j.val < 128
  · refine (concatenate_apply_piece (3 : Fin S2x2x32x384x128.rank) [(⟨S2x2x32x128x128, val_main_v27 (F := Ideal) x⟩ : (s : Shape) × (s.Idx → EReal)), (⟨S2x2x32x128x128, val_main_v28 (F := Ideal) x⟩ : (s : Shape) × (s.Idx → EReal)), (⟨S2x2x32x128x128, val_main_v29 (F := Ideal) x⟩ : (s : Shape) × (s.Idx → EReal))] _ _ 0 (Nat.succ_pos _) S2x2x32x128x128 (val_main_v27 (F := Ideal) x) rfl rfl 0 rfl (ix5 b h n (⟨j.val, c1⟩ : Fin 128) e) (fun a => match a with
      | ⟨0, _⟩ => fun _ => rfl
      | ⟨1, _⟩ => fun _ => rfl
      | ⟨2, _⟩ => fun _ => rfl
      | ⟨3, _⟩ => fun hne => absurd rfl hne
      | ⟨4, _⟩ => fun _ => rfl) (Nat.zero_add _)).trans ?_
    rw [val_main_v27_apply]
    refine Eq.trans (congrArg _ ?_) (k_slot x b h (⟨n.val, by omega⟩ : Fin 34) (⟨j.val, c1⟩ : Fin 128) e R L (by show _ = b.val * 4096 + n.val * 128 + j.val; omega)
      (by show 128 ≤ n.val * 128 + j.val; omega) (by show n.val * 128 + j.val < 4224; omega) hL)
    funext a
    match a with
    | ⟨0, _⟩ => rfl
    | ⟨1, _⟩ => rfl
    | ⟨2, _⟩ => rfl
    | ⟨3, _⟩ => rfl
    | ⟨4, _⟩ => rfl
  · by_cases c2 : j.val < 256
    · refine (concatenate_apply_piece (3 : Fin S2x2x32x384x128.rank) [(⟨S2x2x32x128x128, val_main_v27 (F := Ideal) x⟩ : (s : Shape) × (s.Idx → EReal)), (⟨S2x2x32x128x128, val_main_v28 (F := Ideal) x⟩ : (s : Shape) × (s.Idx → EReal)), (⟨S2x2x32x128x128, val_main_v29 (F := Ideal) x⟩ : (s : Shape) × (s.Idx → EReal))] _ _ 1 (Nat.succ_lt_succ (Nat.succ_pos _)) S2x2x32x128x128 (val_main_v28 (F := Ideal) x) rfl rfl 128 rfl (ix5 b h n (⟨j.val - 128, by omega⟩ : Fin 128) e) (fun a => match a with
        | ⟨0, _⟩ => fun _ => rfl
        | ⟨1, _⟩ => fun _ => rfl
        | ⟨2, _⟩ => fun _ => rfl
        | ⟨3, _⟩ => fun hne => absurd rfl hne
        | ⟨4, _⟩ => fun _ => rfl) (by show 128 + (j.val - 128) = j.val; omega)).trans ?_
      rw [val_main_v28_apply]
      refine Eq.trans (congrArg _ ?_) (k_slot x b h (⟨1 + n.val, by omega⟩ : Fin 34) (⟨j.val - 128, by omega⟩ : Fin 128) e R L (by show _ = b.val * 4096 + (1 + n.val) * 128 + (j.val - 128); omega)
        (by show 128 ≤ (1 + n.val) * 128 + (j.val - 128); omega) (by show (1 + n.val) * 128 + (j.val - 128) < 4224; omega) hL)
      funext a
      match a with
      | ⟨0, _⟩ => rfl
      | ⟨1, _⟩ => rfl
      | ⟨2, _⟩ => apply Fin.ext; first | rfl | exact Nat.add_comm _ _
      | ⟨3, _⟩ => rfl
      | ⟨4, _⟩ => rfl
    · refine (concatenate_apply_piece (3 : Fin S2x2x32x384x128.rank) [(⟨S2x2x32x128x128, val_main_v27 (F := Ideal) x⟩ : (s : Shape) × (s.Idx → EReal)), (⟨S2x2x32x128x128, val_main_v28 (F := Ideal) x⟩ : (s : Shape) × (s.Idx → EReal)), (⟨S2x2x32x128x128, val_main_v29 (F := Ideal) x⟩ : (s : Shape) × (s.Idx → EReal))] _ _ 2 (Nat.succ_lt_succ (Nat.succ_lt_succ (Nat.succ_pos _))) S2x2x32x128x128 (val_main_v29 (F := Ideal) x) rfl rfl 256 rfl (ix5 b h n (⟨j.val - 256, by omega⟩ : Fin 128) e) (fun a => match a with
        | ⟨0, _⟩ => fun _ => rfl
        | ⟨1, _⟩ => fun _ => rfl
        | ⟨2, _⟩ => fun _ => rfl
        | ⟨3, _⟩ => fun hne => absurd rfl hne
        | ⟨4, _⟩ => fun _ => rfl) (by show 256 + (j.val - 256) = j.val; omega)).trans ?_
      rw [val_main_v29_apply]
      refine Eq.trans (congrArg _ ?_) (k_slot x b h (⟨2 + n.val, by omega⟩ : Fin 34) (⟨j.val - 256, by omega⟩ : Fin 128) e R L (by show _ = b.val * 4096 + (2 + n.val) * 128 + (j.val - 256); omega)
        (by show 128 ≤ (2 + n.val) * 128 + (j.val - 256); omega) (by show (2 + n.val) * 128 + (j.val - 256) < 4224; omega) hL)
      funext a
      match a with
      | ⟨0, _⟩ => rfl
      | ⟨1, _⟩ => rfl
      | ⟨2, _⟩ => apply Fin.ext; first | rfl | exact Nat.add_comm _ _
      | ⟨3, _⟩ => rfl
      | ⟨4, _⟩ => rfl

theorem v_read (x : Vec Ideal S8192x10752 .bf16) (b h : Fin 2) (n : Fin 32) (j : Fin 384) (e : Fin 128) (hj : inSeq n.val j.val) (R : Fin 8192) (L : Fin 10752)
    (hR : R.val + 128 = (b.val * 32 + n.val) * 128 + j.val) (hL : L.val = 6400 + (h.val * 128 + e.val)) :
    val_main_v34 (F := Ideal) x (ix5 b h n j e) = x (ix2 R L) := by
  obtain ⟨h1, h2⟩ := hj
  have hn := n.isLt
  unfold val_main_v34
  by_cases c1 : j.val < 128
  · refine (concatenate_apply_piece (3 : Fin S2x2x32x384x128.rank) [(⟨S2x2x32x128x128, val_main_v31 (F := Ideal) x⟩ : (s : Shape) × (s.Idx → EReal)), (⟨S2x2x32x128x128, val_main_v32 (F := Ideal) x⟩ : (s : Shape) × (s.Idx → EReal)), (⟨S2x2x32x128x128, val_main_v33 (F := Ideal) x⟩ : (s : Shape) × (s.Idx → EReal))] _ _ 0 (Nat.succ_pos _) S2x2x32x128x128 (val_main_v31 (F := Ideal) x) rfl rfl 0 rfl (ix5 b h n (⟨j.val, c1⟩ : Fin 128) e) (fun a => match a with
      | ⟨0, _⟩ => fun _ => rfl
      | ⟨1, _⟩ => fun _ => rfl
      | ⟨2, _⟩ => fun _ => rfl
      | ⟨3, _⟩ => fun hne => absurd rfl hne
      | ⟨4, _⟩ => fun _ => rfl) (Nat.zero_add _)).trans ?_
    rw [val_main_v31_apply]
    refine Eq.trans (congrArg _ ?_) (v_slot x b h (⟨n.val, by omega⟩ : Fin 34) (⟨j.val, c1⟩ : Fin 128) e R L (by show _ = b.val * 4096 + n.val * 128 + j.val; omega)
      (by show 128 ≤ n.val * 128 + j.val; omega) (by show n.val * 128 + j.val < 4224; omega) hL)
    funext a
    match a with
    | ⟨0, _⟩ => rfl
    | ⟨1, _⟩ => rfl
    | ⟨2, _⟩ => rfl
    | ⟨3, _⟩ => rfl
    | ⟨4, _⟩ => rfl
  · by_cases c2 : j.val < 256
    · refine (concatenate_apply_piece (3 : Fin S2x2x32x384x128.rank) [(⟨S2x2x32x128x128, val_main_v31 (F := Ideal) x⟩ : (s : Shape) × (s.Idx → EReal)), (⟨S2x2x32x128x128, val_main_v32 (F := Ideal) x⟩ : (s : Shape) × (s.Idx → EReal)), (⟨S2x2x32x128x128, val_main_v33 (F := Ideal) x⟩ : (s : Shape) × (s.Idx → EReal))] _ _ 1 (Nat.succ_lt_succ (Nat.succ_pos _)) S2x2x32x128x128 (val_main_v32 (F := Ideal) x) rfl rfl 128 rfl (ix5 b h n (⟨j.val - 128, by omega⟩ : Fin 128) e) (fun a => match a with
        | ⟨0, _⟩ => fun _ => rfl
        | ⟨1, _⟩ => fun _ => rfl
        | ⟨2, _⟩ => fun _ => rfl
        | ⟨3, _⟩ => fun hne => absurd rfl hne
        | ⟨4, _⟩ => fun _ => rfl) (by show 128 + (j.val - 128) = j.val; omega)).trans ?_
      rw [val_main_v32_apply]
      refine Eq.trans (congrArg _ ?_) (v_slot x b h (⟨1 + n.val, by omega⟩ : Fin 34) (⟨j.val - 128, by omega⟩ : Fin 128) e R L (by show _ = b.val * 4096 + (1 + n.val) * 128 + (j.val - 128); omega)
        (by show 128 ≤ (1 + n.val) * 128 + (j.val - 128); omega) (by show (1 + n.val) * 128 + (j.val - 128) < 4224; omega) hL)
      funext a
      match a with
      | ⟨0, _⟩ => rfl
      | ⟨1, _⟩ => rfl
      | ⟨2, _⟩ => apply Fin.ext; first | rfl | exact Nat.add_comm _ _
      | ⟨3, _⟩ => rfl
      | ⟨4, _⟩ => rfl
    · refine (concatenate_apply_piece (3 : Fin S2x2x32x384x128.rank) [(⟨S2x2x32x128x128, val_main_v31 (F := Ideal) x⟩ : (s : Shape) × (s.Idx → EReal)), (⟨S2x2x32x128x128, val_main_v32 (F := Ideal) x⟩ : (s : Shape) × (s.Idx → EReal)), (⟨S2x2x32x128x128, val_main_v33 (F := Ideal) x⟩ : (s : Shape) × (s.Idx → EReal))] _ _ 2 (Nat.succ_lt_succ (Nat.succ_lt_succ (Nat.succ_pos _))) S2x2x32x128x128 (val_main_v33 (F := Ideal) x) rfl rfl 256 rfl (ix5 b h n (⟨j.val - 256, by omega⟩ : Fin 128) e) (fun a => match a with
        | ⟨0, _⟩ => fun _ => rfl
        | ⟨1, _⟩ => fun _ => rfl
        | ⟨2, _⟩ => fun _ => rfl
        | ⟨3, _⟩ => fun hne => absurd rfl hne
        | ⟨4, _⟩ => fun _ => rfl) (by show 256 + (j.val - 256) = j.val; omega)).trans ?_
      rw [val_main_v33_apply]
      refine Eq.trans (congrArg _ ?_) (v_slot x b h (⟨2 + n.val, by omega⟩ : Fin 34) (⟨j.val - 256, by omega⟩ : Fin 128) e R L (by show _ = b.val * 4096 + (2 + n.val) * 128 + (j.val - 256); omega)
        (by show 128 ≤ (2 + n.val) * 128 + (j.val - 256); omega) (by show (2 + n.val) * 128 + (j.val - 256) < 4224; omega) hL)
      funext a
      match a with
      | ⟨0, _⟩ => rfl
      | ⟨1, _⟩ => rfl
      | ⟨2, _⟩ => apply Fin.ext; first | rfl | exact Nat.add_comm _ _
      | ⟨3, _⟩ => rfl
      | ⟨4, _⟩ => rfl

theorem keyRow_val (b : Fin 2) (n : Fin 32) (q : Fin 128) (j : Fin 384) (hj : inSeq n.val j.val) :
    (keyRow (row b n q) j).val + 128 = (b.val * 32 + n.val) * 128 + j.val := by
  obtain ⟨h1, h2⟩ := hj
  show (((b.val * 32 + n.val) * 128 + q.val) / 128 * 128 + j.val - 128) % 8192 + 128 = _
  omega

theorem kcol_val (h : Fin 2) (g : Fin 4) (e : Fin 128) : (kcol (hd h g) e).val = h.val * 128 + e.val := by
  show (h.val * 4 + g.val) / 4 * 128 + e.val = _
  omega

/-- The score of key slot `j`, masked. -/
theorem score_read (x0 : Vec Ideal S8192x1024 .bf16) (x1 : Vec Ideal S8192x256 .bf16) (b h : Fin 2) (g : Fin 4) (n : Fin 32) (q : Fin 128) (j : Fin 384) :
    val_main_v72 (F := Ideal) x0 x1 (j6 b h g n q j)
      = if band q.val j.val = 1#1 ∧ inSeq n.val j.val then
          (∑ e : Fin 128, x0 (ix2 (row b n q) (qcol (hd h g) e)) * x1 (ix2 (keyRow (row b n q) j) (kcol (hd h g) e))) * AttnMath.sc else ⊥ := by
  rw [val_main_v72_apply]
  by_cases hm : band q.val j.val = 1#1 ∧ inSeq n.val j.val
  · rw [if_pos hm, (mask_read b h g n q j).2 hm]
    show val_main_v38 (F := Ideal) x0 x1 (j6 b h g n q j) = _
    rw [val_main_v38_apply, val_main_v37_apply, val_main_cst_apply, val_main_v36_apply, val_main_v35_apply]
    refine congrArg₂ (fun a b : EReal => a * b) (Finset.sum_congr rfl fun e _ => ?_) AttnMath.sc_bits
    refine (mul_comm _ _).trans (congrArg₂ (fun a b : EReal => a * b) ?_ ?_)
    · refine Eq.trans (congrArg _ ?_) (q_read x0 b h g n q e)
      funext a
      match a with
      | ⟨0, _⟩ => rfl
      | ⟨1, _⟩ => rfl
      | ⟨2, _⟩ => rfl
      | ⟨3, _⟩ => rfl
      | ⟨4, _⟩ => rfl
      | ⟨5, _⟩ => rfl
    · refine Eq.trans (congrArg _ ?_) (k_read x1 b h n j e hm.2 (keyRow (row b n q) j) (kcol (hd h g) e) ?_ ?_)
      · funext a
        match a with
        | ⟨0, _⟩ => rfl
        | ⟨1, _⟩ => rfl
        | ⟨2, _⟩ => rfl
        | ⟨3, _⟩ => rfl
        | ⟨4, _⟩ => rfl
      · exact keyRow_val b n q j hm.2
      · exact kcol_val h g e
  · rw [if_neg hm, val_main_call2_v2_apply, val_main_call2_v0_apply, val_main_cst_7_apply]
    have h0 : ¬ val_main_call2_v1 (F := Ideal) (j6 b h g n q j) = 1#1 := fun hh => hm ((mask_read b h g n q j).1 hh)
    exact (if_neg h0).trans AttnMath.bot_bits

theorem sink_read (s : Vec Ideal S8 .f32) (h : Fin 2) (g : Fin 4) (i : S1x2x4x1x1x1.Idx) (h1 : (i 1).val = h.val) (h2 : (i 2).val = g.val) :
    val_main_v73 (F := Ideal) s i = s (ix1 (hd h g)) := by
  unfold val_main_v73
  refine shapeCast_apply s _ i (ix1 (hd h g)) ?_
  refine (Shape.rowMajor_val_one _).trans (Eq.trans ?_ (rowMajor_val6 (d := ![1, 2, 4, 1, 1, 1]) i 8 4 1 1 1 rfl rfl rfl rfl rfl).symm)
  have i0 : (i 0).val < 1 := (i 0).isLt
  have i3 : (i 3).val < 1 := (i 3).isLt
  have i4 : (i 4).val < 1 := (i 4).isLt
  have i5 : (i 5).val < 1 := (i 5).isLt
  show h.val * 4 + g.val = (i 0).val * 8 + (i 1).val * 4 + (i 2).val * 1 + (i 3).val * 1 + (i 4).val * 1 + (i 5).val
  omega

theorem reduces_last : S2x2x4x32x128x384.Reduces [5] S2x2x4x32x128 := by decide

theorem lift_j6 (b h : Fin 2) (g : Fin 4) (n : Fin 32) (q : Fin 128) (j : Fin 384) : reduces_last.lift (ix5 b h g n q) j = j6 b h g n q j := by
  funext a
  apply Fin.ext
  match a with
  | ⟨0, _⟩ => rfl
  | ⟨1, _⟩ => rfl
  | ⟨2, _⟩ => rfl
  | ⟨3, _⟩ => rfl
  | ⟨4, _⟩ => rfl
  | ⟨5, _⟩ => rfl

theorem fold_read (x0 : Vec Ideal S8192x1024 .bf16) (x1 : Vec Ideal S8192x256 .bf16) (b h : Fin 2) (g : Fin 4) (n : Fin 32) (q : Fin 128) :
    val_main_v74 (F := Ideal) x0 x1 (ix5 b h g n q) = Finset.univ.fold max ⊥ fun j : Fin 384 => val_main_v72 (F := Ideal) x0 x1 (j6 b h g n q j) := by
  unfold val_main_v74
  generalize val_main_v72 (F := Ideal) x0 x1 = y
  rw [Host.reduce_eq_fold_single FloatOps.maximumf _ _ _ reduces_last, val_main_cst_8_apply, ← AttnMath.bot_bits]
  have hf : (y ∘ reduces_last.lift (ix5 b h g n q)) = fun j : Fin 384 => y (j6 b h g n q j) := funext fun j => congrArg y (lift_j6 b h g n q j)
  exact congrArg (fun f => Finset.fold max (Ideal.ofBits .f32 0xFF800000#32) f (Finset.univ : Finset (Fin 384))) hf

/-- The row's largest score, with the sink. -/
theorem max_read (x0 : Vec Ideal S8192x1024 .bf16) (x1 : Vec Ideal S8192x256 .bf16) (s : Vec Ideal S8 .f32) (b h : Fin 2) (g : Fin 4) (n : Fin 32) (q : Fin 128) (z : Fin 1) :
    val_main_v77 (F := Ideal) x0 x1 s (j6 b h g n q z)
      = max (Finset.univ.fold max ⊥ fun j : Fin 384 => val_main_v72 (F := Ideal) x0 x1 (j6 b h g n q j)) (s (ix1 (hd h g))) := by
  rw [val_main_v77_apply, val_main_v76_apply, sink_read s h g _ rfl rfl, val_main_v75_apply]
  have e : idx_main_v75 (j6 b h g n q z) = ix5 b h g n q := by
    funext a
    match a with
    | ⟨0, _⟩ => rfl
    | ⟨1, _⟩ => rfl
    | ⟨2, _⟩ => rfl
    | ⟨3, _⟩ => rfl
    | ⟨4, _⟩ => rfl
  rw [e, fold_read]
  rfl

theorem zero_bits : (Ideal.ofBits .f32 0x00000000#32 : EReal) = 0 := by
  simp [Ideal.ofBits, Ideal.ieee]

theorem exp_read (x0 : Vec Ideal S8192x1024 .bf16) (x1 : Vec Ideal S8192x256 .bf16) (s : Vec Ideal S8 .f32) (b h : Fin 2) (g : Fin 4) (n : Fin 32) (q : Fin 128) (j : Fin 384) :
    val_main_v80 (F := Ideal) x0 x1 s (j6 b h g n q j)
      = Ideal.exp (val_main_v72 (F := Ideal) x0 x1 (j6 b h g n q j) - val_main_v77 (F := Ideal) x0 x1 s (j6 b h g n q (0 : Fin 1))) := by
  rw [val_main_v80_apply, val_main_v79_apply, val_main_v78_apply]
  refine congrArg (fun i => Ideal.exp (val_main_v72 (F := Ideal) x0 x1 (j6 b h g n q j) - val_main_v77 (F := Ideal) x0 x1 s i)) ?_
  funext a
  match a with
  | ⟨0, _⟩ => rfl
  | ⟨1, _⟩ => rfl
  | ⟨2, _⟩ => rfl
  | ⟨3, _⟩ => rfl
  | ⟨4, _⟩ => rfl
  | ⟨5, _⟩ => rfl

theorem denom_read (x0 : Vec Ideal S8192x1024 .bf16) (x1 : Vec Ideal S8192x256 .bf16) (s : Vec Ideal S8 .f32) (b h : Fin 2) (g : Fin 4) (n : Fin 32) (q : Fin 128) :
    val_main_v86 (F := Ideal) x0 x1 s (j6 b h g n q (0 : Fin 1))
      = (∑ j : Fin 384, Ideal.exp (val_main_v72 (F := Ideal) x0 x1 (j6 b h g n q j) - val_main_v77 (F := Ideal) x0 x1 s (j6 b h g n q (0 : Fin 1))))
        + Ideal.exp (s (ix1 (hd h g)) - val_main_v77 (F := Ideal) x0 x1 s (j6 b h g n q (0 : Fin 1))) := by
  rw [val_main_v86_apply, val_main_v82_apply, val_main_v81_apply, val_main_cst_9_apply, val_main_v85_apply, val_main_v84_apply, val_main_v83_apply, sink_read s h g _ rfl rfl]
  refine congrArg₂ (fun a b : EReal => a + b) ?_ rfl
  refine (congrArg₂ (fun a b : EReal => a + b) zero_bits (Finset.sum_congr rfl fun j _ => ?_)).trans (zero_add _)
  refine Eq.trans (congrArg _ ?_) (exp_read x0 x1 s b h g n q j)
  funext a
  match a with
  | ⟨0, _⟩ => rfl
  | ⟨1, _⟩ => rfl
  | ⟨2, _⟩ => rfl
  | ⟨3, _⟩ => rfl
  | ⟨4, _⟩ => rfl
  | ⟨5, _⟩ => rfl

theorem out_read (x0 : Vec Ideal S8192x1024 .bf16) (x1 : Vec Ideal S8192x256 .bf16) (x2 : Vec Ideal S8192x10752 .bf16) (s : Vec Ideal S8 .f32) (b h : Fin 2) (g : Fin 4) (n : Fin 32) (q d : Fin 128) :
    val_main_v90 (F := Ideal) x0 x1 x2 s (j6 b h g n q d) = window x0 x1 x2 s (row b n q) (hd h g) d := by
  have hs : (fun j : Fin 384 => val_main_v72 (F := Ideal) x0 x1 (j6 b h g n q j)) = _ := funext fun j => score_read x0 x1 b h g n q j
  have e : val_main_v90 (F := Ideal) x0 x1 x2 s (j6 b h g n q d)
      = AttnMath.attend Ideal.exp (fun j => val_main_v72 (F := Ideal) x0 x1 (j6 b h g n q j)) (s (ix1 (hd h g))) (fun j => val_main_v34 (F := Ideal) x2 (ix5 b h n j d)) := by
    unfold AttnMath.attend
    rw [← max_read x0 x1 s b h g n q 0, val_main_v90_apply, val_main_v88_apply, val_main_v87_apply, val_main_v89_apply]
    refine congrArg₂ Ideal.div (Finset.sum_congr rfl fun j _ => (mul_comm _ _).trans (congrArg₂ (fun a b : EReal => a * b) ?_ ?_)) ?_
    · refine Eq.trans (congrArg _ ?_) (exp_read x0 x1 s b h g n q j)
      funext a
      match a with
      | ⟨0, _⟩ => rfl
      | ⟨1, _⟩ => rfl
      | ⟨2, _⟩ => rfl
      | ⟨3, _⟩ => rfl
      | ⟨4, _⟩ => rfl
      | ⟨5, _⟩ => rfl
    · refine congrArg _ ?_
      funext a
      match a with
      | ⟨0, _⟩ => rfl
      | ⟨1, _⟩ => rfl
      | ⟨2, _⟩ => rfl
      | ⟨3, _⟩ => rfl
      | ⟨4, _⟩ => rfl
    · refine Eq.trans (congrArg _ ?_) (denom_read x0 x1 s b h g n q)
      funext a
      match a with
      | ⟨0, _⟩ => rfl
      | ⟨1, _⟩ => rfl
      | ⟨2, _⟩ => rfl
      | ⟨3, _⟩ => rfl
      | ⟨4, _⟩ => rfl
      | ⟨5, _⟩ => rfl
  have hq : (row b n q).val % 128 = q.val := by show ((b.val * 32 + n.val) * 128 + q.val) % 128 = q.val; omega
  have hn : (row b n q).val / 128 % 32 = n.val := by show ((b.val * 32 + n.val) * 128 + q.val) / 128 % 32 = n.val; omega
  rw [e, hs]
  unfold window
  rw [hq, hn]
  refine AttnMath.attend_masked _ _ _ _ _ _ (fun j _ => rfl) (fun j hj => ?_)
  exact v_read x2 b h n j d hj.2 _ _ (keyRow_val b n q j hj.2) (by show 6400 + (kcol (hd h g) d).val = _; rw [kcol_val])

/-- The reference's result, back in the flat layout. -/
theorem result (x0 : Vec Ideal S8192x1024 .bf16) (x1 : Vec Ideal S8192x256 .bf16) (x2 : Vec Ideal S8192x10752 .bf16) (s : Vec Ideal S8 .f32) :
    val_main_v95 (F := Ideal) x0 x1 x2 s = attention x0 x1 x2 s := by
  funext i
  have h0 : (i 0).val < 8192 := (i 0).isLt
  have h1 : (i 1).val < 1024 := (i 1).isLt
  rw [val_main_v95_apply, val_main_v94_apply, val_main_v93_apply, val_main_v92_apply]
  unfold val_main_v91
  refine (shapeCast_apply _ _ _ (j6 (⟨(i 0).val / 4096, by omega⟩ : Fin 2) (⟨(i 1).val / 512, by omega⟩ : Fin 2) (⟨(i 1).val / 128 % 4, by omega⟩ : Fin 4)
    (⟨(i 0).val / 128 % 32, by omega⟩ : Fin 32) (⟨(i 0).val % 128, by omega⟩ : Fin 128) (⟨(i 1).val % 128, by omega⟩ : Fin 128)) ?_).trans ?_
  · refine (pos6 _ _ _ _ _ _).trans (Eq.trans ?_ (Shape.rowMajor_val_four _).symm)
    show (i 0).val / 4096 * (2 * (4 * (32 * (128 * 128)))) + (i 1).val / 512 * (4 * (32 * (128 * 128))) + (i 1).val / 128 % 4 * (32 * (128 * 128))
        + (i 0).val / 128 % 32 * (128 * 128) + (i 0).val % 128 * 128 + (i 1).val % 128
      = ((((((i 0).val * 1024 + (i 1).val) / 4194304 * 4096 + ((i 0).val * 1024 + (i 1).val) / 1024 % 4096) * 1024 + ((i 0).val * 1024 + (i 1).val) % 1024) / 4194304 * 8
        + ((((i 0).val * 1024 + (i 1).val) / 4194304 * 4096 + ((i 0).val * 1024 + (i 1).val) / 1024 % 4096) * 1024 + ((i 0).val * 1024 + (i 1).val) % 1024) / 128 % 8) * 4096
        + ((((i 0).val * 1024 + (i 1).val) / 4194304 * 4096 + ((i 0).val * 1024 + (i 1).val) / 1024 % 4096) * 1024 + ((i 0).val * 1024 + (i 1).val) % 1024) / 1024 % 4096) * 128
        + ((((i 0).val * 1024 + (i 1).val) / 4194304 * 4096 + ((i 0).val * 1024 + (i 1).val) / 1024 % 4096) * 1024 + ((i 0).val * 1024 + (i 1).val) % 1024) % 128
    have e : (((i 0).val * 1024 + (i 1).val) / 4194304 * 4096 + ((i 0).val * 1024 + (i 1).val) / 1024 % 4096) * 1024 + ((i 0).val * 1024 + (i 1).val) % 1024
        = (i 0).val * 1024 + (i 1).val := by omega
    rw [e]
    omega
  · refine (out_read x0 x1 x2 s _ _ _ _ _ _).trans ?_
    unfold attention
    congr 1
    · apply Fin.ext
      show ((i 0).val / 4096 * 32 + (i 0).val / 128 % 32) * 128 + (i 0).val % 128 = (i 0).val
      omega
    · apply Fin.ext
      show (i 1).val / 512 * 4 + (i 1).val / 128 % 4 = (i 1).val / 128
      omega

end Cert.AttnRefIdeal.Val

namespace Cert.Proof.Attn

open Idealize.ShloMosaic Idealize.ShloMosaic.TcCoe Idealize.SL.Sem

/-- Run on the same arrays, the kernel and the reference end with the same result. -/
theorem algebraic : Cert.algebraic_AttnIdeal_AttnRefIdeal := by
  intro m ρ m' ρ' _ hagree
  refine ⟨fun c => (Cert.AttnIdeal.Gen.dats m 0 c).arrAt 8 Cert.AttnIdeal.cfg0.N, Cert.AttnIdeal.Value.run_blocks (F := Ideal) m ρ, ?_⟩
  refine (θ_run Cert.AttnRefIdeal.defs _ _).mono (fun _ h c => ⟨(h c).1.trans ?_, (h c).2⟩) (Cert.AttnRefIdeal.Value.run (F := Ideal) m' ρ')
  obtain ⟨a0, a1, a2, a3⟩ := hagree c
  rw [Cert.AttnRefIdeal.Read.val_main_v95_eq, a0, a1, a2, a3]
  refine (Cert.AttnRefIdeal.Val.result _ _ _ _).trans ?_
  funext i
  exact (Cert.AttnIdeal.Val.result8 m c i).symm

end Cert.Proof.Attn

end
-- ==== Proof.InprojValue.lean ====
/-
  The input projection: what the kernel's result array ends holding is the product of the activations with the weights,
  and that is what the reference computes. The kernel keeps a bf16 copy of the weight tile in a carried buffer, written
  at the first row block of each column tile; over the extended reals the copy is the tile itself.
-/
module

public import proofs.«01_k».proof.Defs
public import proofs.«01_k».proof.Proof.Gen.InprojIdeal.Value
public import proofs.«01_k».proof.Proof.Gen.InprojRefIdeal.Run
public import proofs.«01_k».proof.Proof.Gen.InprojRefIdeal.Read
public import Idealize.ShloMosaic.Lib.Pipeline.Value
public import Idealize.ShloMosaic.Lib.Pointwise
public import Idealize.ShloMosaic.Lib.Claim
public import Idealize.ShloMosaic.Lib.Tactic

@[expose] public section

set_option maxRecDepth 16384

noncomputable section

namespace Cert.InprojIdeal.Val

open Cert.InprojIdeal Cert.InprojIdeal.Gen Cert.InprojIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

section
variable {F : FTy → Type} [FloatOps F]

/-- At the first row block the body leaves the weight tile's bf16 copy in the carried buffer. -/
theorem sout_A (c : Dev nD) (i : grid0.Coords) (arg2 : Memref sig .tc .vmem S1024x2048 .bf16) (harg2 : arg2.IsWhole) (arg3 : Memref sig .tc .vmem S2048x1792 .f32) (harg3 : arg3.IsWhole) (arg4 : Memref sig .tc .vmem S1024x1792 .bf16) (harg4 : arg4.IsWhole) (arg5 : Memref sig .tc .vmem S2048x1792 .bf16) (harg5 : arg5.IsWhole) (hc0 : cond0_0 i)
    (x0 : Vec F S1024x2048 .bf16) (x1 : Vec F S2048x1792 .f32) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz]
  simp only [View.readAt_eq_ld, harg3.read_unread, View.ld_unit_zero (S := S2048x1792) hz]

/-- At the first row block the output block is the product of the rows with the copy just written. -/
theorem out_A (c : Dev nD) (i : grid0.Coords) (arg2 : Memref sig .tc .vmem S1024x2048 .bf16) (harg2 : arg2.IsWhole) (arg3 : Memref sig .tc .vmem S2048x1792 .f32) (harg3 : arg3.IsWhole) (arg4 : Memref sig .tc .vmem S1024x1792 .bf16) (harg4 : arg4.IsWhole) (arg5 : Memref sig .tc .vmem S2048x1792 .bf16) (harg5 : arg5.IsWhole) (hc0 : cond0_0 i)
    (x0 : Vec F S1024x2048 .bf16) (x1 : Vec F S2048x1792 .f32) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz, View.readCov_unit_zero (S := S2048x1792) _ hz]
  simp only [View.readAt_eq_ld, harg2.read_unread, harg3.read_unread, View.ld_unit_zero (S := S2048x1792) hz, View.ld_unit_zero (S := S1024x2048) hz]

/-- At a later row block the output block is the product of the rows with the carried copy. -/
theorem out_B (c : Dev nD) (i : grid0.Coords) (arg2 : Memref sig .tc .vmem S1024x2048 .bf16) (harg2 : arg2.IsWhole) (arg3 : Memref sig .tc .vmem S2048x1792 .f32) (harg3 : arg3.IsWhole) (arg4 : Memref sig .tc .vmem S1024x1792 .bf16) (harg4 : arg4.IsWhole) (arg5 : Memref sig .tc .vmem S2048x1792 .bf16) (harg5 : arg5.IsWhole) (hc0 : ¬cond0_0 i)
    (x0 : Vec F S1024x2048 .bf16) (x1 : Vec F S2048x1792 .f32) (xs0 : Vec F S2048x1792 .bf16) :
    out0_B_2 c i arg2 harg2 arg3 harg3 arg4 harg4 arg5 harg5 hc0 x0 x1 xs0 = k0_pay2 x0 xs0 := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero hz]
  simp only [View.readAt_eq_ld, harg2.read_unread, harg5.read_unread, View.ld_unit_zero (S := S2048x1792) hz, View.ld_unit_zero (S := S1024x2048) hz]

end

/-! ## Over the extended reals -/

theorem pay1_apply (x : Vec Ideal S2048x1792 .f32) (j : S2048x1792.Idx) : k0_pay1 (F := Ideal) x j = x j := by
  unfold k0_pay1
  simp only [shapeCast_self]
  rfl

theorem pay2_apply (x : Vec Ideal S1024x2048 .bf16) (w : Vec Ideal S2048x1792 .bf16) (j : S1024x1792.Idx) :
    k0_pay2 (F := Ideal) x w j = ∑ k : Fin 2048, x (ix2 (j 0) k) * w (ix2 k (j 1)) := by
  pointwise [k0_pay2]

/-- The product of the activations with the weights. -/
def prod (x : Vec Ideal S8192x2048 .bf16) (w : Vec Ideal S2048x10752 .f32) : Vec Ideal S8192x10752 .bf16 := fun i =>
  ∑ k : Fin 2048, x (ix2 (i 0) k) * w (ix2 k (i 1))

variable (m : (ℓ : Loc nD τ sig) → Buf (Elt Ideal) ℓ)

/-- The block indices of the windows, in closed form. -/
theorem idx0 : ∀ t : Fin cfg0.N, win0_0.index t (0 : Fin 2) = t.val % 8 ∧ win0_0.index t (1 : Fin 2) = 0
    ∧ win0_1.index t (0 : Fin 2) = 0 ∧ win0_1.index t (1 : Fin 2) = t.val / 8 :=
  (by decide +kernel : ∀ t : Fin grid0.N, _)

theorem iblk0 (c : Dev nD) (t : Fin cfg0.N) (j : S1024x2048.Idx) (J : S8192x2048.Idx)
    (h0 : (J 0).val = 1024 * (t.val % 8) + (j 0).val) (h1 : (J 1).val = (j 1).val) :
    (iblk m c 0 t : Vec Ideal S1024x2048 .bf16) j = m ((c : Thread nD τ).loc main_arg0) J := by
  obtain ⟨e0, e1, -, -⟩ := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * (j 0).val = (J 0).val; rw [e0, h0]; omega
  | ⟨1, _⟩ => show win0_0.index t 1 * 2048 + 1 * (j 1).val = (J 1).val; rw [e1, h1]; omega

theorem iblk1 (c : Dev nD) (t : Fin cfg0.N) (j : S2048x1792.Idx) (J : S2048x10752.Idx)
    (h0 : (J 0).val = (j 0).val) (h1 : (J 1).val = 1792 * (t.val / 8) + (j 1).val) :
    (iblk m c 1 t : Vec Ideal S2048x1792 .f32) j = m ((c : Thread nD τ).loc main_arg1) J := by
  obtain ⟨-, -, e0, e1⟩ := idx0 t
  unfold iblk
  rw [View.read_apply]
  show V m c main_arg1 _ = m (c.tc.loc main_arg1) _
  unfold V
  congr 1
  funext a
  apply Fin.ext
  match a with
  | ⟨0, _⟩ => show win0_1.index t 0 * 2048 + 1 * (j 0).val = (J 0).val; rw [e0, h0]; omega
  | ⟨1, _⟩ => show win0_1.index t 1 * 1792 + 1 * (j 1).val = (J 1).val; rw [e1, h1]; omega

/-- The carried buffer after point `n` holds column tile `n / 8` of the weights. -/
theorem carried (c : Dev nD) : ∀ (n : ℕ) (hn : n < cfg0.N) (j : S2048x1792.Idx) (J : S2048x10752.Idx),
    (J 0).val = (j 0).val → (J 1).val = 1792 * (n / 8) + (j 1).val →
    (outsAt0 m c n hn).2 j = m ((c : Thread nD τ).loc main_arg1) J
  | 0, hn, j, J, h0, h1 => by
    rw [outsAt0_A m c ⟨0, hn⟩ (Nat.zero_mod 8)]
    dsimp only
    rw [sout_A, pay1_apply]
    exact iblk1 m c ⟨0, hn⟩ j J h0 h1
  | n + 1, hn, j, J, h0, h1 => by
    by_cases hm : (n + 1) % 8 = 0
    · rw [outsAt0_A m c ⟨n + 1, hn⟩ hm]
      dsimp only
      rw [sout_A, pay1_apply]
      exact iblk1 m c ⟨n + 1, hn⟩ j J h0 h1
    · rw [outsAt0_B m c ⟨n + 1, hn⟩ hm]
      dsimp only
      unfold sout0_B_0
      exact carried c n _ j J h0 (by rw [h1]; omega)

/-- The output block after point `n`: rows `n % 8`, columns `n / 8` of the product. -/
theorem outBlock (c : Dev nD) (n : ℕ) (hn : n < cfg0.N) (j : S1024x1792.Idx) (J : S8192x10752.Idx)
    (h0 : (J 0).val = 1024 * (n % 8) + (j 0).val) (h1 : (J 1).val = 1792 * (n / 8) + (j 1).val) :
    (outsAt0 m c n hn).1 j = prod (m ((c : Thread nD τ).loc main_arg0)) (m ((c : Thread nD τ).loc main_arg1)) J := by
  have e : (outsAt0 m c n hn).1 = k0_pay2 (iblk m c 0 ⟨n, hn⟩) ((outsAt0 m c n hn).2) := by
    by_cases hm : n % 8 = 0
    · rw [outsAt0_A m c ⟨n, hn⟩ hm]
      dsimp only
      rw [out_A, sout_A]
    · rw [outsAt0_B m c ⟨n, hn⟩ hm]
      dsimp only
      rw [out_B]
      unfold sout0_B_0
      rfl
  rw [e, pay2_apply]
  unfold prod
  refine Finset.sum_congr rfl fun k _ => ?_
  rw [carried m c n hn (ix2 k (j 1)) (ix2 k (J 1)) rfl h1]
  exact congrArg (· * _) (iblk0 m c ⟨n, hn⟩ (ix2 (j 0) k) (ix2 (J 0) k) h0 rfl)

/-- The result array is the product of the two arguments. -/
theorem result (c : Dev nD) (i : S8192x10752.Idx) :
    Value.G2 m c i = prod (m ((c : Thread nD τ).loc main_arg0)) (m ((c : Thread nD τ).loc main_arg1)) i := by
  have hi0 : (i 0).val < 8192 := (i 0).isLt
  have hi1 : (i 1).val < 10752 := (i 1).isLt
  have hp : pt2Of i < cfg0.N := by
    rw [show cfg0.N = 48 from N_0]
    show 1 * ((i 0).val / 1024 - 0) + 8 * ((i 1).val / 1792 - 0) < 48
    omega
  unfold Value.G2
  rw [dif_pos hp, ← outsAt0_sweep m c (pt2Of i) hp]
  refine outBlock m c (pt2Of i) hp (loc2Of i) i ?_ ?_
  · show (i 0).val = 1024 * ((1 * ((i 0).val / 1024 - 0) + 8 * ((i 1).val / 1792 - 0)) % 8) + (i 0).val % 1024
    omega
  · show (i 1).val = 1792 * ((1 * ((i 0).val / 1024 - 0) + 8 * ((i 1).val / 1792 - 0)) / 8) + (i 1).val % 1792
    omega

end Cert.InprojIdeal.Val

namespace Cert.Proof.Inproj

open Idealize.ShloMosaic Idealize.ShloMosaic.TcCoe Idealize.SL.Sem

theorem algebraic : Cert.algebraic_InprojIdeal_InprojRefIdeal := by
  intro m ρ m' ρ' _ hagree
  refine ⟨fun c => Cert.InprojIdeal.Value.G2 m c, Cert.InprojIdeal.Value.run (F := Ideal) m ρ, ?_⟩
  refine (θ_run Cert.InprojRefIdeal.defs _ _).mono (fun _ h c => ⟨(h c).1.trans ?_, (h c).2⟩) (Cert.InprojRefIdeal.Value.run (F := Ideal) m' ρ')
  rw [Cert.InprojRefIdeal.Read.val_main_v2_eq, (hagree c).1, (hagree c).2]
  funext i
  show _ = Cert.InprojIdeal.Value.G2 m c i
  rw [Cert.InprojIdeal.Val.result m c i]
  unfold Cert.InprojIdeal.Val.prod
  rw [Cert.InprojRefIdeal.Read.val_main_v2_apply]
  show Cert.InprojRefIdeal.Read.val_main_v1 (F := Ideal) _ _ i = _
  rw [Cert.InprojRefIdeal.Read.val_main_v1_apply]
  refine Finset.sum_congr rfl fun k _ => congrArg₂ (· * ·) ?_ ?_
  · show m _ _ = m _ _
    congr 1; funext a; match a with | ⟨0, _⟩ => rfl | ⟨1, _⟩ => rfl
  · congr 1; funext a; match a with | ⟨0, _⟩ => rfl | ⟨1, _⟩ => rfl

end Cert.Proof.Inproj

end
-- ==== Proof.FfnValue.lean ====
/-
  The experts' feed-forward: what the kernel's result array ends holding is, for each expert, the product of the gated
  hidden activations with the down projection, and that is what the reference computes. The kernel sums over the hidden
  axis in four chunks of 256, carrying the partial sum in a scratch buffer.
-/
module

public import proofs.«01_k».proof.Defs
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pipeline.Value
public import Idealize.ShloMosaic.Lib.Pointwise
public import Idealize.ShloMosaic.Lib.Claim
public import Idealize.ShloMosaic.Lib.Tactic

@[expose] public section

set_option maxRecDepth 16384

noncomputable section

namespace Cert.FfnIdeal.Val

open Cert.FfnIdeal Cert.FfnIdeal.Gen Cert.FfnIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- At an expert's first chunk the carried buffer is reset and the chunk's products are added. -/
theorem sout_A (c : Dev nD) (i : grid0.Coords) (arg2 : Memref sig .tc .vmem S1x1024x2048 .bf16) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .bf16) (harg6 : arg6.IsWhole) (arg7 : Memref sig .tc .vmem S1024x2048 .f32) (harg7 : arg7.IsWhole) (hc0 : cond0_0 i) (hc1 : ¬cond0_1 i)
    (x0 : Vec F S1x1024x2048 .bf16) (x1 : Vec F S1x2048x256 .f32) (x2 : Vec F S1x2048x256 .f32) (x3 : Vec F S1x256x2048 .f32) :
    sout0_A_0 c i arg2 harg2 arg3 harg3 arg4 harg4 arg5 harg5 arg6 harg6 arg7 harg7 hc0 hc1 x0 x1 x2 x3 = k0_pay2 x0 x1 x2 k0_pay1 x3 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero hz, View.readCov_unit_zero (S := S1024x2048) _ hz]
  simp only [View.readAt_eq_ld, harg2.read_unread, harg3.read_unread, harg4.read_unread, harg5.read_unread, View.ld_unit_zero (S := S1x1024x2048) hz3, View.ld_unit_zero (S := S1x2048x256) hz3, View.ld_unit_zero (S := S1x256x2048) hz3, View.ld_unit_zero (S := S1024x2048) hz]

/-- At a middle chunk the chunk's products are added to what the carried buffer holds. -/
theorem sout_B (c : Dev nD) (i : grid0.Coords) (arg2 : Memref sig .tc .vmem S1x1024x2048 .bf16) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .bf16) (harg6 : arg6.IsWhole) (arg7 : Memref sig .tc .vmem S1024x2048 .f32) (harg7 : arg7.IsWhole) (hc0 : ¬cond0_0 i) (hc1 : ¬cond0_1 i)
    (x0 : Vec F S1x1024x2048 .bf16) (x1 : Vec F S1x2048x256 .f32) (x2 : Vec F S1x2048x256 .f32) (x3 : Vec F S1x256x2048 .f32) (xs0 : Vec F S1024x2048 .f32) :
    sout0_B_0 c i arg2 harg2 arg3 harg3 arg4 harg4 arg5 harg5 arg6 harg6 arg7 harg7 hc0 hc1 x0 x1 x2 x3 xs0 = k0_pay2 x0 x1 x2 xs0 x3 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S1x1024x2048) hz3, View.ld_unit_zero (S := S1x2048x256) hz3, View.ld_unit_zero (S := S1x256x2048) hz3, View.ld_unit_zero (S := S1024x2048) hz]

/-- The same at the last chunk. -/
theorem sout_C (c : Dev nD) (i : grid0.Coords) (arg2 : Memref sig .tc .vmem S1x1024x2048 .bf16) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .bf16) (harg6 : arg6.IsWhole) (arg7 : Memref sig .tc .vmem S1024x2048 .f32) (harg7 : arg7.IsWhole) (hc0 : ¬cond0_0 i) (hc1 : cond0_1 i)
    (x0 : Vec F S1x1024x2048 .bf16) (x1 : Vec F S1x2048x256 .f32) (x2 : Vec F S1x2048x256 .f32) (x3 : Vec F S1x256x2048 .f32) (xs0 : Vec F S1024x2048 .f32) :
    sout0_C_0 c i arg2 harg2 arg3 harg3 arg4 harg4 arg5 harg5 arg6 harg6 arg7 harg7 hc0 hc1 x0 x1 x2 x3 xs0 = k0_pay2 x0 x1 x2 xs0 x3 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S1x1024x2048) hz3, View.ld_unit_zero (S := S1x2048x256) hz3, View.ld_unit_zero (S := S1x256x2048) hz3, View.ld_unit_zero (S := S1024x2048) hz]

/-- At the last chunk the output block is the carried buffer just written. -/
theorem out_C (c : Dev nD) (i : grid0.Coords) (arg2 : Memref sig .tc .vmem S1x1024x2048 .bf16) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x2048 .f32) (harg5 : arg5.IsWhole) (arg6 : Memref sig .tc .vmem S1x1024x2048 .bf16) (harg6 : arg6.IsWhole) (arg7 : Memref sig .tc .vmem S1024x2048 .f32) (harg7 : arg7.IsWhole) (hc0 : ¬cond0_0 i) (hc1 : cond0_1 i)
    (x0 : Vec F S1x1024x2048 .bf16) (x1 : Vec F S1x2048x256 .f32) (x2 : Vec F S1x2048x256 .f32) (x3 : Vec F S1x256x2048 .f32) (xs0 : Vec F S1024x2048 .f32) :
    out0_C_4 c i arg2 harg2 arg3 harg3 arg4 harg4 arg5 harg5 arg6 harg6 arg7 harg7 hc0 hc1 x0 x1 x2 x3 xs0 = k0_pay3 (k0_pay2 x0 x1 x2 xs0 x3) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S1024x2048) _ hz]
  simp only [View.readAt_eq_ld, harg2.read_unread, harg3.read_unread, harg4.read_unread, harg5.read_unread, harg7.read_unread, View.ld_unit_zero (S := S1x1024x2048) hz3, View.ld_unit_zero (S := S1x2048x256) hz3, View.ld_unit_zero (S := S1x256x2048) hz3, View.ld_unit_zero (S := S1024x2048) hz]

end

/-! ## Over the extended reals -/

theorem pay1_apply (j : S1024x2048.Idx) : k0_pay1 (F := Ideal) j = (0 : EReal) := by
  pointwise [k0_pay1]

theorem pay3_apply (a : Vec Ideal S1024x2048 .f32) (e : Fin 1) (r : Fin 1024) (c : Fin 2048) :
    k0_pay3 (F := Ideal) a (ix3 e r c) = a (ix2 r c) := by
  pointwise [k0_pay3]

/-- One expert's hidden activation, from the rows' products with its gate and up columns. -/
def act (g u : EReal) : EReal := g * Ideal.logistic g * u

theorem pay2_apply (x : Vec Ideal S1x1024x2048 .bf16) (g u : Vec Ideal S1x2048x256 .f32) (a : Vec Ideal S1024x2048 .f32)
    (w : Vec Ideal S1x256x2048 .f32) (r : Fin 1024) (c : Fin 2048) :
    k0_pay2 (F := Ideal) x g u a w (ix2 r c) = (a (ix2 r c) : EReal) + ∑ k : Fin 256,
      act (∑ d : Fin 2048, x (ix3 0 r d) * g (ix3 0 d k)) (∑ d : Fin 2048, x (ix3 0 r d) * u (ix3 0 d k)) * w (ix3 0 k c) := by
  pointwise [k0_pay2]
  rfl

/-- The feed-forward's product at one hidden column (zero beyond the last). -/
def term (x : Vec Ideal S16x1024x2048 .bf16) (g u : Vec Ideal S16x2048x1024 .f32) (w : Vec Ideal S16x1024x2048 .f32)
    (e : Fin 16) (r : Fin 1024) (c : Fin 2048) (f : ℕ) : EReal :=
  if h : f < 1024 then
    act (∑ d : Fin 2048, x (ix3 e r d) * g (ix3 e d ⟨f, h⟩)) (∑ d : Fin 2048, x (ix3 e r d) * u (ix3 e d ⟨f, h⟩)) * w (ix3 e ⟨f, h⟩ c)
  else 0

/-- The feed-forward: the sum over the hidden columns. -/
def ffn (x : Vec Ideal S16x1024x2048 .bf16) (g u : Vec Ideal S16x2048x1024 .f32) (w : Vec Ideal S16x1024x2048 .f32) :
    Vec Ideal S16x1024x2048 .bf16 := fun i =>
  ∑ f ∈ Finset.range 1024, term x g u w (i 0) (i 1) (i 2) f

variable (m : (ℓ : Loc nD τ sig) → Buf (Elt Ideal) ℓ)

/-- The block indices of the windows, in closed form. -/
theorem idx0 : ∀ t : Fin cfg0.N, (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = 0 ∧ win0_1.index t (2 : Fin 3) = t.val % 4)
    ∧ (win0_2.index t (0 : Fin 3) = t.val / 4 ∧ win0_2.index t (1 : Fin 3) = 0 ∧ win0_2.index t (2 : Fin 3) = t.val % 4)
    ∧ (win0_3.index t (0 : Fin 3) = t.val / 4 ∧ win0_3.index t (1 : Fin 3) = t.val % 4 ∧ win0_3.index t (2 : Fin 3) = 0) :=
  (by decide +kernel : ∀ t : Fin grid0.N, _)

theorem iblk0 (c : Dev nD) (t : Fin cfg0.N) (j : S1x1024x2048.Idx) (J : S16x1024x2048.Idx)
    (h0 : (J 0).val = 1 * (t.val / 4) + (j 0).val) (h1 : (J 1).val = (j 1).val) (h2 : (J 2).val = (j 2).val) :
    (iblk m c 0 t : Vec Ideal S1x1024x2048 .bf16) j = m ((c : Thread nD τ).loc main_arg0) J := by
  obtain ⟨⟨e0, e1, e2⟩, -, -, -⟩ := idx0 t
  unfold iblk
  rw [View.read_apply]
  show V m c main_arg0 _ = m (c.tc.loc main_arg0) _
  unfold V
  congr 1
  funext a
  apply Fin.ext
  match a with
  | ⟨0, _⟩ => show win0_0.index t 0 * 1 + 1 * (j 0).val = (J 0).val; rw [e0, h0]; omega
  | ⟨1, _⟩ => show win0_0.index t 1 * 1024 + 1 * (j 1).val = (J 1).val; rw [e1, h1]; omega
  | ⟨2, _⟩ => show win0_0.index t 2 * 2048 + 1 * (j 2).val = (J 2).val; rw [e2, h2]; omega

theorem iblk1 (c : Dev nD) (t : Fin cfg0.N) (j : S1x2048x256.Idx) (J : S16x2048x1024.Idx)
    (h0 : (J 0).val = 1 * (t.val / 4) + (j 0).val) (h1 : (J 1).val = (j 1).val) (h2 : (J 2).val = 256 * (t.val % 4) + (j 2).val) :
    (iblk m c 1 t : Vec Ideal S1x2048x256 .f32) j = m ((c : Thread nD τ).loc main_arg1) J := by
  obtain ⟨-, ⟨e0, e1, e2⟩, -, -⟩ := idx0 t
  unfold iblk
  rw [View.read_apply]
  show V m c main_arg1 _ = m (c.tc.loc main_arg1) _
  unfold V
  congr 1
  funext a
  apply Fin.ext
  match a with
  | ⟨0, _⟩ => show win0_1.index t 0 * 1 + 1 * (j 0).val = (J 0).val; rw [e0, h0]; omega
  | ⟨1, _⟩ => show win0_1.index t 1 * 2048 + 1 * (j 1).val = (J 1).val; rw [e1, h1]; omega
  | ⟨2, _⟩ => show win0_1.index t 2 * 256 + 1 * (j 2).val = (J 2).val; rw [e2, h2]; omega

theorem iblk2 (c : Dev nD) (t : Fin cfg0.N) (j : S1x2048x256.Idx) (J : S16x2048x1024.Idx)
    (h0 : (J 0).val = 1 * (t.val / 4) + (j 0).val) (h1 : (J 1).val = (j 1).val) (h2 : (J 2).val = 256 * (t.val % 4) + (j 2).val) :
    (iblk m c 2 t : Vec Ideal S1x2048x256 .f32) j = m ((c : Thread nD τ).loc main_arg2) J := by
  obtain ⟨-, -, ⟨e0, e1, e2⟩, -⟩ := idx0 t
  unfold iblk
  rw [View.read_apply]
  show V m c main_arg2 _ = m (c.tc.loc main_arg2) _
  unfold V
  congr 1
  funext a
  apply Fin.ext
  match a with
  | ⟨0, _⟩ => show win0_2.index t 0 * 1 + 1 * (j 0).val = (J 0).val; rw [e0, h0]; omega
  | ⟨1, _⟩ => show win0_2.index t 1 * 2048 + 1 * (j 1).val = (J 1).val; rw [e1, h1]; omega
  | ⟨2, _⟩ => show win0_2.index t 2 * 256 + 1 * (j 2).val = (J 2).val; rw [e2, h2]; omega

theorem iblk3 (c : Dev nD) (t : Fin cfg0.N) (j : S1x256x2048.Idx) (J : S16x1024x2048.Idx)
    (h0 : (J 0).val = 1 * (t.val / 4) + (j 0).val) (h1 : (J 1).val = 256 * (t.val % 4) + (j 1).val) (h2 : (J 2).val = (j 2).val) :
    (iblk m c 3 t : Vec Ideal S1x256x2048 .f32) j = m ((c : Thread nD τ).loc main_arg3) J := by
  obtain ⟨-, -, -, ⟨e0, e1, e2⟩⟩ := idx0 t
  unfold iblk
  rw [View.read_apply]
  show V m c main_arg3 _ = m (c.tc.loc main_arg3) _
  unfold V
  congr 1
  funext a
  apply Fin.ext
  match a with
  | ⟨0, _⟩ => show win0_3.index t 0 * 1 + 1 * (j 0).val = (J 0).val; rw [e0, h0]; omega
  | ⟨1, _⟩ => show win0_3.index t 1 * 256 + 1 * (j 1).val = (J 1).val; rw [e1, h1]; omega
  | ⟨2, _⟩ => show win0_3.index t 2 * 2048 + 1 * (j 2).val = (J 2).val; rw [e2, h2]; omega

/-- The chunk's products at one point are the terms of its 256 hidden columns. -/
theorem chunk (c : Dev nD) (n : ℕ) (hn : n < cfg0.N) (a : Vec Ideal S1024x2048 .f32) (e : Fin 16) (he : e.val = n / 4)
    (r : Fin 1024) (cc : Fin 2048) :
    k0_pay2 (F := Ideal) (iblk m c 0 ⟨n, hn⟩) (iblk m c 1 ⟨n, hn⟩) (iblk m c 2 ⟨n, hn⟩) a (iblk m c 3 ⟨n, hn⟩) (ix2 r cc)
      = (a (ix2 r cc) : EReal) + ∑ k ∈ Finset.range 256, term (m ((c : Thread nD τ).loc main_arg0)) (m ((c : Thread nD τ).loc main_arg1))
        (m ((c : Thread nD τ).loc main_arg2)) (m ((c : Thread nD τ).loc main_arg3)) e r cc (256 * (n % 4) + k) := by
  rw [pay2_apply, Finset.sum_range]
  refine congrArg (_ + ·) (Finset.sum_congr rfl fun k _ => ?_)
  have hk : 256 * (n % 4) + k.val < 1024 := by omega
  unfold term
  rw [dif_pos hk]
  refine congrArg₂ (· * ·) (congrArg₂ act (Finset.sum_congr rfl fun d _ => ?_) (Finset.sum_congr rfl fun d _ => ?_)) ?_
  · exact congrArg₂ (· * ·) (iblk0 m c ⟨n, hn⟩ (ix3 0 r d) (ix3 e r d) (by show e.val = 1 * (n / 4) + 0; omega) rfl rfl)
      (iblk1 m c ⟨n, hn⟩ (ix3 0 d k) (ix3 e d ⟨_, hk⟩) (by show e.val = 1 * (n / 4) + 0; omega) rfl rfl)
  · exact congrArg₂ (· * ·) (iblk0 m c ⟨n, hn⟩ (ix3 0 r d) (ix3 e r d) (by show e.val = 1 * (n / 4) + 0; omega) rfl rfl)
      (iblk2 m c ⟨n, hn⟩ (ix3 0 d k) (ix3 e d ⟨_, hk⟩) (by show e.val = 1 * (n / 4) + 0; omega) rfl rfl)
  · exact iblk3 m c ⟨n, hn⟩ (ix3 0 k cc) (ix3 e ⟨_, hk⟩ cc) (by show e.val = 1 * (n / 4) + 0; omega) rfl rfl

/-- The carried buffer after point `n` holds the partial sum over the chunks up to this one. -/
theorem carried (c : Dev nD) : ∀ (n : ℕ) (hn : n < cfg0.N) (e : Fin 16) (_ : e.val = n / 4) (r : Fin 1024) (cc : Fin 2048),
    ((outsAt0 m c n hn).2 (ix2 r cc) : EReal) = ∑ k ∈ Finset.range (256 * (n % 4) + 256), term (m ((c : Thread nD τ).loc main_arg0)) (m ((c : Thread nD τ).loc main_arg1))
        (m ((c : Thread nD τ).loc main_arg2)) (m ((c : Thread nD τ).loc main_arg3)) e r cc k
  | 0, hn, e, he, r, cc => by
    rw [outsAt0_A m c ⟨0, hn⟩ (Nat.zero_mod 4) (by show ¬ 0 % 4 = 3; decide)]
    dsimp only
    rw [sout_A, chunk m c 0 hn _ e he, pay1_apply, zero_add]
    simp only [Nat.zero_mod, Nat.mul_zero, Nat.zero_add]
  | n + 1, hn, e, he, r, cc => by
    by_cases h0 : (n + 1) % 4 = 0
    · rw [outsAt0_A m c ⟨n + 1, hn⟩ h0 (by show ¬ (n + 1) % 4 = 3; omega)]
      dsimp only
      rw [sout_A, chunk m c (n + 1) hn _ e he, pay1_apply, zero_add, h0]
      simp only [Nat.mul_zero, Nat.zero_add]
    · have ih := carried c n (Nat.lt_of_succ_lt hn) e (by omega) r cc
      rw [show 256 * (n % 4) + 256 = 256 * ((n + 1) % 4) by omega] at ih
      by_cases h1 : (n + 1) % 4 = 3
      · rw [outsAt0_C m c ⟨n + 1, hn⟩ h0 h1]
        dsimp only
        rw [sout_C, chunk m c (n + 1) hn _ e he, Finset.sum_range_add, ← ih]
        rfl
      · rw [outsAt0_B m c ⟨n + 1, hn⟩ h0 h1]
        dsimp only
        rw [sout_B, chunk m c (n + 1) hn _ e he, Finset.sum_range_add, ← ih]
        rfl

/-- The output block after an expert's last chunk is the carried buffer. -/
theorem outBlock (c : Dev nD) (n : ℕ) (hn : n < cfg0.N) (h1 : n % 4 = 3) (j : S1x1024x2048.Idx) (J : S16x1024x2048.Idx)
    (e0 : (J 0).val = n / 4) (e1 : (J 1).val = (j 1).val) (e2 : (J 2).val = (j 2).val) :
    (outsAt0 m c n hn).1 j = ffn (m ((c : Thread nD τ).loc main_arg0)) (m ((c : Thread nD τ).loc main_arg1))
        (m ((c : Thread nD τ).loc main_arg2)) (m ((c : Thread nD τ).loc main_arg3)) J := by
  have h0 : ¬ n % 4 = 0 := by omega
  have e : (outsAt0 m c n hn).1 = k0_pay3 ((outsAt0 m c n hn).2) := by
    rw [outsAt0_C m c ⟨n, hn⟩ h0 h1]
    dsimp only
    rw [out_C, sout_C]
  rw [e]
  refine (congrArg _ (eq_ix3 (n0 := 1) (n1 := 1024) (n2 := 2048) j)).trans ((pay3_apply _ (j 0) (j 1) (j 2)).trans ?_)
  have hc := carried m c n hn (J 0) e0 (j 1) (j 2)
  rw [h1] at hc
  refine hc.trans ?_
  unfold ffn
  rw [show J 1 = j 1 from Fin.ext e1, show J 2 = j 2 from Fin.ext e2]

/-- The result array is the feed-forward of the four arguments. -/
theorem result (c : Dev nD) (i : S16x1024x2048.Idx) :
    Value.G4 m c i = ffn (m ((c : Thread nD τ).loc main_arg0)) (m ((c : Thread nD τ).loc main_arg1))
        (m ((c : Thread nD τ).loc main_arg2)) (m ((c : Thread nD τ).loc main_arg3)) i := by
  have hi0 : (i 0).val < 16 := (i 0).isLt
  have hi1 : (i 1).val < 1024 := (i 1).isLt
  have hi2 : (i 2).val < 2048 := (i 2).isLt
  have hv : pt4Of i = 4 * (i 0).val + 3 := by
    show 4 * (1 * ((i 0).val / 1 - 0) + 1 * ((i 1).val / 1024 - 0) + 1 * ((i 2).val / 2048 - 0)) + 3 = _
    omega
  have hp : pt4Of i < cfg0.N := by
    rw [show cfg0.N = 64 from N_0, hv]
    omega
  unfold Value.G4
  rw [dif_pos hp, ← outsAt0_sweep m c (pt4Of i) hp]
  refine outBlock m c (pt4Of i) hp ?_ (loc4Of i) i ?_ ?_ ?_
  · rw [hv]; omega
  · rw [hv]; omega
  · show (i 1).val = (i 1).val % 1024
    omega
  · show (i 2).val = (i 2).val % 2048
    omega

end Cert.FfnIdeal.Val

namespace Cert.FfnRefIdeal.Val

open Cert.FfnRefIdeal Cert.FfnRefIdeal.Read Idealize.ShloMosaic

theorem one_bits : (Ideal.ofBits .f32 0x3F800000#32 : EReal) = 1 := by
  simp [Ideal.ofBits, Ideal.ieee, -EReal.coe_mul]; norm_num

/-- The reference's gated hidden activation. -/
theorem hidden (x0 : Vec Ideal S16x1024x2048 .bf16) (x1 x2 : Vec Ideal S16x2048x1024 .f32) (i : S16x1024x1024.Idx) :
    val_main_v4 (F := Ideal) x0 x1 x2 i = Cert.FfnIdeal.Val.act (val_main_v1 (F := Ideal) x0 x1 i) (val_main_v2 (F := Ideal) x0 x2 i) := by
  rw [val_main_v4_apply, val_main_v3_apply, val_main_call0_v5_apply, val_main_call0_v4_apply, val_main_call0_v3_apply,
    val_main_call0_v2_apply, val_main_call0_v1_apply, val_main_call0_v0_apply, val_main_call0_cst_apply, val_main_call0_cst_0_apply]
  generalize val_main_v1 (F := Ideal) x0 x1 i = g
  generalize val_main_v2 (F := Ideal) x0 x2 i = u
  show (g : EReal) * Ideal.div (Ideal.ofBits .f32 0x3F800000#32) (Ideal.ofBits .f32 0x3F800000#32 + Ideal.exp (-g)) * u = _
  rw [one_bits]
  rfl

end Cert.FfnRefIdeal.Val

namespace Cert.Proof.Ffn

open Idealize.ShloMosaic Idealize.ShloMosaic.TcCoe Idealize.SL.Sem

theorem algebraic : Cert.algebraic_FfnIdeal_FfnRefIdeal := by
  intro m ρ m' ρ' _ hagree
  refine ⟨fun c => Cert.FfnIdeal.Value.G4 m c, Cert.FfnIdeal.Value.run (F := Ideal) m ρ, ?_⟩
  refine (θ_run Cert.FfnRefIdeal.defs _ _).mono (fun _ h c => ⟨(h c).1.trans ?_, (h c).2⟩) (Cert.FfnRefIdeal.Value.run (F := Ideal) m' ρ')
  obtain ⟨a0, a1, a2, a3⟩ := hagree c
  rw [Cert.FfnRefIdeal.Read.val_main_v6_eq, a0, a1, a2, a3]
  funext i
  show _ = Cert.FfnIdeal.Value.G4 m c i
  rw [Cert.FfnIdeal.Val.result m c i]
  unfold Cert.FfnIdeal.Val.ffn
  rw [Finset.sum_range, Cert.FfnRefIdeal.Read.val_main_v6_apply]
  show Cert.FfnRefIdeal.Read.val_main_v5 (F := Ideal) _ _ _ _ i = _
  rw [Cert.FfnRefIdeal.Read.val_main_v5_apply]
  refine Finset.sum_congr rfl fun k _ => ?_
  unfold Cert.FfnIdeal.Val.term
  rw [dif_pos k.isLt]
  refine congrArg₂ (· * ·) ?_ (congrArg _ (funext fun a => ?_))
  · rw [Cert.FfnRefIdeal.Val.hidden, Cert.FfnRefIdeal.Read.val_main_v1_apply, Cert.FfnRefIdeal.Read.val_main_v2_apply]
    refine congrArg₂ _ (Finset.sum_congr rfl fun d _ => congrArg₂ (· * ·) ?_ (congrArg _ (funext fun a => ?_)))
      (Finset.sum_congr rfl fun d _ => congrArg₂ (· * ·) ?_ (congrArg _ (funext fun a => ?_)))
    · show m _ _ = m _ _
      congr 1; funext a; match a with | ⟨0, _⟩ => rfl | ⟨1, _⟩ => rfl | ⟨2, _⟩ => rfl
    · match a with | ⟨0, _⟩ => rfl | ⟨1, _⟩ => rfl | ⟨2, _⟩ => rfl
    · show m _ _ = m _ _
      congr 1; funext a; match a with | ⟨0, _⟩ => rfl | ⟨1, _⟩ => rfl | ⟨2, _⟩ => rfl
    · match a with | ⟨0, _⟩ => rfl | ⟨1, _⟩ => rfl | ⟨2, _⟩ => rfl
  · match a with | ⟨0, _⟩ => rfl | ⟨1, _⟩ => rfl | ⟨2, _⟩ => rfl

end Cert.Proof.Ffn

end
-- ==== Proof.MergeValue.lean ====
/-
  The gated merge of the two branches: the first result array ends holding the sum of the two branches' products, each
  weighted by the logistic of its gate, and the second the output weights; that is what the reference computes. The
  kernel keeps bf16 copies of the two weight tiles in carried buffers, written at the first row block of each column
  tile, and stores each output block in two halves.
-/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.Value
public import Idealize.ShloMosaic.Lib.Pointwise
public import Idealize.ShloMosaic.Lib.Claim
public import Idealize.ShloMosaic.Lib.Tactic

@[expose] public section

set_option maxRecDepth 16384

noncomputable section

namespace Cert.MergeIdeal.Val

open Cert.MergeIdeal Cert.MergeIdeal.Gen Cert.MergeIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

section
variable {F : FTy → Type} [FloatOps F]

/-- The output block's two halves as the body stores them, the right one last. -/
def halves (x0 s0 x1 s1 : Vec F S1024x1024 .bf16) (x2 x3 x4 x5 : Vec F S1024x512 .bf16) : List (View.Piece (Elt F) S1024x1024 .bf16) :=
  [⟨Rect.unit (s := S1024x1024) ![0, 512] S1024x512.size inb_S1024x1024_S1024x512_0_512, k0_pay1 (k0_pay6 x1 s1) (k0_pay8 x0 s0 x3) x5⟩,
    ⟨Rect.unit (s := S1024x1024) ![0, 0] S1024x512.size inb_S1024x1024_S1024x512_0_0, k0_pay7 x0 s0 x1 s1 x2 x4⟩]

/-- At the first row block the body leaves the first weight tile's copy in its carried buffer. -/
theorem sout_A_0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S128x2048 .f32) (harg10 : arg10.IsWhole) (arg11 : Memref sig .tc .vmem S1024x1024 .bf16) (harg11 : arg11.IsWhole) (arg12 : Memref sig .tc .vmem S128x2048 .bf16) (harg12 : arg12.IsWhole) (arg13 : Memref sig .tc .vmem S1024x1024 .bf16) (harg13 : arg13.IsWhole) (arg14 : Memref sig .tc .vmem S1024x1024 .bf16) (harg14 : arg14.IsWhole) (hc0 : cond0_0 i)
    (x0 : Vec F S1024x1024 .bf16) (x1 : Vec F S1024x1024 .bf16) (x2 : Vec F S1024x512 .bf16) (x3 : Vec F S1024x512 .bf16) (x4 : Vec F S1024x512 .bf16) (x5 : Vec F S1024x512 .bf16) (x6 : Vec F S1024x1024 .f32) (x7 : Vec F S1024x1024 .f32) (x8 : Vec F S128x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay3 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x1024) hz, View.ld_unit_zero (S := S1024x512) hz, View.ld_unit_zero (S := S128x2048) hz]

/-- At the first row block the body leaves the second weight tile's copy in its carried buffer. -/
theorem sout_A_1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S128x2048 .f32) (harg10 : arg10.IsWhole) (arg11 : Memref sig .tc .vmem S1024x1024 .bf16) (harg11 : arg11.IsWhole) (arg12 : Memref sig .tc .vmem S128x2048 .bf16) (harg12 : arg12.IsWhole) (arg13 : Memref sig .tc .vmem S1024x1024 .bf16) (harg13 : arg13.IsWhole) (arg14 : Memref sig .tc .vmem S1024x1024 .bf16) (harg14 : arg14.IsWhole) (hc0 : cond0_0 i)
    (x0 : Vec F S1024x1024 .bf16) (x1 : Vec F S1024x1024 .bf16) (x2 : Vec F S1024x512 .bf16) (x3 : Vec F S1024x512 .bf16) (x4 : Vec F S1024x512 .bf16) (x5 : Vec F S1024x512 .bf16) (x6 : Vec F S1024x1024 .f32) (x7 : Vec F S1024x1024 .f32) (x8 : Vec F S128x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay4 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x1024) hz, View.ld_unit_zero (S := S1024x512) hz, View.ld_unit_zero (S := S128x2048) hz]

/-- At the first row block the output block's halves are computed from the copies just written. -/
theorem out9_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S128x2048 .f32) (harg10 : arg10.IsWhole) (arg11 : Memref sig .tc .vmem S1024x1024 .bf16) (harg11 : arg11.IsWhole) (arg12 : Memref sig .tc .vmem S128x2048 .bf16) (harg12 : arg12.IsWhole) (arg13 : Memref sig .tc .vmem S1024x1024 .bf16) (harg13 : arg13.IsWhole) (arg14 : Memref sig .tc .vmem S1024x1024 .bf16) (harg14 : arg14.IsWhole) (hc0 : cond0_0 i)
    (x0 : Vec F S1024x1024 .bf16) (x1 : Vec F S1024x1024 .bf16) (x2 : Vec F S1024x512 .bf16) (x3 : Vec F S1024x512 .bf16) (x4 : Vec F S1024x512 .bf16) (x5 : Vec F S1024x512 .bf16) (x6 : Vec F S1024x1024 .f32) (x7 : Vec F S1024x1024 .f32) (x8 : Vec F S128x2048 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = View.canon (halves x0 (k0_pay3 x6) x1 (k0_pay4 x7) x2 x3 x4 x5) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readCov_unit_zero (S := S1024x1024) _ hz]
  simp only [View.readAt_eq_ld, harg2.read_unread, harg3.read_unread, harg4.read_unread, harg5.read_unread, harg6.read_unread, harg7.read_unread, harg8.read_unread, harg9.read_unread, harg10.read_unread, View.ld_unit_zero (S := S1024x1024) hz, View.ld_unit_zero (S := S1024x512) hz, View.ld_unit_zero (S := S128x2048) hz]
  rfl

/-- At a later row block the output block's halves are computed from the carried copies. -/
theorem out9_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S128x2048 .f32) (harg10 : arg10.IsWhole) (arg11 : Memref sig .tc .vmem S1024x1024 .bf16) (harg11 : arg11.IsWhole) (arg12 : Memref sig .tc .vmem S128x2048 .bf16) (harg12 : arg12.IsWhole) (arg13 : Memref sig .tc .vmem S1024x1024 .bf16) (harg13 : arg13.IsWhole) (arg14 : Memref sig .tc .vmem S1024x1024 .bf16) (harg14 : arg14.IsWhole) (hc0 : ¬cond0_0 i)
    (x0 : Vec F S1024x1024 .bf16) (x1 : Vec F S1024x1024 .bf16) (x2 : Vec F S1024x512 .bf16) (x3 : Vec F S1024x512 .bf16) (x4 : Vec F S1024x512 .bf16) (x5 : Vec F S1024x512 .bf16) (x6 : Vec F S1024x1024 .f32) (x7 : Vec F S1024x1024 .f32) (x8 : Vec F S128x2048 .f32) (xs0 : Vec F S1024x1024 .bf16) (xs1 : Vec F S1024x1024 .bf16) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 = View.canon (halves x0 xs0 x1 xs1 x2 x3 x4 x5) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1)]
  unfold kernelRun0_B
  dsimp only
  sl_unfold_words
  skip
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1024x1024) hz, View.ld_unit_zero (S := S1024x512) hz, View.ld_unit_zero (S := S128x2048) hz]
  rfl

/-- The output weights' slice is stored as it was loaded. -/
theorem out10_A (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S128x2048 .f32) (harg10 : arg10.IsWhole) (arg11 : Memref sig .tc .vmem S1024x1024 .bf16) (harg11 : arg11.IsWhole) (arg12 : Memref sig .tc .vmem S128x2048 .bf16) (harg12 : arg12.IsWhole) (arg13 : Memref sig .tc .vmem S1024x1024 .bf16) (harg13 : arg13.IsWhole) (arg14 : Memref sig .tc .vmem S1024x1024 .bf16) (harg14 : arg14.IsWhole) (hc0 : cond0_0 i)
    (x0 : Vec F S1024x1024 .bf16) (x1 : Vec F S1024x1024 .bf16) (x2 : Vec F S1024x512 .bf16) (x3 : Vec F S1024x512 .bf16) (x4 : Vec F S1024x512 .bf16) (x5 : Vec F S1024x512 .bf16) (x6 : Vec F S1024x1024 .f32) (x7 : Vec F S1024x1024 .f32) (x8 : Vec F S128x2048 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay2 x8 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1024x1024) hz, View.ld_unit_zero (S := S1024x512) hz, View.ld_unit_zero (S := S128x2048) hz]

/-- The same at a later row block. -/
theorem out10_B (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S128x2048 .f32) (harg10 : arg10.IsWhole) (arg11 : Memref sig .tc .vmem S1024x1024 .bf16) (harg11 : arg11.IsWhole) (arg12 : Memref sig .tc .vmem S128x2048 .bf16) (harg12 : arg12.IsWhole) (arg13 : Memref sig .tc .vmem S1024x1024 .bf16) (harg13 : arg13.IsWhole) (arg14 : Memref sig .tc .vmem S1024x1024 .bf16) (harg14 : arg14.IsWhole) (hc0 : ¬cond0_0 i)
    (x0 : Vec F S1024x1024 .bf16) (x1 : Vec F S1024x1024 .bf16) (x2 : Vec F S1024x512 .bf16) (x3 : Vec F S1024x512 .bf16) (x4 : Vec F S1024x512 .bf16) (x5 : Vec F S1024x512 .bf16) (x6 : Vec F S1024x1024 .f32) (x7 : Vec F S1024x1024 .f32) (x8 : Vec F S128x2048 .f32) (xs0 : Vec F S1024x1024 .bf16) (xs1 : Vec F S1024x1024 .bf16) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 = k0_pay2 x8 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1024x1024) hz, View.ld_unit_zero (S := S1024x512) hz, View.ld_unit_zero (S := S128x2048) hz]

end

/-! ## Over the extended reals -/

theorem pay2_apply (x : Vec Ideal S128x2048 .f32) (j : S128x2048.Idx) : k0_pay2 (F := Ideal) x j = x j := by
  unfold k0_pay2
  rfl

theorem pay3_apply (x : Vec Ideal S1024x1024 .f32) (j : S1024x1024.Idx) : k0_pay3 (F := Ideal) x j = x j := by
  unfold k0_pay3
  simp only [shapeCast_self]
  rfl

theorem pay4_apply (x : Vec Ideal S1024x1024 .f32) (j : S1024x1024.Idx) : k0_pay4 (F := Ideal) x j = x j := by
  unfold k0_pay4
  simp only [shapeCast_self]
  rfl

/-- The gated sum of the two products at one place. -/
def gated (ga a gb b : EReal) : EReal := Ideal.logistic ga * a + Ideal.logistic gb * b

theorem left_apply (x0 s0 x1 s1 : Vec Ideal S1024x1024 .bf16) (g h : Vec Ideal S1024x512 .bf16) (r : Fin 1024) (c : Fin 512) :
    k0_pay7 (F := Ideal) x0 s0 x1 s1 g h (ix2 r c) = gated (g (ix2 r c)) (∑ k : Fin 1024, x0 (ix2 r k) * s0 (ix2 k ⟨c.val, by omega⟩))
      (h (ix2 r c)) (∑ k : Fin 1024, x1 (ix2 r k) * s1 (ix2 k ⟨c.val, by omega⟩)) := by
  pointwise [k0_pay7, k0_pay5, k0_pay6]
  rfl

theorem right_apply (x0 s0 x1 s1 : Vec Ideal S1024x1024 .bf16) (g h : Vec Ideal S1024x512 .bf16) (r : Fin 1024) (c : Fin 512) :
    k0_pay1 (F := Ideal) (k0_pay6 x1 s1) (k0_pay8 x0 s0 g) h (ix2 r c) = gated (g (ix2 r c)) (∑ k : Fin 1024, x0 (ix2 r k) * s0 (ix2 k ⟨512 + c.val, by omega⟩))
      (h (ix2 r c)) (∑ k : Fin 1024, x1 (ix2 r k) * s1 (ix2 k ⟨512 + c.val, by omega⟩)) := by
  pointwise [k0_pay1, k0_pay8, k0_pay5, k0_pay6]
  rfl

/-- The output block at one place, from the rows, the weight tiles and the two halves of the gates. -/
def blkAt (x0 s0 x1 s1 : Vec Ideal S1024x1024 .bf16) (x2 x3 x4 x5 : Vec Ideal S1024x512 .bf16) : Vec Ideal S1024x1024 .bf16 := fun j =>
  gated (if h : (j 1).val < 512 then x2 (ix2 (j 0) ⟨(j 1).val, h⟩) else x3 (ix2 (j 0) ⟨(j 1).val - 512, by have : (j 1).val < 1024 := (j 1).isLt; omega⟩))
    (∑ k : Fin 1024, x0 (ix2 (j 0) k) * s0 (ix2 k (j 1)))
    (if h : (j 1).val < 512 then x4 (ix2 (j 0) ⟨(j 1).val, h⟩) else x5 (ix2 (j 0) ⟨(j 1).val - 512, by have : (j 1).val < 1024 := (j 1).isLt; omega⟩))
    (∑ k : Fin 1024, x1 (ix2 (j 0) k) * s1 (ix2 k (j 1)))

theorem blkAt_left (x0 s0 x1 s1 : Vec Ideal S1024x1024 .bf16) (x2 x3 x4 x5 : Vec Ideal S1024x512 .bf16) (r : Fin 1024) (c : Fin 512) :
    blkAt x0 s0 x1 s1 x2 x3 x4 x5 (ix2 r ⟨c.val, by omega⟩)
      = gated (x2 (ix2 r c)) (∑ k : Fin 1024, x0 (ix2 r k) * s0 (ix2 k ⟨c.val, by omega⟩)) (x4 (ix2 r c)) (∑ k : Fin 1024, x1 (ix2 r k) * s1 (ix2 k ⟨c.val, by omega⟩)) := by
  unfold blkAt
  refine congrArg₂ (gated · _ · _) ?_ ?_
  · exact dif_pos c.isLt
  · exact dif_pos c.isLt

theorem blkAt_right (x0 s0 x1 s1 : Vec Ideal S1024x1024 .bf16) (x2 x3 x4 x5 : Vec Ideal S1024x512 .bf16) (r : Fin 1024) (c : Fin 512) :
    blkAt x0 s0 x1 s1 x2 x3 x4 x5 (ix2 r ⟨512 + c.val, by omega⟩)
      = gated (x3 (ix2 r c)) (∑ k : Fin 1024, x0 (ix2 r k) * s0 (ix2 k ⟨512 + c.val, by omega⟩)) (x5 (ix2 r c)) (∑ k : Fin 1024, x1 (ix2 r k) * s1 (ix2 k ⟨512 + c.val, by omega⟩)) := by
  unfold blkAt
  have hn : ¬ 512 + c.val < 512 := by omega
  have hc : (⟨512 + c.val - 512, by omega⟩ : Fin 512) = c := Fin.ext (by show 512 + c.val - 512 = c.val; omega)
  refine congrArg₂ (gated · _ · _) ?_ ?_
  · exact (dif_neg hn).trans (congrArg (fun k => x3 (ix2 r k)) hc)
  · exact (dif_neg hn).trans (congrArg (fun k => x5 (ix2 r k)) hc)

theorem halves_apply (x0 s0 x1 s1 : Vec Ideal S1024x1024 .bf16) (x2 x3 x4 x5 : Vec Ideal S1024x512 .bf16) (j : S1024x1024.Idx) :
    View.canon (halves x0 s0 x1 s1 x2 x3 x4 x5) j = blkAt x0 s0 x1 s1 x2 x3 x4 x5 j := by
  refine View.canon_apply_of_pieces _ _ (fun p hp x => ?_) j ?_
  · rcases List.mem_cons.mp hp with rfl | hp
    · refine (congrArg _ (eq_ix2 (n0 := 1024) (n1 := 512) x)).trans ((right_apply x0 s0 x1 s1 x3 x5 (x 0) (x 1)).trans ?_)
      have e0 : (Rect.unit (s := S1024x1024) ![0, 512] S1024x512.size inb_S1024x1024_S1024x512_0_512).emb x
          = ix2 (n0 := 1024) (n1 := 1024) (x 0) ⟨512 + (x 1).val, by have : (x 1).val < 512 := (x 1).isLt; omega⟩ := by
        funext a; apply Fin.ext
        match a with
        | ⟨0, _⟩ => show 0 + 1 * (x 0).val = (x 0).val; omega
        | ⟨1, _⟩ => show 512 + 1 * (x 1).val = 512 + (x 1).val; omega
      show _ = blkAt x0 s0 x1 s1 x2 x3 x4 x5 ((Rect.unit (s := S1024x1024) ![0, 512] S1024x512.size inb_S1024x1024_S1024x512_0_512).emb x)
      rw [e0]
      exact (blkAt_right x0 s0 x1 s1 x2 x3 x4 x5 (x 0) (x 1)).symm
    · obtain rfl := List.mem_singleton.mp hp
      refine (congrArg _ (eq_ix2 (n0 := 1024) (n1 := 512) x)).trans ((left_apply x0 s0 x1 s1 x2 x4 (x 0) (x 1)).trans ?_)
      have hx : (x 1).val < 512 := (x 1).isLt
      have e0 : (Rect.unit (s := S1024x1024) ![0, 0] S1024x512.size inb_S1024x1024_S1024x512_0_0).emb x
          = ix2 (n0 := 1024) (n1 := 1024) (x 0) ⟨(x 1).val, by omega⟩ := by
        funext a; apply Fin.ext
        match a with
        | ⟨0, _⟩ => show 0 + 1 * (x 0).val = (x 0).val; omega
        | ⟨1, _⟩ => show 0 + 1 * (x 1).val = (x 1).val; omega
      show _ = blkAt x0 s0 x1 s1 x2 x3 x4 x5 ((Rect.unit (s := S1024x1024) ![0, 0] S1024x512.size inb_S1024x1024_S1024x512_0_0).emb x)
      rw [e0]
      exact (blkAt_left x0 s0 x1 s1 x2 x3 x4 x5 (x 0) (x 1)).symm
  · have h0 : (j 0).val < 1024 := (j 0).isLt
    have h1 : (j 1).val < 1024 := (j 1).isLt
    by_cases h : (j 1).val < 512
    · have hm : j ∈ (Rect.unit (s := S1024x1024) ![0, 0] S1024x512.size inb_S1024x1024_S1024x512_0_0).set := by
        rw [Rect.mem_set_unit]
        intro a
        match a with
        | ⟨0, _⟩ => show 0 ≤ (j 0).val ∧ (j 0).val < 0 + 1024; omega
        | ⟨1, _⟩ => show 0 ≤ (j 1).val ∧ (j 1).val < 0 + 512; omega
      exact ⟨_, List.mem_cons_of_mem _ (List.mem_singleton.mpr rfl), hm⟩
    · have hm : j ∈ (Rect.unit (s := S1024x1024) ![0, 512] S1024x512.size inb_S1024x1024_S1024x512_0_512).set := by
        rw [Rect.mem_set_unit]
        intro a
        match a with
        | ⟨0, _⟩ => show 0 ≤ (j 0).val ∧ (j 0).val < 0 + 1024; omega
        | ⟨1, _⟩ => show 512 ≤ (j 1).val ∧ (j 1).val < 512 + 512; omega
      exact ⟨_, List.mem_cons_self, hm⟩

/-- The gated merge of the branches. -/
def merged (oa ob : Vec Ideal S8192x1024 .bf16) (p : Vec Ideal S8192x10752 .bf16) (wa wb : Vec Ideal S1024x2048 .f32) :
    Vec Ideal S8192x2048 .bf16 := fun i =>
  gated (p (ix2 (i 0) ⟨6656 + (i 1).val, by have : (i 1).val < 2048 := (i 1).isLt; omega⟩)) (∑ k : Fin 1024, oa (ix2 (i 0) k) * wa (ix2 k (i 1)))
    (p (ix2 (i 0) ⟨8704 + (i 1).val, by have : (i 1).val < 2048 := (i 1).isLt; omega⟩)) (∑ k : Fin 1024, ob (ix2 (i 0) k) * wb (ix2 k (i 1)))

variable (m : (ℓ : Loc nD τ sig) → Buf (Elt Ideal) ℓ)

/-- The block indices of the windows, in closed form. -/
theorem idx0 : ∀ t : Fin cfg0.N, (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = t.val % 8 ∧ win0_2.index t (1 : Fin 2) = 13 + 2 * (t.val / 8))
    ∧ (win0_3.index t (0 : Fin 2) = t.val % 8 ∧ win0_3.index t (1 : Fin 2) = 14 + 2 * (t.val / 8))
    ∧ (win0_4.index t (0 : Fin 2) = t.val % 8 ∧ win0_4.index t (1 : Fin 2) = 17 + 2 * (t.val / 8))
    ∧ (win0_5.index t (0 : Fin 2) = t.val % 8 ∧ win0_5.index t (1 : Fin 2) = 18 + 2 * (t.val / 8))
    ∧ (win0_6.index t (0 : Fin 2) = 0 ∧ win0_6.index t (1 : Fin 2) = t.val / 8)
    ∧ (win0_7.index t (0 : Fin 2) = 0 ∧ win0_7.index t (1 : Fin 2) = t.val / 8)
    ∧ (win0_8.index t (0 : Fin 2) = t.val ∧ win0_8.index t (1 : Fin 2) = 0) :=
  (by decide +kernel : ∀ t : Fin grid0.N, _)

theorem iblk0 (c : Dev nD) (t : Fin cfg0.N) (j : S1024x1024.Idx) (J : S8192x1024.Idx)
    (h0 : (J 0).val = 1024 * (t.val % 8) + (j 0).val) (h1 : (J 1).val = (j 1).val) :
    (iblk m c 0 t : Vec Ideal S1024x1024 .bf16) j = m ((c : Thread nD τ).loc main_arg0) J := by
  obtain ⟨⟨e0, e1⟩, -, -, -, -, -, -, -, -⟩ := idx0 t
  unfold iblk
  rw [View.read_apply]
  show V m c main_arg0 _ = m (c.tc.loc main_arg0) _
  unfold V
  congr 1
  funext a
  apply Fin.ext
  match a with
  | ⟨0, _⟩ => show win0_0.index t 0 * 1024 + 1 * (j 0).val = (J 0).val; rw [e0, h0]; omega
  | ⟨1, _⟩ => show win0_0.index t 1 * 1024 + 1 * (j 1).val = (J 1).val; rw [e1, h1]; omega

theorem iblk1 (c : Dev nD) (t : Fin cfg0.N) (j : S1024x1024.Idx) (J : S8192x1024.Idx)
    (h0 : (J 0).val = 1024 * (t.val % 8) + (j 0).val) (h1 : (J 1).val = (j 1).val) :
    (iblk m c 1 t : Vec Ideal S1024x1024 .bf16) j = m ((c : Thread nD τ).loc main_arg1) J := by
  obtain ⟨-, ⟨e0, e1⟩, -, -, -, -, -, -, -⟩ := idx0 t
  unfold iblk
  rw [View.read_apply]
  show V m c main_arg1 _ = m (c.tc.loc main_arg1) _
  unfold V
  congr 1
  funext a
  apply Fin.ext
  match a with
  | ⟨0, _⟩ => show win0_1.index t 0 * 1024 + 1 * (j 0).val = (J 0).val; rw [e0, h0]; omega
  | ⟨1, _⟩ => show win0_1.index t 1 * 1024 + 1 * (j 1).val = (J 1).val; rw [e1, h1]; omega

theorem iblk2 (c : Dev nD) (t : Fin cfg0.N) (j : S1024x512.Idx) (J : S8192x10752.Idx)
    (h0 : (J 0).val = 1024 * (t.val % 8) + (j 0).val) (h1 : (J 1).val = 512 * (13 + 2 * (t.val / 8)) + (j 1).val) :
    (iblk m c 2 t : Vec Ideal S1024x512 .bf16) j = m ((c : Thread nD τ).loc main_arg2) J := by
  obtain ⟨-, -, ⟨e0, e1⟩, -, -, -, -, -, -⟩ := idx0 t
  unfold iblk
  rw [View.read_apply]
  show V m c main_arg2 _ = m (c.tc.loc main_arg2) _
  unfold V
  congr 1
  funext a
  apply Fin.ext
  match a with
  | ⟨0, _⟩ => show win0_2.index t 0 * 1024 + 1 * (j 0).val = (J 0).val; rw [e0, h0]; omega
  | ⟨1, _⟩ => show win0_2.index t 1 * 512 + 1 * (j 1).val = (J 1).val; rw [e1, h1]; omega

theorem iblk3 (c : Dev nD) (t : Fin cfg0.N) (j : S1024x512.Idx) (J : S8192x10752.Idx)
    (h0 : (J 0).val = 1024 * (t.val % 8) + (j 0).val) (h1 : (J 1).val = 512 * (14 + 2 * (t.val / 8)) + (j 1).val) :
    (iblk m c 3 t : Vec Ideal S1024x512 .bf16) j = m ((c : Thread nD τ).loc main_arg2) J := by
  obtain ⟨-, -, -, ⟨e0, e1⟩, -, -, -, -, -⟩ := idx0 t
  unfold iblk
  rw [View.read_apply]
  show V m c main_arg2 _ = m (c.tc.loc main_arg2) _
  unfold V
  congr 1
  funext a
  apply Fin.ext
  match a with
  | ⟨0, _⟩ => show win0_3.index t 0 * 1024 + 1 * (j 0).val = (J 0).val; rw [e0, h0]; omega
  | ⟨1, _⟩ => show win0_3.index t 1 * 512 + 1 * (j 1).val = (J 1).val; rw [e1, h1]; omega

theorem iblk4 (c : Dev nD) (t : Fin cfg0.N) (j : S1024x512.Idx) (J : S8192x10752.Idx)
    (h0 : (J 0).val = 1024 * (t.val % 8) + (j 0).val) (h1 : (J 1).val = 512 * (17 + 2 * (t.val / 8)) + (j 1).val) :
    (iblk m c 4 t : Vec Ideal S1024x512 .bf16) j = m ((c : Thread nD τ).loc main_arg2) J := by
  obtain ⟨-, -, -, -, ⟨e0, e1⟩, -, -, -, -⟩ := idx0 t
  unfold iblk
  rw [View.read_apply]
  show V m c main_arg2 _ = m (c.tc.loc main_arg2) _
  unfold V
  congr 1
  funext a
  apply Fin.ext
  match a with
  | ⟨0, _⟩ => show win0_4.index t 0 * 1024 + 1 * (j 0).val = (J 0).val; rw [e0, h0]; omega
  | ⟨1, _⟩ => show win0_4.index t 1 * 512 + 1 * (j 1).val = (J 1).val; rw [e1, h1]; omega

theorem iblk5 (c : Dev nD) (t : Fin cfg0.N) (j : S1024x512.Idx) (J : S8192x10752.Idx)
    (h0 : (J 0).val = 1024 * (t.val % 8) + (j 0).val) (h1 : (J 1).val = 512 * (18 + 2 * (t.val / 8)) + (j 1).val) :
    (iblk m c 5 t : Vec Ideal S1024x512 .bf16) j = m ((c : Thread nD τ).loc main_arg2) J := by
  obtain ⟨-, -, -, -, -, ⟨e0, e1⟩, -, -, -⟩ := idx0 t
  unfold iblk
  rw [View.read_apply]
  show V m c main_arg2 _ = m (c.tc.loc main_arg2) _
  unfold V
  congr 1
  funext a
  apply Fin.ext
  match a with
  | ⟨0, _⟩ => show win0_5.index t 0 * 1024 + 1 * (j 0).val = (J 0).val; rw [e0, h0]; omega
  | ⟨1, _⟩ => show win0_5.index t 1 * 512 + 1 * (j 1).val = (J 1).val; rw [e1, h1]; omega

theorem iblk6 (c : Dev nD) (t : Fin cfg0.N) (j : S1024x1024.Idx) (J : S1024x2048.Idx)
    (h0 : (J 0).val = (j 0).val) (h1 : (J 1).val = 1024 * (t.val / 8) + (j 1).val) :
    (iblk m c 6 t : Vec Ideal S1024x1024 .f32) j = m ((c : Thread nD τ).loc main_arg3) J := by
  obtain ⟨-, -, -, -, -, -, ⟨e0, e1⟩, -, -⟩ := idx0 t
  unfold iblk
  rw [View.read_apply]
  show V m c main_arg3 _ = m (c.tc.loc main_arg3) _
  unfold V
  congr 1
  funext a
  apply Fin.ext
  match a with
  | ⟨0, _⟩ => show win0_6.index t 0 * 1024 + 1 * (j 0).val = (J 0).val; rw [e0, h0]; omega
  | ⟨1, _⟩ => show win0_6.index t 1 * 1024 + 1 * (j 1).val = (J 1).val; rw [e1, h1]; omega

theorem iblk7 (c : Dev nD) (t : Fin cfg0.N) (j : S1024x1024.Idx) (J : S1024x2048.Idx)
    (h0 : (J 0).val = (j 0).val) (h1 : (J 1).val = 1024 * (t.val / 8) + (j 1).val) :
    (iblk m c 7 t : Vec Ideal S1024x1024 .f32) j = m ((c : Thread nD τ).loc main_arg4) J := by
  obtain ⟨-, -, -, -, -, -, -, ⟨e0, e1⟩, -⟩ := idx0 t
  unfold iblk
  rw [View.read_apply]
  show V m c main_arg4 _ = m (c.tc.loc main_arg4) _
  unfold V
  congr 1
  funext a
  apply Fin.ext
  match a with
  | ⟨0, _⟩ => show win0_7.index t 0 * 1024 + 1 * (j 0).val = (J 0).val; rw [e0, h0]; omega
  | ⟨1, _⟩ => show win0_7.index t 1 * 1024 + 1 * (j 1).val = (J 1).val; rw [e1, h1]; omega

theorem iblk8 (c : Dev nD) (t : Fin cfg0.N) (j : S128x2048.Idx) (J : S2048x2048.Idx)
    (h0 : (J 0).val = 128 * (t.val) + (j 0).val) (h1 : (J 1).val = (j 1).val) :
    (iblk m c 8 t : Vec Ideal S128x2048 .f32) j = m ((c : Thread nD τ).loc main_arg5) J := by
  obtain ⟨-, -, -, -, -, -, -, -, ⟨e0, e1⟩⟩ := idx0 t
  unfold iblk
  rw [View.read_apply]
  show V m c main_arg5 _ = m (c.tc.loc main_arg5) _
  unfold V
  congr 1
  funext a
  apply Fin.ext
  match a with
  | ⟨0, _⟩ => show win0_8.index t 0 * 128 + 1 * (j 0).val = (J 0).val; rw [e0, h0]; omega
  | ⟨1, _⟩ => show win0_8.index t 1 * 2048 + 1 * (j 1).val = (J 1).val; rw [e1, h1]; omega

/-- The carried buffer after point `n` holds column tile `n / 8` of the first branch's weights. -/
theorem carriedA (c : Dev nD) : ∀ (n : ℕ) (hn : n < cfg0.N) (j : S1024x1024.Idx) (J : S1024x2048.Idx),
    (J 0).val = (j 0).val → (J 1).val = 1024 * (n / 8) + (j 1).val →
    (outsAt0 m c n hn).2.2.1 j = m ((c : Thread nD τ).loc main_arg3) J
  | 0, hn, j, J, h0, h1 => by
    rw [outsAt0_A m c ⟨0, hn⟩ (Nat.zero_mod 8)]
    dsimp only
    rw [sout_A_0, pay3_apply]
    exact iblk6 m c ⟨0, hn⟩ j J h0 h1
  | n + 1, hn, j, J, h0, h1 => by
    by_cases hm : (n + 1) % 8 = 0
    · rw [outsAt0_A m c ⟨n + 1, hn⟩ hm]
      dsimp only
      rw [sout_A_0, pay3_apply]
      exact iblk6 m c ⟨n + 1, hn⟩ j J h0 h1
    · rw [outsAt0_B m c ⟨n + 1, hn⟩ hm]
      dsimp only
      unfold sout0_B_0
      exact carriedA c n _ j J h0 (by rw [h1]; omega)

/-- The carried buffer after point `n` holds column tile `n / 8` of the second branch's weights. -/
theorem carriedB (c : Dev nD) : ∀ (n : ℕ) (hn : n < cfg0.N) (j : S1024x1024.Idx) (J : S1024x2048.Idx),
    (J 0).val = (j 0).val → (J 1).val = 1024 * (n / 8) + (j 1).val →
    (outsAt0 m c n hn).2.2.2 j = m ((c : Thread nD τ).loc main_arg4) J
  | 0, hn, j, J, h0, h1 => by
    rw [outsAt0_A m c ⟨0, hn⟩ (Nat.zero_mod 8)]
    dsimp only
    rw [sout_A_1, pay4_apply]
    exact iblk7 m c ⟨0, hn⟩ j J h0 h1
  | n + 1, hn, j, J, h0, h1 => by
    by_cases hm : (n + 1) % 8 = 0
    · rw [outsAt0_A m c ⟨n + 1, hn⟩ hm]
      dsimp only
      rw [sout_A_1, pay4_apply]
      exact iblk7 m c ⟨n + 1, hn⟩ j J h0 h1
    · rw [outsAt0_B m c ⟨n + 1, hn⟩ hm]
      dsimp only
      unfold sout0_B_1
      exact carriedB c n _ j J h0 (by rw [h1]; omega)

/-- The first output's block after point `n`: rows `n % 8`, columns `n / 8` of the merge. -/
theorem outBlock (c : Dev nD) (n : ℕ) (hn : n < cfg0.N) (j : S1024x1024.Idx) (J : S8192x2048.Idx)
    (h0 : (J 0).val = 1024 * (n % 8) + (j 0).val) (h1 : (J 1).val = 1024 * (n / 8) + (j 1).val) :
    (outsAt0 m c n hn).1 j = merged (m ((c : Thread nD τ).loc main_arg0)) (m ((c : Thread nD τ).loc main_arg1)) (m ((c : Thread nD τ).loc main_arg2)) (m ((c : Thread nD τ).loc main_arg3)) (m ((c : Thread nD τ).loc main_arg4)) J := by
  have e : (outsAt0 m c n hn).1 = View.canon (halves (iblk m c 0 ⟨n, hn⟩) ((outsAt0 m c n hn).2.2.1) (iblk m c 1 ⟨n, hn⟩) ((outsAt0 m c n hn).2.2.2)
      (iblk m c 2 ⟨n, hn⟩) (iblk m c 3 ⟨n, hn⟩) (iblk m c 4 ⟨n, hn⟩) (iblk m c 5 ⟨n, hn⟩)) := by
    by_cases hm : n % 8 = 0
    · rw [outsAt0_A m c ⟨n, hn⟩ hm]
      dsimp only
      rw [out9_A, sout_A_0, sout_A_1]
    · rw [outsAt0_B m c ⟨n, hn⟩ hm]
      dsimp only
      rw [out9_B]
      unfold sout0_B_0 sout0_B_1
      rfl
  rw [e, halves_apply]
  unfold blkAt merged
  have hj0 : (j 0).val < 1024 := (j 0).isLt
  have hj1 : (j 1).val < 1024 := (j 1).isLt
  have ga : (if h : (j 1).val < 512 then (iblk m c 2 ⟨n, hn⟩ : Vec Ideal S1024x512 .bf16) (ix2 (j 0) ⟨(j 1).val, h⟩)
      else (iblk m c 3 ⟨n, hn⟩ : Vec Ideal S1024x512 .bf16) (ix2 (j 0) ⟨(j 1).val - 512, by omega⟩))
      = (m ((c : Thread nD τ).loc main_arg2)) (ix2 (J 0) ⟨6656 + (J 1).val, by have : (J 1).val < 2048 := (J 1).isLt; omega⟩) := by
    split
    · exact iblk2 m c ⟨n, hn⟩ _ _ h0 (by show 6656 + (J 1).val = 512 * (13 + 2 * (n / 8)) + (j 1).val; omega)
    · exact iblk3 m c ⟨n, hn⟩ _ _ h0 (by show 6656 + (J 1).val = 512 * (14 + 2 * (n / 8)) + ((j 1).val - 512); omega)
  have gb : (if h : (j 1).val < 512 then (iblk m c 4 ⟨n, hn⟩ : Vec Ideal S1024x512 .bf16) (ix2 (j 0) ⟨(j 1).val, h⟩)
      else (iblk m c 5 ⟨n, hn⟩ : Vec Ideal S1024x512 .bf16) (ix2 (j 0) ⟨(j 1).val - 512, by omega⟩))
      = (m ((c : Thread nD τ).loc main_arg2)) (ix2 (J 0) ⟨8704 + (J 1).val, by have : (J 1).val < 2048 := (J 1).isLt; omega⟩) := by
    split
    · exact iblk4 m c ⟨n, hn⟩ _ _ h0 (by show 8704 + (J 1).val = 512 * (17 + 2 * (n / 8)) + (j 1).val; omega)
    · exact iblk5 m c ⟨n, hn⟩ _ _ h0 (by show 8704 + (J 1).val = 512 * (18 + 2 * (n / 8)) + ((j 1).val - 512); omega)
  have pa : ∀ k : Fin 1024, (iblk m c 0 ⟨n, hn⟩ : Vec Ideal S1024x1024 .bf16) (ix2 (j 0) k) = (m ((c : Thread nD τ).loc main_arg0)) (ix2 (J 0) k) :=
    fun k => iblk0 m c ⟨n, hn⟩ _ _ h0 rfl
  have pb : ∀ k : Fin 1024, (iblk m c 1 ⟨n, hn⟩ : Vec Ideal S1024x1024 .bf16) (ix2 (j 0) k) = (m ((c : Thread nD τ).loc main_arg1)) (ix2 (J 0) k) :=
    fun k => iblk1 m c ⟨n, hn⟩ _ _ h0 rfl
  have qa : ∀ k : Fin 1024, (outsAt0 m c n hn).2.2.1 (ix2 k (j 1)) = (m ((c : Thread nD τ).loc main_arg3)) (ix2 k (J 1)) :=
    fun k => carriedA m c n hn _ _ rfl h1
  have qb : ∀ k : Fin 1024, (outsAt0 m c n hn).2.2.2 (ix2 k (j 1)) = (m ((c : Thread nD τ).loc main_arg4)) (ix2 k (J 1)) :=
    fun k => carriedB m c n hn _ _ rfl h1
  refine congrArg₂ (fun a b : EReal => a + b) (congrArg₂ (fun a b : EReal => a * b) (congrArg Ideal.logistic ga) (Finset.sum_congr rfl fun k _ => ?_))
    (congrArg₂ (fun a b : EReal => a * b) (congrArg Ideal.logistic gb) (Finset.sum_congr rfl fun k _ => ?_))
  · exact congrArg₂ (fun a b : EReal => a * b) (pa k) (qa k)
  · exact congrArg₂ (fun a b : EReal => a * b) (pb k) (qb k)

/-- The second output's block after point `n`: rows `128 * n` and on of the output weights. -/
theorem outBlock10 (c : Dev nD) (n : ℕ) (hn : n < cfg0.N) (j : S128x2048.Idx) (J : S2048x2048.Idx)
    (h0 : (J 0).val = 128 * n + (j 0).val) (h1 : (J 1).val = (j 1).val) :
    (outsAt0 m c n hn).2.1 j = (m ((c : Thread nD τ).loc main_arg5)) J := by
  have e : (outsAt0 m c n hn).2.1 = k0_pay2 (iblk m c 8 ⟨n, hn⟩) := by
    by_cases hm : n % 8 = 0
    · rw [outsAt0_A m c ⟨n, hn⟩ hm]
      dsimp only
      rw [out10_A]
    · rw [outsAt0_B m c ⟨n, hn⟩ hm]
      dsimp only
      rw [out10_B]
  rw [e, pay2_apply]
  exact iblk8 m c ⟨n, hn⟩ j J h0 h1

theorem result9 (c : Dev nD) (i : S8192x2048.Idx) :
    Value.G9 m c i = merged (m ((c : Thread nD τ).loc main_arg0)) (m ((c : Thread nD τ).loc main_arg1)) (m ((c : Thread nD τ).loc main_arg2)) (m ((c : Thread nD τ).loc main_arg3)) (m ((c : Thread nD τ).loc main_arg4)) i := by
  have hi0 : (i 0).val < 8192 := (i 0).isLt
  have hi1 : (i 1).val < 2048 := (i 1).isLt
  have hp : pt9Of i < cfg0.N := by
    rw [show cfg0.N = 16 from N_0]
    show 1 * ((i 0).val / 1024 - 0) + 8 * ((i 1).val / 1024 - 0) < 16
    omega
  unfold Value.G9
  rw [dif_pos hp, ← outsAt0_sweep m c (pt9Of i) hp]
  refine outBlock m c (pt9Of i) hp (loc9Of i) i ?_ ?_
  · show (i 0).val = 1024 * ((1 * ((i 0).val / 1024 - 0) + 8 * ((i 1).val / 1024 - 0)) % 8) + (i 0).val % 1024
    omega
  · show (i 1).val = 1024 * ((1 * ((i 0).val / 1024 - 0) + 8 * ((i 1).val / 1024 - 0)) / 8) + (i 1).val % 1024
    omega

theorem result10 (c : Dev nD) (i : S2048x2048.Idx) : Value.G10 m c i = (m ((c : Thread nD τ).loc main_arg5)) i := by
  have hi0 : (i 0).val < 2048 := (i 0).isLt
  have hi1 : (i 1).val < 2048 := (i 1).isLt
  have hp : pt10Of i < cfg0.N := by
    rw [show cfg0.N = 16 from N_0]
    show 1 * ((i 0).val / 128 - 0) + 1 * ((i 1).val / 2048 - 0) < 16
    omega
  unfold Value.G10
  rw [dif_pos hp, ← outsAt0_sweep m c (pt10Of i) hp]
  refine outBlock10 m c (pt10Of i) hp (loc10Of i) i ?_ ?_
  · show (i 0).val = 128 * (1 * ((i 0).val / 128 - 0) + 1 * ((i 1).val / 2048 - 0)) + (i 0).val % 128
    omega
  · show (i 1).val = (i 1).val % 2048
    omega

end Cert.MergeIdeal.Val

namespace Cert.MergeRefIdeal.Val

open Cert.MergeRefIdeal Cert.MergeRefIdeal.Read Idealize.ShloMosaic

theorem one_bits : (Ideal.ofBits .f32 0x3F800000#32 : EReal) = 1 := by
  simp [Ideal.ofBits, Ideal.ieee, -EReal.coe_mul]; norm_num

theorem gateA (x : Vec Ideal S8192x10752 .bf16) (i : S8192x2048.Idx) :
    val_main_v20 (F := Ideal) x i = Ideal.logistic (x (ix2 (i 0) ⟨6656 + (i 1).val, by have : (i 1).val < 2048 := (i 1).isLt; omega⟩)) := by
  rw [val_main_v20_apply, val_main_v19_apply, val_main_v18_apply, val_main_v17_apply, val_main_v16_apply, val_main_v15_apply,
    val_main_v9_apply, val_main_v0_apply, val_main_cst_apply, val_main_cst_0_apply]
  have e : idx_main_v9 i = ix2 (i 0) ⟨6656 + (i 1).val, by have : (i 1).val < 2048 := (i 1).isLt; omega⟩ := by
    funext a; apply Fin.ext
    match a with
    | ⟨0, _⟩ => rfl
    | ⟨1, _⟩ => first | rfl | exact Nat.add_comm _ _
  rw [e]
  show Ideal.div (Ideal.ofBits .f32 0x3F800000#32) (Ideal.ofBits .f32 0x3F800000#32 + Ideal.exp (-(x _))) = _
  rw [one_bits]
  rfl

theorem gateB (x : Vec Ideal S8192x10752 .bf16) (i : S8192x2048.Idx) :
    val_main_v27 (F := Ideal) x i = Ideal.logistic (x (ix2 (i 0) ⟨8704 + (i 1).val, by have : (i 1).val < 2048 := (i 1).isLt; omega⟩)) := by
  rw [val_main_v27_apply, val_main_v26_apply, val_main_v25_apply, val_main_v24_apply, val_main_v23_apply, val_main_v22_apply,
    val_main_v10_apply, val_main_v0_apply, val_main_cst_1_apply, val_main_cst_2_apply]
  have e : idx_main_v10 i = ix2 (i 0) ⟨8704 + (i 1).val, by have : (i 1).val < 2048 := (i 1).isLt; omega⟩ := by
    funext a; apply Fin.ext
    match a with
    | ⟨0, _⟩ => rfl
    | ⟨1, _⟩ => first | rfl | exact Nat.add_comm _ _
  rw [e]
  show Ideal.div (Ideal.ofBits .f32 0x3F800000#32) (Ideal.ofBits .f32 0x3F800000#32 + Ideal.exp (-(x _))) = _
  rw [one_bits]
  rfl

theorem prodA (x : Vec Ideal S8192x1024 .bf16) (w : Vec Ideal S1024x2048 .f32) (i : S8192x2048.Idx) :
    val_main_v12 (F := Ideal) x w i = ∑ k : Fin 1024, (x (ix2 (i 0) k) * w (ix2 k (i 1)) : EReal) := by
  rw [val_main_v12_apply]
  refine Finset.sum_congr rfl fun k _ => congrArg₂ (· * ·) ?_ ?_
  · show x _ = x _
    congr 1; funext a; match a with | ⟨0, _⟩ => rfl | ⟨1, _⟩ => rfl
  · congr 1; funext a; match a with | ⟨0, _⟩ => rfl | ⟨1, _⟩ => rfl

theorem prodB (x : Vec Ideal S8192x1024 .bf16) (w : Vec Ideal S1024x2048 .f32) (i : S8192x2048.Idx) :
    val_main_v14 (F := Ideal) x w i = ∑ k : Fin 1024, (x (ix2 (i 0) k) * w (ix2 k (i 1)) : EReal) := by
  rw [val_main_v14_apply]
  refine Finset.sum_congr rfl fun k _ => congrArg₂ (· * ·) ?_ ?_
  · show x _ = x _
    congr 1; funext a; match a with | ⟨0, _⟩ => rfl | ⟨1, _⟩ => rfl
  · congr 1; funext a; match a with | ⟨0, _⟩ => rfl | ⟨1, _⟩ => rfl

/-- The reference's first result is the gated merge. -/
theorem merged (x0 x1 : Vec Ideal S8192x1024 .bf16) (x2 : Vec Ideal S8192x10752 .bf16) (x3 x4 : Vec Ideal S1024x2048 .f32) :
    val_main_v30 (F := Ideal) x0 x1 x2 x3 x4 = Cert.MergeIdeal.Val.merged x0 x1 x2 x3 x4 := by
  funext i
  rw [val_main_v30_apply, val_main_v29_apply, val_main_v21_apply, val_main_v28_apply, gateA, gateB, prodA, prodB]
  rfl

end Cert.MergeRefIdeal.Val

namespace Cert.Proof.Merge

open Idealize.ShloMosaic Idealize.ShloMosaic.TcCoe Idealize.SL.Sem

theorem algebraic : Cert.algebraic_MergeIdeal_MergeRefIdeal := by
  intro m ρ m' ρ' _ hagree
  refine ⟨fun c => Cert.MergeIdeal.Value.G9 m c, fun c => Cert.MergeIdeal.Value.G10 m c, Cert.MergeIdeal.Value.run (F := Ideal) m ρ, ?_⟩
  refine (θ_run Cert.MergeRefIdeal.defs _ _).mono (fun _ h c => ⟨(h c).1.trans ?_, (h c).2.1.trans ?_, (h c).2.2⟩) (Cert.MergeRefIdeal.Value.run (F := Ideal) m' ρ')
  · obtain ⟨a0, a1, a2, a3, a4, a5⟩ := hagree c
    rw [Cert.MergeRefIdeal.Read.val_main_v30_eq, a0, a1, a2, a3, a4]
    refine (Cert.MergeRefIdeal.Val.merged _ _ _ _ _).trans ?_
    funext i
    exact (Cert.MergeIdeal.Val.result9 m c i).symm
  · obtain ⟨a0, a1, a2, a3, a4, a5⟩ := hagree c
    rw [a5]
    funext i
    exact (Cert.MergeIdeal.Val.result10 m c i).symm

end Cert.Proof.Merge

end
-- ==== Proof.OutprojMath.lean ====
/-
  The output projection's row, over the extended reals: the two norms, the gated sum and the router's softmax, and what
  the kernel's own form of the router's products comes to.
-/
module

public import proofs.«01_k».proof.Defs
public import Idealize.ShloMosaic.PureOps.Ideal.Laws

@[expose] public section

noncomputable section

namespace Cert.Proof.OutprojMath

open Idealize.ShloMosaic

/-- The reciprocal root of a row's mean square. -/
def rinv (v : Fin 2048 → EReal) : EReal :=
  Ideal.rsqrt (Ideal.div (∑ k : Fin 2048, v k * v k) (Ideal.ofBits .f32 0x45000000#32) + Ideal.ofBits .f32 0x358637BD#32)

/-- The sum of a row and its branch's normed product, weighted by the gate. -/
def sumRow (x y gt g : Fin 2048 → EReal) (c : Fin 2048) : EReal := x c + y c * rinv y * (gt c * g c)

/-- The normed and modulated row. -/
def hidRow (x g sc sh : Fin 2048 → EReal) (c : Fin 2048) : EReal :=
  x c * rinv x * (g c * (Ideal.ofBits .f32 0x3F800000#32 + sc c)) + sh c

/-- The softmax of the lanes. -/
def soft (l : Fin 128 → EReal) (e : Fin 128) : EReal :=
  Ideal.div (Ideal.exp (l e - Finset.univ.fold max ⊥ l)) (∑ j : Fin 128, Ideal.exp (l j - Finset.univ.fold max ⊥ l))

/-- The router's logits: an expert's product, and ⊥ at the lanes beyond the last expert. -/
def logit (h : Fin 2048 → EReal) (w : Fin 2048 → Fin 16 → EReal) (e : Fin 128) : EReal :=
  if l : e.val < 16 then ∑ k : Fin 2048, h k * w k ⟨e.val, l⟩ else ⊥

theorem sumRow_ref (x y gt g : Fin 2048 → EReal) (c : Fin 2048) : x c + gt c * (y c * rinv y * g c) = sumRow x y gt g c := by
  unfold sumRow
  rw [← mul_assoc (gt c), mul_comm (gt c), mul_assoc]

theorem hidRow_ref (x g sc sh : Fin 2048 → EReal) (c : Fin 2048) :
    x c * rinv x * g c * (Ideal.ofBits .f32 0x3F800000#32 + sc c) + sh c = hidRow x g sc sh c := by
  unfold hidRow
  rw [mul_assoc (x c * rinv x)]

/-- A finite weight less itself is nothing, so the rest's products add nothing. -/
theorem rest_zero (h w : Fin 2048 → EReal) (hw : ∀ k, w k ≠ ⊤ ∧ w k ≠ ⊥) :
    (∑ k : Fin 2048, h k * w k) + (∑ k : Fin 2048, h k * (w k - w k)) = ∑ k : Fin 2048, h k * w k := by
  have : ∀ k : Fin 2048, h k * (w k - w k) = 0 := fun k => by
    rw [EReal.sub_self (hw k).1 (hw k).2, mul_zero]
  rw [Finset.sum_congr rfl fun k _ => this k, Finset.sum_const_zero, add_zero]

end Cert.Proof.OutprojMath

end
-- ==== Proof.OutprojRuns.lean ====
/-
  The output projection, what the body leaves at a grid point: it stores this tile's product in one half of the carried
  buffer and, from the other half, the previous tile's three results, each in two stores of 256 rows.
-/
module

public import proofs.«01_k».proof.Defs
public import proofs.«01_k».proof.Proof.AttnMath
public import proofs.«01_k».proof.Proof.OutprojMath
public import proofs.«01_k».proof.Proof.Gen.OutprojIdeal.Value
public import Idealize.ShloMosaic.Lib.Pipeline.Value
public import Idealize.ShloMosaic.Lib.Pointwise
public import Idealize.ShloMosaic.Lib.WritesUnit
public import Idealize.ShloMosaic.Lib.Claim
public import Idealize.ShloMosaic.Lib.Tactic

@[expose] public section

set_option maxRecDepth 16384

noncomputable section

namespace Cert.OutprojIdeal.Val

open Cert.Proof Cert.OutprojIdeal Cert.OutprojIdeal.Gen Cert.OutprojIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

section
variable {F : FTy → Type} [FloatOps F]

/-- The half of the carried buffer just written reads back. -/
theorem read_half (v : View sig .tc .vmem S2x512x2048 .f32) (f : v.ty.Contents (Elt F)) (p : ℕ) (P : Fin 2) (hp : P.val = p)
    (inb : ∀ a : Fin 3, ![p, 0, 0] a + S1x512x2048.size a ≤ S2x512x2048.size a) (w : Vec F S1x512x2048 .f32) (L : List (View.Piece (Elt F) S2x512x2048 .f32)) (r : Fin 512) (k : Fin 2048) :
    v.read (Elt F) (v.writes (Elt F) f (⟨Rect.unit (s := S2x512x2048) ![p, 0, 0] S1x512x2048.size inb, w⟩ :: L)) (ix3 P r k) = w (ix3 0 r k) := by
  refine View.read_writes_cons_unit_of_mem v f inb w L (ix3 P r k) (ix3 0 r k) rfl fun a => ?_
  match a with
  | ⟨0, _⟩ => show P.val = p + 0; omega
  | ⟨1, _⟩ => show r.val = 0 + r.val; omega
  | ⟨2, _⟩ => show k.val = 0 + k.val; omega

/-- Row `n` of the modulation. -/
def mod2 (x3 : Vec F S1x6x2048 .f32) : Vec F S1x1x2048 .f32 := View.ld x3 (Rect.unit (s := S1x6x2048) ![0, 2, 0] S1x1x2048.size inb_S1x6x2048_S1x1x2048_0_2_0)
def mod3 (x3 : Vec F S1x6x2048 .f32) : Vec F S1x1x2048 .f32 := View.ld x3 (Rect.unit (s := S1x6x2048) ![0, 3, 0] S1x1x2048.size inb_S1x6x2048_S1x1x2048_0_3_0)
def mod4 (x3 : Vec F S1x6x2048 .f32) : Vec F S1x1x2048 .f32 := View.ld x3 (Rect.unit (s := S1x6x2048) ![0, 4, 0] S1x1x2048.size inb_S1x6x2048_S1x1x2048_0_4_0)

/-- The tile's upper and lower rows. -/
def xa (x2 : Vec F S512x2048 .f32) : Vec F S256x2048 .f32 := View.ld x2 (Rect.unit (s := S512x2048) ![0, 0] S256x2048.size inb_S512x2048_S256x2048_0_0)
def xb (x2 : Vec F S512x2048 .f32) : Vec F S256x2048 .f32 := View.ld x2 (Rect.unit (s := S512x2048) ![256, 0] S256x2048.size inb_S512x2048_S256x2048_256_0)

/-- The carried halves' upper and lower rows. -/
def ya0 (s : Vec F S2x512x2048 .f32) : Vec F S1x256x2048 .f32 := View.ld s (Rect.unit (s := S2x512x2048) ![0, 0, 0] S1x256x2048.size inb_S2x512x2048_S1x256x2048_0_0_0)
def yb0 (s : Vec F S2x512x2048 .f32) : Vec F S1x256x2048 .f32 := View.ld s (Rect.unit (s := S2x512x2048) ![0, 256, 0] S1x256x2048.size inb_S2x512x2048_S1x256x2048_0_256_0)
def ya1 (s : Vec F S2x512x2048 .f32) : Vec F S1x256x2048 .f32 := View.ld s (Rect.unit (s := S2x512x2048) ![1, 0, 0] S1x256x2048.size inb_S2x512x2048_S1x256x2048_1_0_0)
def yb1 (s : Vec F S2x512x2048 .f32) : Vec F S1x256x2048 .f32 := View.ld s (Rect.unit (s := S2x512x2048) ![1, 256, 0] S1x256x2048.size inb_S2x512x2048_S1x256x2048_1_256_0)

/-- The stored pieces of the first result's block, from the carried rows. -/
def pieces7 (x2 : Vec F S512x2048 .f32) (x3 : Vec F S1x6x2048 .f32) (x4 : Vec F S1x2048 .f32) (ya yb : Vec F S1x256x2048 .f32) : List (View.Piece (Elt F) S512x2048 .f32) :=
  [⟨Rect.unit (s := S512x2048) ![256, 0] S256x2048.size inb_S512x2048_S256x2048_256_0, k0_pay14 (k0_pay6 (mod2 x3) x4) (xb x2) yb⟩,
    ⟨Rect.unit (s := S512x2048) ![0, 0] S256x2048.size inb_S512x2048_S256x2048_0_0, k0_pay14 (k0_pay6 (mod2 x3) x4) (xa x2) ya⟩]

/-- The normed and modulated rows, one store's worth. -/
def hidV (x : Vec F S256x2048 .f32) (x3 : Vec F S1x6x2048 .f32) (x4 x5 : Vec F S1x2048 .f32) (y : Vec F S1x256x2048 .f32) : FVec F S256x2048 .bf16 :=
  k0_pay15 (k0_pay6 (mod2 x3) x4) (k0_pay7 x5 (mod4 x3)) x y (mod3 x3)

/-- The stored pieces of the second result's block. -/
def pieces8 (x2 : Vec F S512x2048 .f32) (x3 : Vec F S1x6x2048 .f32) (x4 x5 : Vec F S1x2048 .f32) (ya yb : Vec F S1x256x2048 .f32) : List (View.Piece (Elt F) S512x2048 .bf16) :=
  [⟨Rect.unit (s := S512x2048) ![256, 0] S256x2048.size inb_S512x2048_S256x2048_256_0, hidV (xb x2) x3 x4 x5 yb⟩,
    ⟨Rect.unit (s := S512x2048) ![0, 0] S256x2048.size inb_S512x2048_S256x2048_0_0, hidV (xa x2) x3 x4 x5 ya⟩]

/-- The stored pieces of the router's block. -/
def pieces9 (x2 : Vec F S512x2048 .f32) (x3 : Vec F S1x6x2048 .f32) (x4 x5 : Vec F S1x2048 .f32) (x6 : Vec F S2048x128 .f32) (ya yb : Vec F S1x256x2048 .f32) : List (View.Piece (Elt F) S512x128 .f32) :=
  [⟨Rect.unit (s := S512x128) ![256, 0] S256x128.size inb_S512x128_S256x128_256_0, k0_pay2 (k0_pay5 x6) (hidV (xb x2) x3 x4 x5 yb)⟩,
    ⟨Rect.unit (s := S512x128) ![0, 0] S256x128.size inb_S512x128_S256x128_0_0, k0_pay2 (k0_pay5 x6) (hidV (xa x2) x3 x4 x5 ya)⟩]

/-- At an odd point the first result's block is computed from the half of the carried buffer the point before wrote. -/
theorem out7_B (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : ¬cond0_0 i) (hc1 : ¬cond0_1 i) (hc2 : cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (xs0 : Vec F S2x512x2048 .f32) :
    out0_B_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 = View.canon (pieces7 x2 x3 x4 (ya0 xs0) (yb0 xs0)) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_B
  dsimp only
  sl_unfold_words
  simp only [View.readAt_eq_ld, harg1.read_unread, harg2.read_unread, harg3.read_unread, harg4.read_unread, harg5.read_unread, harg6.read_unread, harg7.read_unread, harg11.read_unread, View.ld_unit_zero (S := S512x2048) hz, View.ld_unit_zero (S := S2048x2048) hz, View.ld_unit_zero (S := S1x2048) hz, View.ld_unit_zero (S := S2048x128) hz]
  rfl

/-- The same of the second result's block. -/
theorem out8_B (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : ¬cond0_0 i) (hc1 : ¬cond0_1 i) (hc2 : cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (xs0 : Vec F S2x512x2048 .f32) :
    out0_B_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 = View.canon (pieces8 x2 x3 x4 x5 (ya0 xs0) (yb0 xs0)) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_B
  dsimp only
  sl_unfold_words
  simp only [View.readAt_eq_ld, harg1.read_unread, harg2.read_unread, harg3.read_unread, harg4.read_unread, harg5.read_unread, harg6.read_unread, harg7.read_unread, harg11.read_unread, View.ld_unit_zero (S := S512x2048) hz, View.ld_unit_zero (S := S2048x2048) hz, View.ld_unit_zero (S := S1x2048) hz, View.ld_unit_zero (S := S2048x128) hz]
  rfl

/-- The same of the router's block. -/
theorem out9_B (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : ¬cond0_0 i) (hc1 : ¬cond0_1 i) (hc2 : cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (xs0 : Vec F S2x512x2048 .f32) :
    out0_B_9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 = View.canon (pieces9 x2 x3 x4 x5 x6 (ya0 xs0) (yb0 xs0)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_B
  dsimp only
  sl_unfold_words
  simp only [View.readAt_eq_ld, harg1.read_unread, harg2.read_unread, harg3.read_unread, harg4.read_unread, harg5.read_unread, harg6.read_unread, harg7.read_unread, harg11.read_unread, View.ld_unit_zero (S := S512x2048) hz, View.ld_unit_zero (S := S2048x2048) hz, View.ld_unit_zero (S := S1x2048) hz, View.ld_unit_zero (S := S2048x128) hz]
  rfl

/-- At an even point the first result's block is computed from the half of the carried buffer the point before wrote. -/
theorem out7_C (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (xs0 : Vec F S2x512x2048 .f32) :
    out0_C_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 = View.canon (pieces7 x2 x3 x4 (ya1 xs0) (yb1 xs0)) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_C
  dsimp only
  sl_unfold_words
  simp only [View.readAt_eq_ld, harg1.read_unread, harg2.read_unread, harg3.read_unread, harg4.read_unread, harg5.read_unread, harg6.read_unread, harg7.read_unread, harg11.read_unread, View.ld_unit_zero (S := S512x2048) hz, View.ld_unit_zero (S := S2048x2048) hz, View.ld_unit_zero (S := S1x2048) hz, View.ld_unit_zero (S := S2048x128) hz]
  rfl

/-- The same of the second result's block. -/
theorem out8_C (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (xs0 : Vec F S2x512x2048 .f32) :
    out0_C_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 = View.canon (pieces8 x2 x3 x4 x5 (ya1 xs0) (yb1 xs0)) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_C
  dsimp only
  sl_unfold_words
  simp only [View.readAt_eq_ld, harg1.read_unread, harg2.read_unread, harg3.read_unread, harg4.read_unread, harg5.read_unread, harg6.read_unread, harg7.read_unread, harg11.read_unread, View.ld_unit_zero (S := S512x2048) hz, View.ld_unit_zero (S := S2048x2048) hz, View.ld_unit_zero (S := S1x2048) hz, View.ld_unit_zero (S := S2048x128) hz]
  rfl

/-- The same of the router's block. -/
theorem out9_C (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (xs0 : Vec F S2x512x2048 .f32) :
    out0_C_9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 = View.canon (pieces9 x2 x3 x4 x5 x6 (ya1 xs0) (yb1 xs0)) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0)]
  unfold kernelRun0_C
  dsimp only
  sl_unfold_words
  simp only [View.readAt_eq_ld, harg1.read_unread, harg2.read_unread, harg3.read_unread, harg4.read_unread, harg5.read_unread, harg6.read_unread, harg7.read_unread, harg11.read_unread, View.ld_unit_zero (S := S512x2048) hz, View.ld_unit_zero (S := S2048x2048) hz, View.ld_unit_zero (S := S1x2048) hz, View.ld_unit_zero (S := S2048x128) hz]
  rfl

/-- The half of the carried buffer that the point wrote holds its tile's product. -/
theorem sout_A (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : cond0_0 i) (hc1 : cond0_1 i) (hc2 : ¬cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (r : Fin 512) (k : Fin 2048) :
    sout0_A_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 (ix3 0 r k) = k0_pay4 x0 x1 (ix3 0 r k) := by
  unfold sout0_A_0
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S512x2048) hz, View.ld_unit_zero (S := S2048x2048) hz, View.ld_unit_zero (S := S1x2048) hz, View.ld_unit_zero (S := S2048x128) hz]
  exact read_half VS0_0 _ 0 0 rfl inb_S2x512x2048_S1x512x2048_0_0_0 _ _ r k

/-- The half of the carried buffer that the point wrote holds its tile's product. -/
theorem sout_B (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : ¬cond0_0 i) (hc1 : ¬cond0_1 i) (hc2 : cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (xs0 : Vec F S2x512x2048 .f32) (r : Fin 512) (k : Fin 2048) :
    sout0_B_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 (ix3 1 r k) = k0_pay4 x0 x1 (ix3 0 r k) := by
  unfold sout0_B_0
  unfold kernelRun0_B
  dsimp only
  sl_unfold_words
  simp only [View.readAt_eq_ld, harg1.read_unread, harg2.read_unread, harg3.read_unread, harg4.read_unread, harg5.read_unread, harg6.read_unread, harg7.read_unread, harg11.read_unread, View.ld_unit_zero (S := S512x2048) hz, View.ld_unit_zero (S := S2048x2048) hz, View.ld_unit_zero (S := S1x2048) hz, View.ld_unit_zero (S := S2048x128) hz]
  exact read_half arg11.view _ 1 1 rfl inb_S2x512x2048_S1x512x2048_1_0_0 _ _ r k

/-- The half of the carried buffer that the point wrote holds its tile's product. -/
theorem sout_C (c : Dev nD) (i : grid0.Coords) (arg1 : Memref sig .tc .vmem S512x2048 .bf16) (harg1 : arg1.IsWhole) (arg2 : Memref sig .tc .vmem S2048x2048 .bf16) (harg2 : arg2.IsWhole) (arg3 : Memref sig .tc .vmem S512x2048 .f32) (harg3 : arg3.IsWhole) (arg4 : Memref sig .tc .vmem S1x6x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x128 .f32) (harg10 : arg10.IsWhole) (arg11 : Memref sig .tc .vmem S2x512x2048 .f32) (harg11 : arg11.IsWhole) (hc0 : ¬cond0_0 i) (hc1 : cond0_1 i) (hc2 : ¬cond0_2 i)
    (x0 : Vec F S512x2048 .bf16) (x1 : Vec F S2048x2048 .bf16) (x2 : Vec F S512x2048 .f32) (x3 : Vec F S1x6x2048 .f32) (x4 : Vec F S1x2048 .f32) (x5 : Vec F S1x2048 .f32) (x6 : Vec F S2048x128 .f32) (xs0 : Vec F S2x512x2048 .f32) (r : Fin 512) (k : Fin 2048) :
    sout0_C_0 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs0 (ix3 0 r k) = k0_pay4 x0 x1 (ix3 0 r k) := by
  unfold sout0_C_0
  unfold kernelRun0_C
  dsimp only
  sl_unfold_words
  simp only [View.readAt_eq_ld, harg1.read_unread, harg2.read_unread, harg3.read_unread, harg4.read_unread, harg5.read_unread, harg6.read_unread, harg7.read_unread, harg11.read_unread, View.ld_unit_zero (S := S512x2048) hz, View.ld_unit_zero (S := S2048x2048) hz, View.ld_unit_zero (S := S1x2048) hz, View.ld_unit_zero (S := S2048x128) hz]
  exact read_half arg11.view _ 0 0 rfl inb_S2x512x2048_S1x512x2048_0_0_0 _ _ r k

end

/-! ## Over the extended reals -/

theorem pay4_apply (x : Vec Ideal S512x2048 .bf16) (w : Vec Ideal S2048x2048 .bf16) (r : Fin 512) (k : Fin 2048) :
    k0_pay4 (F := Ideal) x w (ix3 0 r k) = ∑ d : Fin 2048, x (ix2 r d) * w (ix2 d k) := by
  pointwise [k0_pay4]

theorem pay6_apply (g : Vec Ideal S1x1x2048 .f32) (v : Vec Ideal S1x2048 .f32) (k : Fin 2048) :
    k0_pay6 (F := Ideal) g v (ix2 0 k) = (g (ix3 0 0 k) * v (ix2 0 k) : EReal) := by
  pointwise [k0_pay6]

theorem pay7_apply (v : Vec Ideal S1x2048 .f32) (g : Vec Ideal S1x1x2048 .f32) (k : Fin 2048) :
    k0_pay7 (F := Ideal) v g (ix2 0 k) = (v (ix2 0 k) * (Ideal.ofBits .f32 0x3F800000#32 + g (ix3 0 0 k)) : EReal) := by
  pointwise [k0_pay7]

theorem pay14_apply (G : FVec Ideal S1x2048 .f32) (x : Vec Ideal S256x2048 .f32) (y : Vec Ideal S1x256x2048 .f32) (r : Fin 256) (k : Fin 2048) :
    k0_pay14 (F := Ideal) G x y (ix2 r k) = (x (ix2 r k) + y (ix3 0 r k) * OutprojMath.rinv (fun j => y (ix3 0 r j)) * G (ix2 0 k) : EReal) := by
  pointwise [k0_pay14]
  rfl

theorem pay15_apply (G P : FVec Ideal S1x2048 .f32) (x : Vec Ideal S256x2048 .f32) (y : Vec Ideal S1x256x2048 .f32) (s : Vec Ideal S1x1x2048 .f32) (r : Fin 256) (k : Fin 2048) :
    k0_pay15 (F := Ideal) G P x y s (ix2 r k)
      = (k0_pay14 (F := Ideal) G x y (ix2 r k) * OutprojMath.rinv (fun j => k0_pay14 (F := Ideal) G x y (ix2 r j)) * P (ix2 0 k) + s (ix3 0 0 k) : EReal) := by
  pointwise [k0_pay15]
  rfl

theorem pay5_lo (w : Vec Ideal S2048x128 .f32) (k : Fin 2048) (e : Fin 128) : k0_pay5 (F := Ideal) w (ix2 k ⟨e.val, by omega⟩) = w (ix2 k e) := by
  pointwise [k0_pay5]

theorem pay5_hi (w : Vec Ideal S2048x128 .f32) (k : Fin 2048) (e : Fin 128) : k0_pay5 (F := Ideal) w (ix2 k ⟨128 + e.val, by omega⟩) = (w (ix2 k e) - w (ix2 k e) : EReal) := by
  pointwise [k0_pay5]

theorem lane_lt : ∀ j : Fin 128, IntOp.cmpi CmpIPredicate.slt (BitVec.ofNat 32 j.val) 16#32 = 1#1 ↔ j.val < 16 := by decide +kernel

theorem lane (j : Fin 128) (a b : EReal) :
    Scalar.select (IntOp.cmpi CmpIPredicate.slt (BitVec.ofNat 32 j.val) 16#32) a b = if j.val < 16 then a else b := by
  by_cases h : j.val < 16
  · rw [if_pos h]
    exact if_pos ((lane_lt j).mpr h)
  · rw [if_neg h]
    exact if_neg fun hc => h ((lane_lt j).mp hc)

theorem pay2_apply (W : FVec Ideal S2048x256 .bf16) (h : FVec Ideal S256x2048 .bf16) (r : Fin 256) (e : Fin 128) :
    k0_pay2 (F := Ideal) W h (ix2 r e) = OutprojMath.soft (fun j => if j.val < 16 then (∑ k : Fin 2048, h (ix2 r k) * W (ix2 k ⟨j.val, by omega⟩)) + (∑ k : Fin 2048, h (ix2 r k) * W (ix2 k ⟨128 + j.val, by omega⟩)) else ⊥) e := by
  pointwise [k0_pay2]
  unfold OutprojMath.soft
  simp only [lane, AttnMath.bot_bits]

/-! ## A grid point's blocks, from the product rows the point before left -/

theorem mod2_apply (x3 : Vec Ideal S1x6x2048 .f32) (k : Fin 2048) : mod2 (F := Ideal) x3 (ix3 0 0 k) = x3 (ix3 0 2 k) := by
  show x3 _ = x3 _
  congr 1
  funext a
  apply Fin.ext
  match a with
  | ⟨0, _⟩ => rfl
  | ⟨1, _⟩ => rfl
  | ⟨2, _⟩ => show 0 + 1 * k.val = k.val; omega

theorem mod3_apply (x3 : Vec Ideal S1x6x2048 .f32) (k : Fin 2048) : mod3 (F := Ideal) x3 (ix3 0 0 k) = x3 (ix3 0 3 k) := by
  show x3 _ = x3 _
  congr 1
  funext a
  apply Fin.ext
  match a with
  | ⟨0, _⟩ => rfl
  | ⟨1, _⟩ => rfl
  | ⟨2, _⟩ => show 0 + 1 * k.val = k.val; omega

theorem mod4_apply (x3 : Vec Ideal S1x6x2048 .f32) (k : Fin 2048) : mod4 (F := Ideal) x3 (ix3 0 0 k) = x3 (ix3 0 4 k) := by
  show x3 _ = x3 _
  congr 1
  funext a
  apply Fin.ext
  match a with
  | ⟨0, _⟩ => rfl
  | ⟨1, _⟩ => rfl
  | ⟨2, _⟩ => show 0 + 1 * k.val = k.val; omega

theorem rows_ld (x : Vec Ideal S512x2048 .f32) (o : ℕ) (inb : ∀ a : Fin 2, ![o, 0] a + S256x2048.size a ≤ S512x2048.size a) (r : Fin 256) (k : Fin 2048) (q : Fin 512) (hq : q.val = o + r.val) :
    View.ld x (Rect.unit (s := S512x2048) ![o, 0] S256x2048.size inb) (ix2 r k) = x (ix2 q k) := by
  show x _ = x _
  congr 1
  funext a
  apply Fin.ext
  match a with
  | ⟨0, _⟩ => show o + 1 * r.val = q.val; omega
  | ⟨1, _⟩ => show 0 + 1 * k.val = k.val; omega

theorem half_ld (s : Vec Ideal S2x512x2048 .f32) (p o : ℕ) (inb : ∀ a : Fin 3, ![p, o, 0] a + S1x256x2048.size a ≤ S2x512x2048.size a) (r : Fin 256) (k : Fin 2048) (P : Fin 2) (q : Fin 512) (hP : P.val = p) (hq : q.val = o + r.val) :
    View.ld s (Rect.unit (s := S2x512x2048) ![p, o, 0] S1x256x2048.size inb) (ix3 0 r k) = s (ix3 P q k) := by
  show s _ = s _
  congr 1
  funext a
  apply Fin.ext
  match a with
  | ⟨0, _⟩ => show p + 1 * 0 = P.val; omega
  | ⟨1, _⟩ => show o + 1 * r.val = q.val; omega
  | ⟨2, _⟩ => show 0 + 1 * k.val = k.val; omega

/-- The first result at row `q` of a block, from the block's product rows. -/
def blk7 (x2 : Vec Ideal S512x2048 .f32) (x3 : Vec Ideal S1x6x2048 .f32) (x4 : Vec Ideal S1x2048 .f32) (Y : Fin 512 → Fin 2048 → EReal) (q : Fin 512) : Fin 2048 → EReal :=
  OutprojMath.sumRow (fun k => x2 (ix2 q k)) (Y q) (fun k => x3 (ix3 0 2 k)) (fun k => x4 (ix2 0 k))

/-- The second result there. -/
def blk8 (x2 : Vec Ideal S512x2048 .f32) (x3 : Vec Ideal S1x6x2048 .f32) (x4 x5 : Vec Ideal S1x2048 .f32) (Y : Fin 512 → Fin 2048 → EReal) (q : Fin 512) : Fin 2048 → EReal :=
  OutprojMath.hidRow (blk7 x2 x3 x4 Y q) (fun k => x5 (ix2 0 k)) (fun k => x3 (ix3 0 4 k)) (fun k => x3 (ix3 0 3 k))

/-- The router's result there. -/
def blk9 (x2 : Vec Ideal S512x2048 .f32) (x3 : Vec Ideal S1x6x2048 .f32) (x4 x5 : Vec Ideal S1x2048 .f32) (x6 : Vec Ideal S2048x128 .f32) (Y : Fin 512 → Fin 2048 → EReal) (q : Fin 512) : Fin 128 → EReal :=
  OutprojMath.soft fun j => if j.val < 16 then (∑ k : Fin 2048, blk8 x2 x3 x4 x5 Y q k * x6 (ix2 k j)) + (∑ k : Fin 2048, blk8 x2 x3 x4 x5 Y q k * (x6 (ix2 k j) - x6 (ix2 k j))) else ⊥

theorem store7 (x2 : Vec Ideal S512x2048 .f32) (x3 : Vec Ideal S1x6x2048 .f32) (x4 : Vec Ideal S1x2048 .f32) (Y : Fin 512 → Fin 2048 → EReal)
    (x : Vec Ideal S256x2048 .f32) (y : Vec Ideal S1x256x2048 .f32) (r : Fin 256) (q : Fin 512) (hx : ∀ k, x (ix2 r k) = x2 (ix2 q k)) (hy : ∀ k, y (ix3 0 r k) = Y q k) (k : Fin 2048) :
    k0_pay14 (F := Ideal) (k0_pay6 (mod2 x3) x4) x y (ix2 r k) = blk7 x2 x3 x4 Y q k := by
  rw [pay14_apply, pay6_apply, mod2_apply]
  simp only [hx, hy]
  rfl

theorem store8 (x2 : Vec Ideal S512x2048 .f32) (x3 : Vec Ideal S1x6x2048 .f32) (x4 x5 : Vec Ideal S1x2048 .f32) (Y : Fin 512 → Fin 2048 → EReal)
    (x : Vec Ideal S256x2048 .f32) (y : Vec Ideal S1x256x2048 .f32) (r : Fin 256) (q : Fin 512) (hx : ∀ k, x (ix2 r k) = x2 (ix2 q k)) (hy : ∀ k, y (ix3 0 r k) = Y q k) (k : Fin 2048) :
    hidV (F := Ideal) x x3 x4 x5 y (ix2 r k) = blk8 x2 x3 x4 x5 Y q k := by
  unfold hidV
  rw [pay15_apply, pay7_apply, mod3_apply, mod4_apply]
  simp only [store7 x2 x3 x4 Y x y r q hx hy]
  rfl

theorem store9 (x2 : Vec Ideal S512x2048 .f32) (x3 : Vec Ideal S1x6x2048 .f32) (x4 x5 : Vec Ideal S1x2048 .f32) (x6 : Vec Ideal S2048x128 .f32) (Y : Fin 512 → Fin 2048 → EReal)
    (x : Vec Ideal S256x2048 .f32) (y : Vec Ideal S1x256x2048 .f32) (r : Fin 256) (q : Fin 512) (hx : ∀ k, x (ix2 r k) = x2 (ix2 q k)) (hy : ∀ k, y (ix3 0 r k) = Y q k) (e : Fin 128) :
    k0_pay2 (F := Ideal) (k0_pay5 x6) (hidV x x3 x4 x5 y) (ix2 r e) = blk9 x2 x3 x4 x5 x6 Y q e := by
  rw [pay2_apply]
  simp only [store8 x2 x3 x4 x5 Y x y r q hx hy, pay5_lo, pay5_hi]
  rfl

theorem emb_rows {W : ℕ} (o : ℕ) (inb : ∀ a : Fin 2, ![o, 0] a + (⟨2, ![256, W]⟩ : Shape).size a ≤ (⟨2, ![512, W]⟩ : Shape).size a)
    (x : (⟨2, ![256, W]⟩ : Shape).Idx) (q : Fin 512) (hq : q.val = o + (x 0).val) :
    (Rect.unit (s := ⟨2, ![512, W]⟩) ![o, 0] (⟨2, ![256, W]⟩ : Shape).size inb).emb x = ix2 (n0 := 512) (n1 := W) q (x 1) := by
  funext a
  apply Fin.ext
  match a with
  | ⟨0, _⟩ => show o + 1 * (x 0).val = q.val; omega
  | ⟨1, _⟩ => show 0 + 1 * (x 1).val = (x 1).val; omega

/-- Two stores of 256 rows read back as one block. -/
theorem two_stores {e : EltTy} {W : ℕ} (G : Fin 512 → Fin W → Elt Ideal e) (inb0 : ∀ a : Fin 2, ![0, 0] a + (⟨2, ![256, W]⟩ : Shape).size a ≤ (⟨2, ![512, W]⟩ : Shape).size a)
    (inb1 : ∀ a : Fin 2, ![256, 0] a + (⟨2, ![256, W]⟩ : Shape).size a ≤ (⟨2, ![512, W]⟩ : Shape).size a)
    (a b : Vec Ideal ⟨2, ![256, W]⟩ e) (ha : ∀ (r : Fin 256) (k : Fin W), a (ix2 r k) = G ⟨r.val, by omega⟩ k) (hb : ∀ (r : Fin 256) (k : Fin W), b (ix2 r k) = G ⟨256 + r.val, by omega⟩ k) (q : Fin 512) (k : Fin W) :
    View.canon (Val := Elt Ideal) (s := ⟨2, ![512, W]⟩) (e := e) [⟨Rect.unit (s := ⟨2, ![512, W]⟩) ![256, 0] (⟨2, ![256, W]⟩ : Shape).size inb1, b⟩, ⟨Rect.unit (s := ⟨2, ![512, W]⟩) ![0, 0] (⟨2, ![256, W]⟩ : Shape).size inb0, a⟩] (ix2 q k) = G q k := by
  refine View.canon_apply_of_pieces (fun y : (⟨2, ![512, W]⟩ : Shape).Idx => G (y 0) (y 1)) _ ?_ (ix2 q k) ?_
  · intro p hp
    simp only [List.mem_cons, List.mem_nil_iff, or_false] at hp
    rcases hp with rfl | rfl
    · intro x
      have hx : (x 0).val < 256 := (x 0).isLt
      have e0 := emb_rows 256 inb1 x ⟨256 + (x 0).val, by omega⟩ rfl
      refine (congrArg b (eq_ix2 (n0 := 256) (n1 := W) x)).trans ((hb (x 0) (x 1)).trans ?_)
      exact (congrArg (fun y : (⟨2, ![512, W]⟩ : Shape).Idx => G (y 0) (y 1)) e0).symm
    · intro x
      have hx : (x 0).val < 256 := (x 0).isLt
      have e0 := emb_rows 0 inb0 x ⟨(x 0).val, by omega⟩ (Nat.zero_add _).symm
      refine (congrArg a (eq_ix2 (n0 := 256) (n1 := W) x)).trans ((ha (x 0) (x 1)).trans ?_)
      exact (congrArg (fun y : (⟨2, ![512, W]⟩ : Shape).Idx => G (y 0) (y 1)) e0).symm
  · have hq := q.isLt
    have hk := k.isLt
    by_cases h : q.val < 256
    · have hm : ix2 (n0 := 512) (n1 := W) q k ∈ (Rect.unit (s := ⟨2, ![512, W]⟩) ![0, 0] (⟨2, ![256, W]⟩ : Shape).size inb0).set := by
        rw [Rect.mem_set_unit]
        intro a
        match a with
        | ⟨0, _⟩ => show 0 ≤ q.val ∧ q.val < 0 + 256; omega
        | ⟨1, _⟩ => show 0 ≤ k.val ∧ k.val < 0 + W; omega
      exact ⟨_, List.mem_cons_of_mem _ (List.mem_singleton.mpr rfl), hm⟩
    · have hm : ix2 (n0 := 512) (n1 := W) q k ∈ (Rect.unit (s := ⟨2, ![512, W]⟩) ![256, 0] (⟨2, ![256, W]⟩ : Shape).size inb1).set := by
        rw [Rect.mem_set_unit]
        intro a
        match a with
        | ⟨0, _⟩ => show 256 ≤ q.val ∧ q.val < 256 + 256; omega
        | ⟨1, _⟩ => show 0 ≤ k.val ∧ k.val < 0 + W; omega
      exact ⟨_, List.mem_cons_self, hm⟩

theorem pieces7_apply (x2 : Vec Ideal S512x2048 .f32) (x3 : Vec Ideal S1x6x2048 .f32) (x4 : Vec Ideal S1x2048 .f32) (ya yb : Vec Ideal S1x256x2048 .f32) (Y : Fin 512 → Fin 2048 → EReal)
    (ha : ∀ (r : Fin 256) k, ya (ix3 0 r k) = Y ⟨r.val, by omega⟩ k) (hb : ∀ (r : Fin 256) k, yb (ix3 0 r k) = Y ⟨256 + r.val, by omega⟩ k) (q : Fin 512) (k : Fin 2048) :
    View.canon (pieces7 (F := Ideal) x2 x3 x4 ya yb) (ix2 q k) = blk7 x2 x3 x4 Y q k :=
  two_stores (e := .f32) (blk7 x2 x3 x4 Y) inb_S512x2048_S256x2048_0_0 inb_S512x2048_S256x2048_256_0 _ _
    (fun r k => store7 x2 x3 x4 Y _ _ r ⟨r.val, by omega⟩ (fun _ => rows_ld x2 0 _ r _ _ (Nat.zero_add _).symm) (ha r) k)
    (fun r k => store7 x2 x3 x4 Y _ _ r ⟨256 + r.val, by omega⟩ (fun _ => rows_ld x2 256 _ r _ _ rfl) (hb r) k) q k

theorem pieces8_apply (x2 : Vec Ideal S512x2048 .f32) (x3 : Vec Ideal S1x6x2048 .f32) (x4 x5 : Vec Ideal S1x2048 .f32) (ya yb : Vec Ideal S1x256x2048 .f32) (Y : Fin 512 → Fin 2048 → EReal)
    (ha : ∀ (r : Fin 256) k, ya (ix3 0 r k) = Y ⟨r.val, by omega⟩ k) (hb : ∀ (r : Fin 256) k, yb (ix3 0 r k) = Y ⟨256 + r.val, by omega⟩ k) (q : Fin 512) (k : Fin 2048) :
    View.canon (pieces8 (F := Ideal) x2 x3 x4 x5 ya yb) (ix2 q k) = blk8 x2 x3 x4 x5 Y q k :=
  two_stores (e := .bf16) (blk8 x2 x3 x4 x5 Y) inb_S512x2048_S256x2048_0_0 inb_S512x2048_S256x2048_256_0 _ _
    (fun r k => store8 x2 x3 x4 x5 Y _ _ r ⟨r.val, by omega⟩ (fun _ => rows_ld x2 0 _ r _ _ (Nat.zero_add _).symm) (ha r) k)
    (fun r k => store8 x2 x3 x4 x5 Y _ _ r ⟨256 + r.val, by omega⟩ (fun _ => rows_ld x2 256 _ r _ _ rfl) (hb r) k) q k

theorem pieces9_apply (x2 : Vec Ideal S512x2048 .f32) (x3 : Vec Ideal S1x6x2048 .f32) (x4 x5 : Vec Ideal S1x2048 .f32) (x6 : Vec Ideal S2048x128 .f32) (ya yb : Vec Ideal S1x256x2048 .f32) (Y : Fin 512 → Fin 2048 → EReal)
    (ha : ∀ (r : Fin 256) k, ya (ix3 0 r k) = Y ⟨r.val, by omega⟩ k) (hb : ∀ (r : Fin 256) k, yb (ix3 0 r k) = Y ⟨256 + r.val, by omega⟩ k) (q : Fin 512) (k : Fin 128) :
    View.canon (pieces9 (F := Ideal) x2 x3 x4 x5 x6 ya yb) (ix2 q k) = blk9 x2 x3 x4 x5 x6 Y q k :=
  two_stores (e := .f32) (blk9 x2 x3 x4 x5 x6 Y) inb_S512x128_S256x128_0_0 inb_S512x128_S256x128_256_0 _ _
    (fun r k => store9 x2 x3 x4 x5 x6 Y _ _ r ⟨r.val, by omega⟩ (fun _ => rows_ld x2 0 _ r _ _ (Nat.zero_add _).symm) (ha r) k)
    (fun r k => store9 x2 x3 x4 x5 x6 Y _ _ r ⟨256 + r.val, by omega⟩ (fun _ => rows_ld x2 256 _ r _ _ rfl) (hb r) k) q k

end Cert.OutprojIdeal.Val

end
-- ==== Proof.OutprojBlocks.lean ====
/-
  The output projection, its three result arrays: each grid point keeps its tile's product rows in one half of the carried
  buffer, and the next point stores from them its three result blocks, so that the arrays end holding, row by row, the
  gated sum, its normed and modulated row, and the router's softmax.
-/
module

public import proofs.«01_k».proof.Defs
public import proofs.«01_k».proof.Proof.OutprojMath
public import proofs.«01_k».proof.Proof.OutprojRuns
public import proofs.«01_k».proof.Proof.Gen.OutprojIdeal.Value
public import Idealize.ShloMosaic.Lib.Pipeline.Value
public import Idealize.ShloMosaic.Lib.Pipeline.ValueKit.Geometry
public import Idealize.ShloMosaic.Lib.KernelVsHost
public import Idealize.ShloMosaic.Lib.Pointwise
public import Idealize.ShloMosaic.Lib.Claim
public import Idealize.ShloMosaic.Lib.Tactic

@[expose] public section

set_option maxRecDepth 16384

noncomputable section

namespace Cert.OutprojIdeal.Val

open Cert.Proof Cert.OutprojIdeal Cert.OutprojIdeal.Gen Cert.OutprojIdeal.Value Idealize.ShloMosaic Idealize.ShloMosaic.TcCoe Idealize.SL.Sem
open Idealize.ShloMosaic.Pipeline (Dat)

/-- The batch of a row. -/
def bat (R : Fin 8192) : Fin 2 := ⟨R.val / 4096, by omega⟩

/-- A row of the product with the output weights. -/
def prodRow (a : Vec Ideal S8192x2048 .bf16) (w : Vec Ideal S2048x2048 .bf16) (R : Fin 8192) (k : Fin 2048) : EReal :=
  ∑ d : Fin 2048, a (ix2 R d) * w (ix2 d k)

/-- A row of the first result. -/
def sumAt (a : Vec Ideal S8192x2048 .bf16) (w : Vec Ideal S2048x2048 .bf16) (x : Vec Ideal S8192x2048 .f32) (md : Vec Ideal S2x6x2048 .f32) (g : Vec Ideal S2048 .f32)
    (R : Fin 8192) : Fin 2048 → EReal :=
  OutprojMath.sumRow (fun k => x (ix2 R k)) (prodRow a w R) (fun k => md (ix3 (bat R) 2 k)) (fun k => g (ix1 k))

/-- A row of the second. -/
def hidAt (a : Vec Ideal S8192x2048 .bf16) (w : Vec Ideal S2048x2048 .bf16) (x : Vec Ideal S8192x2048 .f32) (md : Vec Ideal S2x6x2048 .f32) (g gp : Vec Ideal S2048 .f32)
    (R : Fin 8192) : Fin 2048 → EReal :=
  OutprojMath.hidRow (sumAt a w x md g R) (fun k => gp (ix1 k)) (fun k => md (ix3 (bat R) 4 k)) (fun k => md (ix3 (bat R) 3 k))

/-- A row of the third. -/
def affAt (a : Vec Ideal S8192x2048 .bf16) (w : Vec Ideal S2048x2048 .bf16) (x : Vec Ideal S8192x2048 .f32) (md : Vec Ideal S2x6x2048 .f32) (g gp : Vec Ideal S2048 .f32)
    (wr : Vec Ideal S2048x16 .f32) (R : Fin 8192) : Fin 128 → EReal :=
  OutprojMath.soft (OutprojMath.logit (hidAt a w x md g gp R) (fun k e => wr (ix2 k e)))

/-- No router weight is an infinity. -/
def Finite (wr : S2048x16.Idx → EReal) : Prop := ∀ i, wr i ≠ ⊤ ∧ wr i ≠ ⊥

variable (m : (ℓ : Loc nD τ sig) → Buf (Elt Ideal) ℓ)

/-- The block indices of the windows, in closed form. -/
theorem idx0 : ∀ t : Fin cfg0.N, (win0_0.index t (0 : Fin 2) = min t.val 15 ∧ win0_0.index t (1 : Fin 2) = 0)
    ∧ (win0_1.index t (0 : Fin 2) = 0 ∧ win0_1.index t (1 : Fin 2) = 0)
    ∧ (win0_2.index t (0 : Fin 2) = t.val - 1 ∧ win0_2.index t (1 : Fin 2) = 0)
    ∧ (win0_3.index t (0 : Fin 3) = (t.val - 1) / 8 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val - 1 ∧ win0_7.index t (1 : Fin 2) = 0)
    ∧ (win0_8.index t (0 : Fin 2) = t.val - 1 ∧ win0_8.index t (1 : Fin 2) = 0)
    ∧ (win0_9.index t (0 : Fin 2) = t.val - 1 ∧ win0_9.index t (1 : Fin 2) = 0) :=
  (by decide +kernel : ∀ t : Fin grid0.N, _)

/-- The first point writes no result block back. -/
theorem flush7 : ∀ t : Fin cfg0.N, (cfg0.win 7).flush t = true → t.val ≠ 0 :=
  (by decide +kernel : ∀ t : Fin grid0.N, win0_7.flush t = true → t.val ≠ 0)
theorem flush8 : ∀ t : Fin cfg0.N, (cfg0.win 8).flush t = true → t.val ≠ 0 :=
  (by decide +kernel : ∀ t : Fin grid0.N, win0_8.flush t = true → t.val ≠ 0)
theorem flush9 : ∀ t : Fin cfg0.N, (cfg0.win 9).flush t = true → t.val ≠ 0 :=
  (by decide +kernel : ∀ t : Fin grid0.N, win0_9.flush t = true → t.val ≠ 0)

/-- The first norm's weights, as the call finds them. -/
theorem V1 (c : Dev nD) (j : S1x2048.Idx) : V m c main_v1 j = m ((c : Thread nD τ).loc main_arg4) (ix1 (j 1)) := by
  have e : V m c main_v1 = shapeCast S1x2048 (m ((c : Thread nD τ).loc main_arg4)) shapeCasts_S2048_S1x2048 := by
    show StableHlo.after (List.flatten [hostOps0, hostOps0_1, hostOps0_2]) _ (Proc.devRef .tc main_v1) = _
    simp only [hostOps0, hostOps0_1, hostOps0_2, List.flatten_cons, List.flatten_nil, List.append_nil, List.cons_append, List.nil_append]
    after_results
    rfl
  rw [e]
  refine shapeCast_apply _ _ j (ix1 (j 1)) ?_
  refine (Shape.rowMajor_val_one _).trans (Eq.trans ?_ (Shape.rowMajor_val_two _).symm)
  have j0 : (j 0).val < 1 := (j 0).isLt
  show (j 1).val = (j 0).val * 2048 + (j 1).val
  omega

/-- The second norm's. -/
theorem V2 (c : Dev nD) (j : S1x2048.Idx) : V m c main_v2 j = m ((c : Thread nD τ).loc main_arg5) (ix1 (j 1)) := by
  have e : V m c main_v2 = shapeCast S1x2048 (m ((c : Thread nD τ).loc main_arg5)) shapeCasts_S2048_S1x2048 := by
    show StableHlo.after (List.flatten [hostOps0, hostOps0_1, hostOps0_2]) _ (Proc.devRef .tc main_v2) = _
    simp only [hostOps0, hostOps0_1, hostOps0_2, List.flatten_cons, List.flatten_nil, List.append_nil, List.cons_append, List.nil_append]
    after_results
    rfl
  rw [e]
  refine shapeCast_apply _ _ j (ix1 (j 1)) ?_
  refine (Shape.rowMajor_val_one _).trans (Eq.trans ?_ (Shape.rowMajor_val_two _).symm)
  have j0 : (j 0).val < 1 := (j 0).isLt
  show (j 1).val = (j 0).val * 2048 + (j 1).val
  omega

/-- The router's weights at a lane of an expert. -/
theorem V0 (c : Dev nD) (j : S2048x128.Idx) (e : Fin 16) (he : (j 1).val = e.val) : V m c main_v0 j = m ((c : Thread nD τ).loc main_arg6) (ix2 (j 0) e) := by
  have ev : V m c main_v0 = pad S2048x128 ![0, 0] ![0, 112] ![0, 0] (m ((c : Thread nD τ).loc main_arg6)) (sitofp (F := Ideal) .f32 (constantI S_ 32 0#32)) pads_S2048x16_S2048x128_000_01120 h_S_ := by
    show StableHlo.after (List.flatten [hostOps0, hostOps0_1, hostOps0_2]) _ (Proc.devRef .tc main_v0) = _
    simp only [hostOps0, hostOps0_1, hostOps0_2, List.flatten_cons, List.flatten_nil, List.append_nil, List.cons_append, List.nil_append]
    after_results
    rfl
  rw [ev]
  refine pad_apply_of_inside _ _ _ _ _ _ _ j (ix2 (j 0) e) fun a => ?_
  match a with
  | ⟨0, _⟩ => show (j 0).val = 0 + (j 0).val * (0 + 1); omega
  | ⟨1, _⟩ => show (j 1).val = 0 + e.val * (0 + 1); omega

theorem iblk0 (c : Dev nD) (t : Fin cfg0.N) (j : S512x2048.Idx) (J : S8192x2048.Idx)
    (h0 : (J 0).val = 512 * min t.val 15 + (j 0).val) (h1 : (J 1).val = (j 1).val) :
    (iblk m c 0 t : Vec Ideal S512x2048 .bf16) j = m ((c : Thread nD τ).loc main_arg0) J := by
  obtain ⟨⟨e0, e1⟩, -⟩ := idx0 t
  unfold iblk
  rw [View.read_apply]
  show V m c main_arg0 _ = m (c.tc.loc main_arg0) _
  refine (congrFun (V_main_arg0 m c) _).trans ?_
  congr 1
  funext a
  apply Fin.ext
  match a with
  | ⟨0, _⟩ => show win0_0.index t 0 * 512 + 1 * (j 0).val = (J 0).val; rw [e0, h0]; omega
  | ⟨1, _⟩ => show win0_0.index t 1 * 2048 + 1 * (j 1).val = (J 1).val; rw [e1, h1]; omega

theorem iblk1 (c : Dev nD) (t : Fin cfg0.N) (j : S2048x2048.Idx) (J : S2048x2048.Idx)
    (h0 : (J 0).val = (j 0).val) (h1 : (J 1).val = (j 1).val) :
    (iblk m c 1 t : Vec Ideal S2048x2048 .bf16) j = m ((c : Thread nD τ).loc main_arg1) J := by
  obtain ⟨-, ⟨e0, e1⟩, -⟩ := idx0 t
  unfold iblk
  rw [View.read_apply]
  show V m c main_arg1 _ = m (c.tc.loc main_arg1) _
  refine (congrFun (V_main_arg1 m c) _).trans ?_
  congr 1
  funext a
  apply Fin.ext
  match a with
  | ⟨0, _⟩ => show win0_1.index t 0 * 2048 + 1 * (j 0).val = (J 0).val; rw [e0, h0]; omega
  | ⟨1, _⟩ => show win0_1.index t 1 * 2048 + 1 * (j 1).val = (J 1).val; rw [e1, h1]; omega

theorem iblk2 (c : Dev nD) (t : Fin cfg0.N) (j : S512x2048.Idx) (J : S8192x2048.Idx)
    (h0 : (J 0).val = 512 * (t.val - 1) + (j 0).val) (h1 : (J 1).val = (j 1).val) :
    (iblk m c 2 t : Vec Ideal S512x2048 .f32) j = m ((c : Thread nD τ).loc main_arg2) J := by
  obtain ⟨-, -, ⟨e0, e1⟩, -⟩ := idx0 t
  unfold iblk
  rw [View.read_apply]
  show V m c main_arg2 _ = m (c.tc.loc main_arg2) _
  refine (congrFun (V_main_arg2 m c) _).trans ?_
  congr 1
  funext a
  apply Fin.ext
  match a with
  | ⟨0, _⟩ => show win0_2.index t 0 * 512 + 1 * (j 0).val = (J 0).val; rw [e0, h0]; omega
  | ⟨1, _⟩ => show win0_2.index t 1 * 2048 + 1 * (j 1).val = (J 1).val; rw [e1, h1]; omega

theorem iblk3 (c : Dev nD) (t : Fin cfg0.N) (j : S1x6x2048.Idx) (J : S2x6x2048.Idx)
    (h0 : (J 0).val = (t.val - 1) / 8 + (j 0).val) (h1 : (J 1).val = (j 1).val) (h2 : (J 2).val = (j 2).val) :
    (iblk m c 3 t : Vec Ideal S1x6x2048 .f32) j = m ((c : Thread nD τ).loc main_arg3) J := by
  obtain ⟨-, -, -, ⟨e0, e1, e2⟩, -⟩ := idx0 t
  unfold iblk
  rw [View.read_apply]
  show V m c main_arg3 _ = m (c.tc.loc main_arg3) _
  refine (congrFun (V_main_arg3 m c) _).trans ?_
  congr 1
  funext a
  apply Fin.ext
  match a with
  | ⟨0, _⟩ => show win0_3.index t 0 * 1 + 1 * (j 0).val = (J 0).val; rw [e0, h0]; omega
  | ⟨1, _⟩ => show win0_3.index t 1 * 6 + 1 * (j 1).val = (J 1).val; rw [e1, h1]; omega
  | ⟨2, _⟩ => show win0_3.index t 2 * 2048 + 1 * (j 2).val = (J 2).val; rw [e2, h2]; omega

theorem iblk4 (c : Dev nD) (t : Fin cfg0.N) (k : Fin 2048) :
    (iblk m c 4 t : Vec Ideal S1x2048 .f32) (ix2 0 k) = m ((c : Thread nD τ).loc main_arg4) (ix1 k) := by
  obtain ⟨-, -, -, -, ⟨e0, e1⟩, -⟩ := idx0 t
  unfold iblk
  rw [View.read_apply]
  show V m c main_v1 _ = m (c.tc.loc main_arg4) _
  refine (V1 m c _).trans (congrArg (fun i => m (c.tc.loc main_arg4) (ix1 i)) (Fin.ext ?_))
  show win0_4.index t 1 * 2048 + 1 * k.val = k.val
  rw [e1]; omega

theorem iblk5 (c : Dev nD) (t : Fin cfg0.N) (k : Fin 2048) :
    (iblk m c 5 t : Vec Ideal S1x2048 .f32) (ix2 0 k) = m ((c : Thread nD τ).loc main_arg5) (ix1 k) := by
  obtain ⟨-, -, -, -, -, ⟨e0, e1⟩, -⟩ := idx0 t
  unfold iblk
  rw [View.read_apply]
  show V m c main_v2 _ = m (c.tc.loc main_arg5) _
  refine (V2 m c _).trans (congrArg (fun i => m (c.tc.loc main_arg5) (ix1 i)) (Fin.ext ?_))
  show win0_5.index t 1 * 2048 + 1 * k.val = k.val
  rw [e1]; omega

theorem iblk6 (c : Dev nD) (t : Fin cfg0.N) (k : Fin 2048) (j : Fin 128) (e : Fin 16) (he : j.val = e.val) :
    (iblk m c 6 t : Vec Ideal S2048x128 .f32) (ix2 k j) = m ((c : Thread nD τ).loc main_arg6) (ix2 k e) := by
  obtain ⟨-, -, -, -, -, -, ⟨e0, e1⟩, -⟩ := idx0 t
  unfold iblk
  rw [View.read_apply]
  show V m c main_v0 _ = m (c.tc.loc main_arg6) _
  refine (V0 m c _ e ?_).trans (congrArg (fun i => m (c.tc.loc main_arg6) (ix2 i e)) (Fin.ext ?_))
  · show win0_6.index t 1 * 128 + 1 * j.val = e.val
    rw [e1]; omega
  · show win0_6.index t 0 * 2048 + 1 * k.val = k.val
    rw [e0]; omega

/-- A point's product rows. -/
theorem product (c : Dev nD) (t : Fin cfg0.N) (ht : t.val < 16) (r : Fin 512) (k : Fin 2048) (R : Fin 8192) (hR : R.val = 512 * t.val + r.val) :
    k0_pay4 (F := Ideal) (iblk m c 0 t) (iblk m c 1 t) (ix3 0 r k) = prodRow (m ((c : Thread nD τ).loc main_arg0)) (m ((c : Thread nD τ).loc main_arg1)) R k := by
  rw [pay4_apply]
  unfold prodRow
  refine Finset.sum_congr rfl fun d _ => congrArg₂ (fun a b : EReal => a * b) ?_ ?_
  · exact iblk0 m c t (ix2 r d) (ix2 R d) (by show R.val = 512 * min t.val 15 + r.val; omega) rfl
  · exact iblk1 m c t (ix2 d k) (ix2 d k) rfl rfl

/-- The half of the carried buffer a point writes holds its product rows. -/
theorem carried (c : Dev nD) (t : Fin cfg0.N) (ht : t.val < 16) (P : Fin 2) (hP : P.val = t.val % 2) (r : Fin 512) (k : Fin 2048) (R : Fin 8192)
    (hR : R.val = 512 * t.val + r.val) :
    (outsAt0 m c t.val t.isLt).2.2.2 (ix3 P r k) = prodRow (m ((c : Thread nD τ).loc main_arg0)) (m ((c : Thread nD τ).loc main_arg1)) R k := by
  by_cases h1 : t.val % 2 = 0
  · obtain rfl : P = 0 := Fin.ext (hP.trans h1)
    by_cases h0 : t.val % 17 = 0
    · rw [outsAt0_A m c t h0 h1 (by omega)]
      dsimp only
      rw [sout_A]
      exact product m c t ht r k R hR
    · rw [outsAt0_C m c t h0 h1 (by omega)]
      dsimp only
      rw [sout_C]
      exact product m c t ht r k R hR
  · have h2 : t.val % 2 = 1 := by omega
    obtain rfl : P = 1 := Fin.ext (hP.trans h2)
    rw [outsAt0_B m c t (by omega) h1 h2]
    dsimp only
    rw [sout_B]
    exact product m c t ht r k R hR

/-- The row of the result arrays a block's row is. -/
def rowOf (t : Fin cfg0.N) (q : Fin 512) : Fin 8192 := ⟨512 * (t.val - 1) + q.val, by
  have h1 := lt_of_lt_of_eq t.isLt (show cfg0.N = 17 from N_0)
  omega⟩

/-- A point's product rows of the tile before. -/
def rowsAt (c : Dev nD) (t : Fin cfg0.N) (q : Fin 512) : Fin 2048 → EReal :=
  prodRow (m ((c : Thread nD τ).loc main_arg0)) (m ((c : Thread nD τ).loc main_arg1)) (rowOf t q)

/-- The other half of the carried buffer holds the rows of the tile before. -/
theorem half_before (c : Dev nD) (t : Fin cfg0.N) (ht : t.val ≠ 0) (hlt : t.val - 1 < cfg0.N) (p o : ℕ) (hp : p = (t.val - 1) % 2)
    (inb : ∀ a : Fin 3, ![p, o, 0] a + S1x256x2048.size a ≤ S2x512x2048.size a) (r : Fin 256) (k : Fin 2048) (q : Fin 512) (hq : q.val = o + r.val) :
    View.ld (outsAt0 m c (t.val - 1) hlt).2.2.2 (Rect.unit (s := S2x512x2048) ![p, o, 0] S1x256x2048.size inb) (ix3 0 r k) = rowsAt m c t q k := by
  have h1 := lt_of_lt_of_eq t.isLt (show cfg0.N = 17 from N_0)
  rw [half_ld _ p o inb r k ⟨(t.val - 1) % 2, by omega⟩ q hp.symm hq]
  exact carried m c ⟨t.val - 1, hlt⟩ (by show t.val - 1 < 16; omega) _ rfl q k (rowOf t q) rfl

/-- The three results' blocks after a point, from the tile before's product rows. -/
theorem outs7 (c : Dev nD) (t : Fin cfg0.N) (ht : t.val ≠ 0) (q : Fin 512) (k : Fin 2048) :
    (outsAt0 m c t.val t.isLt).1 (ix2 q k) = blk7 (iblk m c 2 t) (iblk m c 3 t) (iblk m c 4 t) (rowsAt m c t) q k := by
  have h := lt_of_lt_of_eq t.isLt (show cfg0.N = 17 from N_0)
  by_cases h1 : t.val % 2 = 0
  · rw [outsAt0_C m c t (by omega) h1 (by omega)]
    dsimp only
    rw [out7_C]
    exact pieces7_apply _ _ _ _ _ _ (fun r k => half_before m c t ht _ 1 0 (by omega) _ r k _ (Nat.zero_add _).symm) (fun r k => half_before m c t ht _ 1 256 (by omega) _ r k _ rfl) q k
  · rw [outsAt0_B m c t (by omega) h1 (by omega)]
    dsimp only
    rw [out7_B]
    exact pieces7_apply _ _ _ _ _ _ (fun r k => half_before m c t ht _ 0 0 (by omega) _ r k _ (Nat.zero_add _).symm) (fun r k => half_before m c t ht _ 0 256 (by omega) _ r k _ rfl) q k

theorem outs8 (c : Dev nD) (t : Fin cfg0.N) (ht : t.val ≠ 0) (q : Fin 512) (k : Fin 2048) :
    (outsAt0 m c t.val t.isLt).2.1 (ix2 q k) = blk8 (iblk m c 2 t) (iblk m c 3 t) (iblk m c 4 t) (iblk m c 5 t) (rowsAt m c t) q k := by
  have h := lt_of_lt_of_eq t.isLt (show cfg0.N = 17 from N_0)
  by_cases h1 : t.val % 2 = 0
  · rw [outsAt0_C m c t (by omega) h1 (by omega)]
    dsimp only
    rw [out8_C]
    exact pieces8_apply _ _ _ _ _ _ _ (fun r k => half_before m c t ht _ 1 0 (by omega) _ r k _ (Nat.zero_add _).symm) (fun r k => half_before m c t ht _ 1 256 (by omega) _ r k _ rfl) q k
  · rw [outsAt0_B m c t (by omega) h1 (by omega)]
    dsimp only
    rw [out8_B]
    exact pieces8_apply _ _ _ _ _ _ _ (fun r k => half_before m c t ht _ 0 0 (by omega) _ r k _ (Nat.zero_add _).symm) (fun r k => half_before m c t ht _ 0 256 (by omega) _ r k _ rfl) q k

theorem outs9 (c : Dev nD) (t : Fin cfg0.N) (ht : t.val ≠ 0) (q : Fin 512) (k : Fin 128) :
    (outsAt0 m c t.val t.isLt).2.2.1 (ix2 q k) = blk9 (iblk m c 2 t) (iblk m c 3 t) (iblk m c 4 t) (iblk m c 5 t) (iblk m c 6 t) (rowsAt m c t) q k := by
  have h := lt_of_lt_of_eq t.isLt (show cfg0.N = 17 from N_0)
  by_cases h1 : t.val % 2 = 0
  · rw [outsAt0_C m c t (by omega) h1 (by omega)]
    dsimp only
    rw [out9_C]
    exact pieces9_apply _ _ _ _ _ _ _ _ (fun r k => half_before m c t ht _ 1 0 (by omega) _ r k _ (Nat.zero_add _).symm) (fun r k => half_before m c t ht _ 1 256 (by omega) _ r k _ rfl) q k
  · rw [outsAt0_B m c t (by omega) h1 (by omega)]
    dsimp only
    rw [out9_B]
    exact pieces9_apply _ _ _ _ _ _ _ _ (fun r k => half_before m c t ht _ 0 0 (by omega) _ r k _ (Nat.zero_add _).symm) (fun r k => half_before m c t ht _ 0 256 (by omega) _ r k _ rfl) q k

/-- They are the rows of the results. -/
theorem row7 (c : Dev nD) (t : Fin cfg0.N) (q : Fin 512) :
    blk7 (iblk m c 2 t) (iblk m c 3 t) (iblk m c 4 t) (rowsAt m c t) q = sumAt (m ((c : Thread nD τ).loc main_arg0)) (m ((c : Thread nD τ).loc main_arg1)) (m ((c : Thread nD τ).loc main_arg2)) (m ((c : Thread nD τ).loc main_arg3)) (m ((c : Thread nD τ).loc main_arg4)) (rowOf t q) := by
  have h := lt_of_lt_of_eq t.isLt (show cfg0.N = 17 from N_0)
  unfold blk7 sumAt
  have e2 : (fun k => (iblk m c 2 t : Vec Ideal S512x2048 .f32) (ix2 q k)) = fun k => m ((c : Thread nD τ).loc main_arg2) (ix2 (rowOf t q) k) :=
    funext fun k => iblk2 m c t (ix2 q k) (ix2 (rowOf t q) k) rfl rfl
  have e3 : (fun k => (iblk m c 3 t : Vec Ideal S1x6x2048 .f32) (ix3 0 2 k)) = fun k => m ((c : Thread nD τ).loc main_arg3) (ix3 (bat (rowOf t q)) 2 k) :=
    funext fun k => iblk3 m c t (ix3 0 2 k) (ix3 (bat (rowOf t q)) 2 k) (by show (512 * (t.val - 1) + q.val) / 4096 = (t.val - 1) / 8 + 0; omega) rfl rfl
  have e4 : (fun k => (iblk m c 4 t : Vec Ideal S1x2048 .f32) (ix2 0 k)) = fun k => m ((c : Thread nD τ).loc main_arg4) (ix1 k) :=
    funext fun k => iblk4 m c t k
  rw [e2, e3, e4]
  rfl

theorem row8 (c : Dev nD) (t : Fin cfg0.N) (q : Fin 512) :
    blk8 (iblk m c 2 t) (iblk m c 3 t) (iblk m c 4 t) (iblk m c 5 t) (rowsAt m c t) q = hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowOf t q) := by
  have h := lt_of_lt_of_eq t.isLt (show cfg0.N = 17 from N_0)
  unfold blk8 hidAt
  have e3 : (fun k => (iblk m c 3 t : Vec Ideal S1x6x2048 .f32) (ix3 0 3 k)) = fun k => m ((c : Thread nD τ).loc main_arg3) (ix3 (bat (rowOf t q)) 3 k) :=
    funext fun k => iblk3 m c t (ix3 0 3 k) (ix3 (bat (rowOf t q)) 3 k) (by show (512 * (t.val - 1) + q.val) / 4096 = (t.val - 1) / 8 + 0; omega) rfl rfl
  have e4 : (fun k => (iblk m c 3 t : Vec Ideal S1x6x2048 .f32) (ix3 0 4 k)) = fun k => m ((c : Thread nD τ).loc main_arg3) (ix3 (bat (rowOf t q)) 4 k) :=
    funext fun k => iblk3 m c t (ix3 0 4 k) (ix3 (bat (rowOf t q)) 4 k) (by show (512 * (t.val - 1) + q.val) / 4096 = (t.val - 1) / 8 + 0; omega) rfl rfl
  have e5 : (fun k => (iblk m c 5 t : Vec Ideal S1x2048 .f32) (ix2 0 k)) = fun k => m ((c : Thread nD τ).loc main_arg5) (ix1 k) :=
    funext fun k => iblk5 m c t k
  rw [row7, e3, e4, e5]

theorem row9 (c : Dev nD) (hw : Finite (m ((c : Thread nD τ).loc main_arg6))) (t : Fin cfg0.N) (q : Fin 512) :
    blk9 (iblk m c 2 t) (iblk m c 3 t) (iblk m c 4 t) (iblk m c 5 t) (iblk m c 6 t) (rowsAt m c t) q = affAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowOf t q) := by
  unfold blk9 affAt
  refine congrArg OutprojMath.soft (funext fun j => ?_)
  rw [row8]
  unfold OutprojMath.logit
  by_cases h : j.val < 16
  · rw [if_pos h, dif_pos h]
    have e6 : ∀ k : Fin 2048, (iblk m c 6 t : Vec Ideal S2048x128 .f32) (ix2 k j) = m ((c : Thread nD τ).loc main_arg6) (ix2 k ⟨j.val, h⟩) :=
      fun k => iblk6 m c t k j ⟨j.val, h⟩ rfl
    simp only [e6]
    exact OutprojMath.rest_zero _ (fun k => m ((c : Thread nD τ).loc main_arg6) (ix2 k ⟨j.val, h⟩)) fun k => hw _
  · rw [if_neg h, dif_neg h]

/-- What result array 1 ends holding. -/
def G7 (c : Dev nD) : Vec Ideal S8192x2048 .f32 := fun I => sumAt (m ((c : Thread nD τ).loc main_arg0)) (m ((c : Thread nD τ).loc main_arg1)) (m ((c : Thread nD τ).loc main_arg2)) (m ((c : Thread nD τ).loc main_arg3)) (m ((c : Thread nD τ).loc main_arg4)) (I 0) (I 1)

theorem result7 (c : Dev nD) : (dats m 0 c).arrAt 7 cfg0.N = G7 m c := by
  refine (dats m 0 c).arrAt_eq_of_covers 7 (G7 m c) (by decide +kernel) fun t hf y => ?_
  have ht := flush7 t hf
  obtain ⟨-, -, -, -, -, -, -, ⟨e0, e1⟩, -⟩ := idx0 t
  rw [after0_7]
  show (outsAt0 m c t.val t.isLt).1 (fun a => y a) = _
  have hy : (fun a => y a : S512x2048.Idx) = ix2 (n0 := 512) (n1 := 2048) (y 0) (y 1) := by
    funext a
    match a with
    | ⟨0, _⟩ => rfl
    | ⟨1, _⟩ => rfl
  refine (congrArg _ hy).trans ((outs7 m c t ht (y 0) (y 1)).trans ((congrFun (row7 m c t (y 0)) (y 1)).trans ?_))
  show sumAt (m ((c : Thread nD τ).loc main_arg0)) (m ((c : Thread nD τ).loc main_arg1)) (m ((c : Thread nD τ).loc main_arg2)) (m ((c : Thread nD τ).loc main_arg3)) (m ((c : Thread nD τ).loc main_arg4)) _ _ = sumAt (m ((c : Thread nD τ).loc main_arg0)) (m ((c : Thread nD τ).loc main_arg1)) (m ((c : Thread nD τ).loc main_arg2)) (m ((c : Thread nD τ).loc main_arg3)) (m ((c : Thread nD τ).loc main_arg4)) _ _
  refine congrArg₂ _ (Fin.ext ?_) (Fin.ext ?_)
  · show 512 * (t.val - 1) + (y 0).val = win0_7.index t 0 * 512 + 1 * (y 0).val
    rw [e0]; omega
  · show (y 1).val = win0_7.index t 1 * 2048 + 1 * (y 1).val
    rw [e1]; omega

/-- What result array 2 ends holding. -/
def G8 (c : Dev nD) : Vec Ideal S8192x2048 .bf16 := fun I => hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (I 0) (I 1)

theorem result8 (c : Dev nD) : (dats m 0 c).arrAt 8 cfg0.N = G8 m c := by
  refine (dats m 0 c).arrAt_eq_of_covers 8 (G8 m c) (by decide +kernel) fun t hf y => ?_
  have ht := flush8 t hf
  obtain ⟨-, -, -, -, -, -, -, -, ⟨e0, e1⟩, -⟩ := idx0 t
  rw [after0_8]
  show (outsAt0 m c t.val t.isLt).2.1 (fun a => y a) = _
  have hy : (fun a => y a : S512x2048.Idx) = ix2 (n0 := 512) (n1 := 2048) (y 0) (y 1) := by
    funext a
    match a with
    | ⟨0, _⟩ => rfl
    | ⟨1, _⟩ => rfl
  refine (congrArg _ hy).trans ((outs8 m c t ht (y 0) (y 1)).trans ((congrFun (row8 m c t (y 0)) (y 1)).trans ?_))
  show hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ = hidAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _
  refine congrArg₂ _ (Fin.ext ?_) (Fin.ext ?_)
  · show 512 * (t.val - 1) + (y 0).val = win0_8.index t 0 * 512 + 1 * (y 0).val
    rw [e0]; omega
  · show (y 1).val = win0_8.index t 1 * 2048 + 1 * (y 1).val
    rw [e1]; omega

/-- What result array 3 ends holding. -/
def G9 (c : Dev nD) : Vec Ideal S8192x128 .f32 := fun I => affAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (I 0) (I 1)

theorem result9 (c : Dev nD) (hw : Finite (m ((c : Thread nD τ).loc main_arg6))) : (dats m 0 c).arrAt 9 cfg0.N = G9 m c := by
  refine (dats m 0 c).arrAt_eq_of_covers 9 (G9 m c) (by decide +kernel) fun t hf y => ?_
  have ht := flush9 t hf
  obtain ⟨-, -, -, -, -, -, -, -, -, ⟨e0, e1⟩⟩ := idx0 t
  rw [after0_9]
  show (outsAt0 m c t.val t.isLt).2.2.1 (fun a => y a) = _
  have hy : (fun a => y a : S512x128.Idx) = ix2 (n0 := 512) (n1 := 128) (y 0) (y 1) := by
    funext a
    match a with
    | ⟨0, _⟩ => rfl
    | ⟨1, _⟩ => rfl
  refine (congrArg _ hy).trans ((outs9 m c t ht (y 0) (y 1)).trans ((congrFun (row9 m c hw t (y 0)) (y 1)).trans ?_))
  show affAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _ = affAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ _
  refine congrArg₂ _ (Fin.ext ?_) (Fin.ext ?_)
  · show 512 * (t.val - 1) + (y 0).val = win0_9.index t 0 * 512 + 1 * (y 0).val
    rw [e0]; omega
  · show (y 1).val = win0_9.index t 1 * 128 + 1 * (y 1).val
    rw [e1]; omega

end Cert.OutprojIdeal.Val

end
-- ==== Proof.OutprojValue.lean ====
/-
  The output projection: its result arrays are what the reference computes. The reference's stages are read one after the
  other at a row; the router's softmax there is taken of the logits padded by -inf to the call's lanes.
-/
module

public import proofs.«01_k».proof.Defs
public import proofs.«01_k».proof.Proof.AttnMath
public import proofs.«01_k».proof.Proof.OutprojMath
public import proofs.«01_k».proof.Proof.OutprojBlocks
public import proofs.«01_k».proof.Proof.Gen.OutprojIdeal.Value
public import proofs.«01_k».proof.Proof.Gen.OutprojRefIdeal.Run
public import proofs.«01_k».proof.Proof.Gen.OutprojRefIdeal.Read
public import Idealize.ShloMosaic.Lib.Pipeline.Value
public import Idealize.ShloMosaic.Lib.KernelVsHost
public import Idealize.ShloMosaic.Lib.Pointwise
public import Idealize.ShloMosaic.Lib.Claim
public import Idealize.ShloMosaic.Lib.Tactic

@[expose] public section

set_option maxRecDepth 16384

noncomputable section

namespace Cert.OutprojRefIdeal.Val

open Cert.Proof Cert.OutprojRefIdeal Cert.OutprojRefIdeal.Read Idealize.ShloMosaic
open Cert.OutprojIdeal.Val (prodRow sumAt hidAt affAt bat)

theorem zero_bits : (Ideal.ofBits .f32 0x00000000#32 : EReal) = 0 := by
  simp [Ideal.ofBits, Ideal.ieee]

/-- Row `s` of batch `b`, among the rows of both. -/
def rw8 (b : Fin 2) (s : Fin 4096) : Fin 8192 := ⟨b.val * 4096 + s.val, by omega⟩

theorem bat_rw8 (b : Fin 2) (s : Fin 4096) : bat (rw8 b s) = b := Fin.ext (by show (b.val * 4096 + s.val) / 4096 = b.val; omega)

theorem y_read (x0 : Vec Ideal S8192x2048 .bf16) (x1 : Vec Ideal S2048x2048 .bf16) (b : Fin 2) (s : Fin 4096) (k : Fin 2048) :
    val_main_v6 (F := Ideal) x0 x1 (ix3 b s k) = prodRow x0 x1 (rw8 b s) k := by
  rw [val_main_v6_apply, val_main_v5_apply]
  have e : idx_main_v6 (ix3 b s k) = ix2 (rw8 b s) k := by
    funext a
    apply Fin.ext
    match a with
    | ⟨0, _⟩ => show ((b.val * 4096 + s.val) * 2048 + k.val) / 2048 = b.val * 4096 + s.val; omega
    | ⟨1, _⟩ => show ((b.val * 4096 + s.val) * 2048 + k.val) % 2048 = k.val; omega
  rw [e]
  refine Finset.sum_congr rfl fun d _ => congrArg₂ (fun a b : EReal => a * b) ?_ ?_
  · show x0 _ = x0 _
    congr 1; funext a; match a with | ⟨0, _⟩ => rfl | ⟨1, _⟩ => rfl
  · show x1 _ = x1 _
    congr 1; funext a; match a with | ⟨0, _⟩ => rfl | ⟨1, _⟩ => rfl

theorem x_read (x2 : Vec Ideal S8192x2048 .f32) (b : Fin 2) (s : Fin 4096) (k : Fin 2048) :
    val_main_v7 (F := Ideal) x2 (ix3 b s k) = x2 (ix2 (rw8 b s) k) := by
  rw [val_main_v7_apply]
  refine congrArg x2 ?_
  funext a
  apply Fin.ext
  match a with
  | ⟨0, _⟩ => show ((b.val * 4096 + s.val) * 2048 + k.val) / 2048 = b.val * 4096 + s.val; omega
  | ⟨1, _⟩ => show ((b.val * 4096 + s.val) * 2048 + k.val) % 2048 = k.val; omega

/-- The first norm's factor. -/
theorem norm1 (x0 : Vec Ideal S8192x2048 .bf16) (x1 : Vec Ideal S2048x2048 .bf16) (b : Fin 2) (s : Fin 4096) :
    val_main_v15 (F := Ideal) x0 x1 (ix3 b s 0) = OutprojMath.rinv (prodRow x0 x1 (rw8 b s)) := by
  rw [val_main_v15_apply, val_main_v14_apply, val_main_v12_apply, val_main_v10_apply, val_main_v9_apply, val_main_v11_apply,
    val_main_v13_apply, val_main_cst_apply, val_main_cst_0_apply, val_main_cst_1_apply]
  have e : ∀ k : Fin 2048, val_main_v8 (F := Ideal) x0 x1 (idx_main_v9 (idx_main_v10 (ix3 b s 0)) k)
      = ((prodRow x0 x1 (rw8 b s)) k * (prodRow x0 x1 (rw8 b s)) k : EReal) := fun k => by
    have ei : idx_main_v9 (idx_main_v10 (ix3 b s 0)) k = ix3 b s k := by
      funext a
      match a with
      | ⟨0, _⟩ => rfl
      | ⟨1, _⟩ => rfl
      | ⟨2, _⟩ => rfl
    rw [ei, val_main_v8_apply, y_read]
    rfl
  rw [Finset.sum_congr rfl fun k _ => e k]
  show Ideal.rsqrt (Ideal.div (Ideal.ofBits .f32 0x00000000#32 + _) _ + _) = _
  rw [zero_bits, zero_add]
  rfl

/-- The first result. -/
theorem sum_read (x0 : Vec Ideal S8192x2048 .bf16) (x1 : Vec Ideal S2048x2048 .bf16) (x2 : Vec Ideal S8192x2048 .f32) (x3 : Vec Ideal S2x6x2048 .f32) (x4 : Vec Ideal S2048 .f32) (b : Fin 2) (s : Fin 4096) (k : Fin 2048) :
    val_main_v23 (F := Ideal) x0 x1 x2 x3 x4 (ix3 b s k) = sumAt x0 x1 x2 x3 x4 (rw8 b s) k := by
  rw [val_main_v23_apply, x_read, val_main_v22_apply, val_main_v21_apply, val_main_v0_apply, val_main_v20_apply, val_main_v17_apply, y_read, val_main_v16_apply,
    val_main_v19_apply, val_main_v18_apply]
  have e16 : idx_main_v16 (ix3 b s k) = ix3 b s 0 := by
    funext a
    match a with
    | ⟨0, _⟩ => rfl
    | ⟨1, _⟩ => rfl
    | ⟨2, _⟩ => rfl
  have e0 : idx_main_v0 (idx_main_v21 (ix3 b s k)) = ix3 (bat (rw8 b s)) 2 k := by
    rw [bat_rw8]
    funext a
    apply Fin.ext
    match a with
    | ⟨0, _⟩ => show _ = b.val; first | rfl | simp
    | ⟨1, _⟩ => rfl
    | ⟨2, _⟩ => show _ = k.val; first | rfl | simp
  have e18 : idx_main_v18 (idx_main_v19 (ix3 b s k)) = ix1 k := by
    funext a
    match a with
    | ⟨0, _⟩ => rfl
  rw [e16, e0, e18, norm1]
  exact OutprojMath.sumRow_ref (fun k => x2 (ix2 (rw8 b s) k)) (prodRow x0 x1 (rw8 b s)) (fun k => x3 (ix3 (bat (rw8 b s)) 2 k)) (fun k => x4 (ix1 k)) k

/-- The second norm's. -/
theorem norm2 (x0 : Vec Ideal S8192x2048 .bf16) (x1 : Vec Ideal S2048x2048 .bf16) (x2 : Vec Ideal S8192x2048 .f32) (x3 : Vec Ideal S2x6x2048 .f32) (x4 : Vec Ideal S2048 .f32) (b : Fin 2) (s : Fin 4096) :
    val_main_v31 (F := Ideal) x0 x1 x2 x3 x4 (ix3 b s 0) = OutprojMath.rinv (sumAt x0 x1 x2 x3 x4 (rw8 b s)) := by
  rw [val_main_v31_apply, val_main_v30_apply, val_main_v28_apply, val_main_v26_apply, val_main_v25_apply, val_main_v27_apply,
    val_main_v29_apply, val_main_cst_2_apply, val_main_cst_3_apply, val_main_cst_4_apply]
  have e : ∀ k : Fin 2048, val_main_v24 (F := Ideal) x0 x1 x2 x3 x4 (idx_main_v25 (idx_main_v26 (ix3 b s 0)) k)
      = ((sumAt x0 x1 x2 x3 x4 (rw8 b s)) k * (sumAt x0 x1 x2 x3 x4 (rw8 b s)) k : EReal) := fun k => by
    have ei : idx_main_v25 (idx_main_v26 (ix3 b s 0)) k = ix3 b s k := by
      funext a
      match a with
      | ⟨0, _⟩ => rfl
      | ⟨1, _⟩ => rfl
      | ⟨2, _⟩ => rfl
    rw [ei, val_main_v24_apply, sum_read]
    rfl
  rw [Finset.sum_congr rfl fun k _ => e k]
  show Ideal.rsqrt (Ideal.div (Ideal.ofBits .f32 0x00000000#32 + _) _ + _) = _
  rw [zero_bits, zero_add]
  rfl

/-- The second result. -/
theorem hid_read (x0 : Vec Ideal S8192x2048 .bf16) (x1 : Vec Ideal S2048x2048 .bf16) (x2 : Vec Ideal S8192x2048 .f32) (x3 : Vec Ideal S2x6x2048 .f32) (x4 : Vec Ideal S2048 .f32) (x5 : Vec Ideal S2048 .f32) (b : Fin 2) (s : Fin 4096) (k : Fin 2048) :
    val_main_v42 (F := Ideal) x0 x1 x2 x3 x4 x5 (ix3 b s k) = hidAt x0 x1 x2 x3 x4 x5 (rw8 b s) k := by
  rw [val_main_v42_apply, val_main_v41_apply, val_main_v1_apply, val_main_v40_apply, val_main_v39_apply, val_main_v38_apply, val_main_v37_apply, val_main_cst_5_apply,
    val_main_v2_apply, val_main_v36_apply, val_main_v35_apply, val_main_v34_apply, val_main_v33_apply, sum_read, val_main_v32_apply]
  have e32 : idx_main_v32 (ix3 b s k) = ix3 b s 0 := by
    funext a
    match a with
    | ⟨0, _⟩ => rfl
    | ⟨1, _⟩ => rfl
    | ⟨2, _⟩ => rfl
  have e1 : idx_main_v1 (idx_main_v41 (ix3 b s k)) = ix3 (bat (rw8 b s)) 3 k := by
    rw [bat_rw8]
    funext a
    apply Fin.ext
    match a with
    | ⟨0, _⟩ => show _ = b.val; first | rfl | simp
    | ⟨1, _⟩ => rfl
    | ⟨2, _⟩ => show _ = k.val; first | rfl | simp
  have e2 : idx_main_v2 (idx_main_v39 (ix3 b s k)) = ix3 (bat (rw8 b s)) 4 k := by
    rw [bat_rw8]
    funext a
    apply Fin.ext
    match a with
    | ⟨0, _⟩ => show _ = b.val; first | rfl | simp
    | ⟨1, _⟩ => rfl
    | ⟨2, _⟩ => show _ = k.val; first | rfl | simp
  have e34 : idx_main_v34 (idx_main_v35 (ix3 b s k)) = ix1 k := by
    funext a
    match a with
    | ⟨0, _⟩ => rfl
  rw [e32, e1, e2, e34, norm2]
  exact OutprojMath.hidRow_ref (sumAt x0 x1 x2 x3 x4 (rw8 b s)) (fun k => x5 (ix1 k)) (fun k => x3 (ix3 (bat (rw8 b s)) 4 k)) (fun k => x3 (ix3 (bat (rw8 b s)) 3 k)) k

/-- The logits' row. -/
abbrev lg (x0 : Vec Ideal S8192x2048 .bf16) (x1 : Vec Ideal S2048x2048 .bf16) (x2 : Vec Ideal S8192x2048 .f32) (x3 : Vec Ideal S2x6x2048 .f32) (x4 : Vec Ideal S2048 .f32) (x5 : Vec Ideal S2048 .f32) (x6 : Vec Ideal S2048x16 .f32) (R : Fin 8192) : Fin 128 → EReal :=
  OutprojMath.logit (hidAt x0 x1 x2 x3 x4 x5 R) (fun k e => x6 (ix2 k e))

theorem logit_read (x0 : Vec Ideal S8192x2048 .bf16) (x1 : Vec Ideal S2048x2048 .bf16) (x2 : Vec Ideal S8192x2048 .f32) (x3 : Vec Ideal S2x6x2048 .f32) (x4 : Vec Ideal S2048 .f32) (x5 : Vec Ideal S2048 .f32) (x6 : Vec Ideal S2048x16 .f32) (b : Fin 2) (s : Fin 4096) (e : Fin 128) :
    val_main_v44 (F := Ideal) x0 x1 x2 x3 x4 x5 x6 (ix3 b s e) = lg x0 x1 x2 x3 x4 x5 x6 (rw8 b s) e := by
  unfold val_main_v44 lg OutprojMath.logit
  by_cases h : e.val < 16
  · rw [dif_pos h, pad_apply_of_inside _ _ _ _ _ _ _ (ix3 b s e) (ix3 b s (⟨e.val, h⟩ : Fin 16)) (fun a => by
      match a with
      | ⟨0, _⟩ => show b.val = 0 + b.val * (0 + 1); omega
      | ⟨1, _⟩ => show s.val = 0 + s.val * (0 + 1); omega
      | ⟨2, _⟩ => show e.val = 0 + e.val * (0 + 1); omega)]
    rw [val_main_v43_apply]
    refine Finset.sum_congr rfl fun k _ => congrArg₂ (fun a b : EReal => a * b) ?_ ?_
    · have el : lidx_main_v43 (ix3 b s (⟨e.val, h⟩ : Fin 16)) k = ix3 b s k := by
        funext a
        match a with
        | ⟨0, _⟩ => rfl
        | ⟨1, _⟩ => rfl
        | ⟨2, _⟩ => rfl
      rw [el, hid_read]
    · refine congrArg x6 ?_
      funext a
      match a with
      | ⟨0, _⟩ => rfl
      | ⟨1, _⟩ => rfl
  · rw [dif_neg h, pad_apply_of_not_inside _ _ _ _ _ _ _ (ix3 b s e) (2 : Fin 3) (by
      show ¬ (0 ≤ e.val ∧ (e.val - 0) % (0 + 1) = 0 ∧ (e.val - 0) / (0 + 1) < 16)
      omega)]
    exact AttnMath.bot_bits

theorem reduces_e : S2x4096x128.Reduces [2] S2x4096 := by decide

theorem lift_e (b : Fin 2) (s : Fin 4096) (j : Fin 128) : reduces_e.lift (ix2 b s) j = ix3 b s j := by
  funext a
  apply Fin.ext
  match a with
  | ⟨0, _⟩ => rfl
  | ⟨1, _⟩ => rfl
  | ⟨2, _⟩ => rfl

theorem max_read (x0 : Vec Ideal S8192x2048 .bf16) (x1 : Vec Ideal S2048x2048 .bf16) (x2 : Vec Ideal S8192x2048 .f32) (x3 : Vec Ideal S2x6x2048 .f32) (x4 : Vec Ideal S2048 .f32) (x5 : Vec Ideal S2048 .f32) (x6 : Vec Ideal S2048x16 .f32) (b : Fin 2) (s : Fin 4096) :
    val_main_v47 (F := Ideal) x0 x1 x2 x3 x4 x5 x6 (ix2 b s) = Finset.univ.fold max ⊥ (lg x0 x1 x2 x3 x4 x5 x6 (rw8 b s)) := by
  rw [val_main_v47_apply, val_main_v46_apply, val_main_cst_8_apply]
  unfold val_main_v45
  have el : (fun j : Fin 128 => val_main_v44 (F := Ideal) x0 x1 x2 x3 x4 x5 x6 (ix3 b s j)) = lg x0 x1 x2 x3 x4 x5 x6 (rw8 b s) := funext fun j => logit_read x0 x1 x2 x3 x4 x5 x6 b s j
  rw [← el]
  generalize val_main_v44 (F := Ideal) x0 x1 x2 x3 x4 x5 x6 = y
  rw [Host.reduce_eq_fold_single FloatOps.maximumf _ _ _ reduces_e, val_main_cst_7_apply]
  have hf : (y ∘ reduces_e.lift (ix2 b s)) = fun j : Fin 128 => y (ix3 b s j) := funext fun j => congrArg y (lift_e b s j)
  refine Eq.trans (b := max (⊥ : EReal) (Finset.univ.fold max ⊥ fun j : Fin 128 => y (ix3 b s j))) ?_ (max_eq_right bot_le)
  refine congrArg₂ (fun a b : EReal => max a b) AttnMath.bot_bits ?_
  rw [← AttnMath.bot_bits]
  exact congrArg (fun f => Finset.fold max (Ideal.ofBits .f32 0xFF800000#32) f (Finset.univ : Finset (Fin 128))) hf

theorem exp_read (x0 : Vec Ideal S8192x2048 .bf16) (x1 : Vec Ideal S2048x2048 .bf16) (x2 : Vec Ideal S8192x2048 .f32) (x3 : Vec Ideal S2x6x2048 .f32) (x4 : Vec Ideal S2048 .f32) (x5 : Vec Ideal S2048 .f32) (x6 : Vec Ideal S2048x16 .f32) (b : Fin 2) (s : Fin 4096) (e : Fin 128) :
    val_main_v51 (F := Ideal) x0 x1 x2 x3 x4 x5 x6 (ix3 b s e)
      = Ideal.exp (lg x0 x1 x2 x3 x4 x5 x6 (rw8 b s) e - Finset.univ.fold max ⊥ (lg x0 x1 x2 x3 x4 x5 x6 (rw8 b s))) := by
  rw [val_main_v51_apply, val_main_v50_apply, logit_read, val_main_v49_apply, val_main_v48_apply]
  have ei : idx_main_v48 (idx_main_v49 (ix3 b s e)) = ix2 b s := by
    funext a
    match a with
    | ⟨0, _⟩ => rfl
    | ⟨1, _⟩ => rfl
  rw [ei, max_read]
  rfl

/-- The router's result. -/
theorem aff_read (x0 : Vec Ideal S8192x2048 .bf16) (x1 : Vec Ideal S2048x2048 .bf16) (x2 : Vec Ideal S8192x2048 .f32) (x3 : Vec Ideal S2x6x2048 .f32) (x4 : Vec Ideal S2048 .f32) (x5 : Vec Ideal S2048 .f32) (x6 : Vec Ideal S2048x16 .f32) (b : Fin 2) (s : Fin 4096) (e : Fin 128) :
    val_main_v55 (F := Ideal) x0 x1 x2 x3 x4 x5 x6 (ix3 b s e) = affAt x0 x1 x2 x3 x4 x5 x6 (rw8 b s) e := by
  rw [val_main_v55_apply, exp_read, val_main_v54_apply, val_main_v53_apply, val_main_v52_apply, val_main_cst_9_apply]
  have ej : ∀ j : Fin 128, val_main_v51 (F := Ideal) x0 x1 x2 x3 x4 x5 x6 (idx_main_v52 (idx_main_v53 (idx_main_v54 (ix3 b s e))) j)
      = Ideal.exp (lg x0 x1 x2 x3 x4 x5 x6 (rw8 b s) j - Finset.univ.fold max ⊥ (lg x0 x1 x2 x3 x4 x5 x6 (rw8 b s))) := fun j => by
    have ei : idx_main_v52 (idx_main_v53 (idx_main_v54 (ix3 b s e))) j = ix3 b s j := by
      funext a
      match a with
      | ⟨0, _⟩ => rfl
      | ⟨1, _⟩ => rfl
      | ⟨2, _⟩ => rfl
    rw [ei, exp_read]
  rw [Finset.sum_congr rfl fun j _ => ej j]
  show Ideal.div _ (Ideal.ofBits .f32 0x00000000#32 + _) = _
  rw [zero_bits, zero_add]
  rfl

/-- The batch and the place in it, of a row. -/
theorem split (R : Fin 8192) : rw8 ⟨R.val / 4096, by omega⟩ ⟨R.val % 4096, by omega⟩ = R := Fin.ext (by show R.val / 4096 * 4096 + R.val % 4096 = R.val; omega)

theorem sum_result (x0 : Vec Ideal S8192x2048 .bf16) (x1 : Vec Ideal S2048x2048 .bf16) (x2 : Vec Ideal S8192x2048 .f32) (x3 : Vec Ideal S2x6x2048 .f32) (x4 : Vec Ideal S2048 .f32) (I : S8192x2048.Idx) :
    val_main_v56 (F := Ideal) x0 x1 x2 x3 x4 I = sumAt x0 x1 x2 x3 x4 (I 0) (I 1) := by
  have h0 : (I 0).val < 8192 := (I 0).isLt
  have h1 : (I 1).val < 2048 := (I 1).isLt
  rw [val_main_v56_apply]
  have e : idx_main_v56 I = ix3 (⟨(I 0).val / 4096, by omega⟩ : Fin 2) (⟨(I 0).val % 4096, by omega⟩ : Fin 4096) (I 1) := by
    funext a
    apply Fin.ext
    match a with
    | ⟨0, _⟩ => show ((I 0).val * 2048 + (I 1).val) / 8388608 = (I 0).val / 4096; omega
    | ⟨1, _⟩ => show ((I 0).val * 2048 + (I 1).val) / 2048 % 4096 = (I 0).val % 4096; omega
    | ⟨2, _⟩ => show ((I 0).val * 2048 + (I 1).val) % 2048 = (I 1).val; omega
  rw [e]
  refine (sum_read x0 x1 x2 x3 x4 _ _ (I 1)).trans ?_
  exact congrArg (fun R => sumAt x0 x1 x2 x3 x4 R (I 1)) (split (I 0))

theorem hid_result (x0 : Vec Ideal S8192x2048 .bf16) (x1 : Vec Ideal S2048x2048 .bf16) (x2 : Vec Ideal S8192x2048 .f32) (x3 : Vec Ideal S2x6x2048 .f32) (x4 : Vec Ideal S2048 .f32) (x5 : Vec Ideal S2048 .f32) (I : S8192x2048.Idx) :
    val_main_v58 (F := Ideal) x0 x1 x2 x3 x4 x5 I = hidAt x0 x1 x2 x3 x4 x5 (I 0) (I 1) := by
  have h0 : (I 0).val < 8192 := (I 0).isLt
  have h1 : (I 1).val < 2048 := (I 1).isLt
  rw [val_main_v58_apply, val_main_v57_apply]
  have e : idx_main_v57 I = ix3 (⟨(I 0).val / 4096, by omega⟩ : Fin 2) (⟨(I 0).val % 4096, by omega⟩ : Fin 4096) (I 1) := by
    funext a
    apply Fin.ext
    match a with
    | ⟨0, _⟩ => show ((I 0).val * 2048 + (I 1).val) / 8388608 = (I 0).val / 4096; omega
    | ⟨1, _⟩ => show ((I 0).val * 2048 + (I 1).val) / 2048 % 4096 = (I 0).val % 4096; omega
    | ⟨2, _⟩ => show ((I 0).val * 2048 + (I 1).val) % 2048 = (I 1).val; omega
  rw [e]
  refine (hid_read x0 x1 x2 x3 x4 x5 _ _ (I 1)).trans ?_
  exact congrArg (fun R => hidAt x0 x1 x2 x3 x4 x5 R (I 1)) (split (I 0))

theorem aff_result (x0 : Vec Ideal S8192x2048 .bf16) (x1 : Vec Ideal S2048x2048 .bf16) (x2 : Vec Ideal S8192x2048 .f32) (x3 : Vec Ideal S2x6x2048 .f32) (x4 : Vec Ideal S2048 .f32) (x5 : Vec Ideal S2048 .f32) (x6 : Vec Ideal S2048x16 .f32) (I : S8192x128.Idx) :
    val_main_v59 (F := Ideal) x0 x1 x2 x3 x4 x5 x6 I = affAt x0 x1 x2 x3 x4 x5 x6 (I 0) (I 1) := by
  have h0 : (I 0).val < 8192 := (I 0).isLt
  have h1 : (I 1).val < 128 := (I 1).isLt
  rw [val_main_v59_apply]
  have e : idx_main_v59 I = ix3 (⟨(I 0).val / 4096, by omega⟩ : Fin 2) (⟨(I 0).val % 4096, by omega⟩ : Fin 4096) (I 1) := by
    funext a
    apply Fin.ext
    match a with
    | ⟨0, _⟩ => show ((I 0).val * 128 + (I 1).val) / 524288 = (I 0).val / 4096; omega
    | ⟨1, _⟩ => show ((I 0).val * 128 + (I 1).val) / 128 % 4096 = (I 0).val % 4096; omega
    | ⟨2, _⟩ => show ((I 0).val * 128 + (I 1).val) % 128 = (I 1).val; omega
  rw [e]
  refine (aff_read x0 x1 x2 x3 x4 x5 x6 _ _ (I 1)).trans ?_
  exact congrArg (fun R => affAt x0 x1 x2 x3 x4 x5 x6 R (I 1)) (split (I 0))

end Cert.OutprojRefIdeal.Val

namespace Cert.Proof.Outproj

open Idealize.ShloMosaic Idealize.ShloMosaic.TcCoe Idealize.SL.Sem

theorem top_bits : (Ideal.ofBits .f32 0x7F800000#32 : EReal) = ⊤ := by
  simp [Ideal.ofBits, Ideal.ieee]

/-- A number whose absolute value is below the largest is no infinity. -/
theorem finite_of_abs (x : EReal) (h : Ideal.cmp .olt (max x (-x)) (Ideal.ofBits .f32 0x7F800000#32) = 1#1) : x ≠ ⊤ ∧ x ≠ ⊥ := by
  rw [top_bits] at h
  constructor
  · rintro rfl
    simp [Ideal.cmp] at h
  · rintro rfl
    simp [Ideal.cmp] at h

/-- What the precondition says of the router's weights. -/
theorem finite_weights [Cert.Pre_router_finite.Facts] (m : (ℓ : Loc Cert.OutprojIdeal.nD Cert.OutprojIdeal.τ Cert.OutprojIdeal.sig) → Buf (Elt Ideal) ℓ)
    (h : Cert.Pre_OutprojIdeal_router_finite m) (c : Dev Cert.OutprojIdeal.nD) :
    Cert.OutprojIdeal.Val.Finite (m ((c : Thread Cert.OutprojIdeal.nD Cert.OutprojIdeal.τ).loc Cert.OutprojIdeal.main_arg6)) := fun i =>
  finite_of_abs _ (congrFun (h c) i)

theorem algebraic [Cert.Pre_router_finite.Facts] : Cert.algebraic_OutprojIdeal_OutprojRefIdeal_pre_router_finite := by
  intro m ρ m' ρ' hpre hagree
  refine ⟨fun c => Cert.OutprojIdeal.Val.G7 m c, fun c => Cert.OutprojIdeal.Val.G8 m c, fun c => Cert.OutprojIdeal.Val.G9 m c, ?_, ?_⟩
  · refine (θ_run Cert.OutprojIdeal.defs _ _).mono (fun _ h c => ⟨(h c).1.trans (Cert.OutprojIdeal.Val.result7 m c), (h c).2.1.trans (Cert.OutprojIdeal.Val.result8 m c),
      (h c).2.2.1.trans (Cert.OutprojIdeal.Val.result9 m c (finite_weights m hpre c)), (h c).2.2.2⟩) (Cert.OutprojIdeal.Value.run_blocks (F := Ideal) m ρ)
  · refine (θ_run Cert.OutprojRefIdeal.defs _ _).mono (fun _ h c => ⟨(h c).1.trans ?_, (h c).2.1.trans ?_, (h c).2.2.1.trans ?_, (h c).2.2.2⟩) (Cert.OutprojRefIdeal.Value.run (F := Ideal) m' ρ')
    · obtain ⟨a0, a1, a2, a3, a4, a5, a6⟩ := hagree c
      rw [Cert.OutprojRefIdeal.Read.val_main_v56_eq, a0, a1, a2, a3, a4]
      exact funext fun I => Cert.OutprojRefIdeal.Val.sum_result _ _ _ _ _ I
    · obtain ⟨a0, a1, a2, a3, a4, a5, a6⟩ := hagree c
      rw [Cert.OutprojRefIdeal.Read.val_main_v58_eq, a0, a1, a2, a3, a4, a5]
      exact funext fun I => Cert.OutprojRefIdeal.Val.hid_result _ _ _ _ _ _ I
    · obtain ⟨a0, a1, a2, a3, a4, a5, a6⟩ := hagree c
      rw [Cert.OutprojRefIdeal.Read.val_main_v59_eq, a0, a1, a2, a3, a4, a5, a6]
      exact funext fun I => Cert.OutprojRefIdeal.Val.aff_result _ _ _ _ _ _ _ I

end Cert.Proof.Outproj

end
-- ==== Proof.AdaValue.lean ====
/-
  The adaptive modulation: what the kernel's result array ends holding is the product of the activated conditioning rows
  (each entry times its logistic) with the weights, plus the bias, and that is what the reference computes. Both pad the
  two conditioning rows with zero rows to eight.
-/
module

public import proofs.«01_k».proof.Defs
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.Value
public import Idealize.ShloMosaic.Lib.Pipeline.ValueKit.Geometry
public import Idealize.ShloMosaic.Lib.Pointwise
public import Idealize.ShloMosaic.Lib.Claim
public import Idealize.ShloMosaic.Lib.Tactic

@[expose] public section

set_option maxRecDepth 16384

noncomputable section

namespace Cert.AdaIdeal.Val

open Cert.AdaIdeal Cert.AdaIdeal.Gen Cert.AdaIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- An entry times its logistic. -/
def act (x : EReal) : EReal := x * Ideal.logistic x

theorem pay1_apply (x : Vec Ideal S8x2048 .f32) (w : Vec Ideal S2048x1024 .f32) (b : Vec Ideal S1x1024 .f32) (r : Fin 8) (k : Fin 1024) :
    k0_pay1 (F := Ideal) x w b (ix2 r k) = (∑ d : Fin 2048, act (x (ix2 r d)) * w (ix2 d k)) + b (ix2 0 k) := by
  pointwise [k0_pay1]
  rfl

/-- The conditioning rows, padded to eight. -/
abbrev rows (x : Vec Ideal S2x2048 .f32) : Vec Ideal S8x2048 .f32 := Cert.AdaRefIdeal.Read.val_main_v0 (F := Ideal) x

variable (m : (ℓ : Loc nD τ sig) → Buf (Elt Ideal) ℓ)

/-- The block indices of the windows, in closed form. -/
theorem idx0 : ∀ t : Fin cfg0.N, (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

/-- The padded rows, as the call finds them. -/
theorem V0 (c : Dev nD) : V m c main_v0 = rows (m ((c : Thread nD τ).loc main_arg0)) := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results
  rfl

/-- The bias, as the call finds it. -/
theorem V1 (c : Dev nD) (j : S1x12288.Idx) : V m c main_v1 j = m ((c : Thread nD τ).loc main_arg2) (ix1 (j 1)) := by
  have e : V m c main_v1 = shapeCast S1x12288 (m ((c : Thread nD τ).loc main_arg2)) shapeCasts_S12288_S1x12288 := by
    show StableHlo.after (List.flatten [hostOps0, hostOps0_1, hostOps0_2]) _ (Proc.devRef .tc main_v1) = _
    simp only [hostOps0, hostOps0_1, hostOps0_2, List.flatten_cons, List.flatten_nil, List.append_nil, List.cons_append, List.nil_append]
    after_results
    rfl
  rw [e]
  refine shapeCast_apply _ _ j (ix1 (j 1)) ?_
  refine (Shape.rowMajor_val_one _).trans (Eq.trans ?_ (Shape.rowMajor_val_two _).symm)
  have j0 : (j 0).val < 1 := (j 0).isLt
  show (j 1).val = (j 0).val * 12288 + (j 1).val
  omega

theorem iblk0 (c : Dev nD) (t : Fin cfg0.N) (j : S8x2048.Idx) :
    (iblk m c 0 t : Vec Ideal S8x2048 .f32) j = rows (m ((c : Thread nD τ).loc main_arg0)) j := by
  obtain ⟨⟨e0, e1⟩, -, -, -⟩ := idx0 t
  unfold iblk
  rw [View.read_apply]
  show V m c main_v0 _ = _
  refine (congrFun (V0 m c) _).trans ?_
  congr 1
  funext a
  apply Fin.ext
  match a with
  | ⟨0, _⟩ => show win0_0.index t 0 * 8 + 1 * (j 0).val = (j 0).val; rw [e0]; omega
  | ⟨1, _⟩ => show win0_0.index t 1 * 2048 + 1 * (j 1).val = (j 1).val; rw [e1]; omega

theorem iblk1 (c : Dev nD) (t : Fin cfg0.N) (j : S2048x1024.Idx) (J : S2048x12288.Idx)
    (h0 : (J 0).val = (j 0).val) (h1 : (J 1).val = 1024 * t.val + (j 1).val) :
    (iblk m c 1 t : Vec Ideal S2048x1024 .f32) j = m ((c : Thread nD τ).loc main_arg1) J := by
  obtain ⟨-, ⟨e0, e1⟩, -, -⟩ := idx0 t
  unfold iblk
  rw [View.read_apply]
  show V m c main_arg1 _ = m (c.tc.loc main_arg1) _
  refine (congrFun (V_main_arg1 m c) _).trans ?_
  congr 1
  funext a
  apply Fin.ext
  match a with
  | ⟨0, _⟩ => show win0_1.index t 0 * 2048 + 1 * (j 0).val = (J 0).val; rw [e0, h0]; omega
  | ⟨1, _⟩ => show win0_1.index t 1 * 1024 + 1 * (j 1).val = (J 1).val; rw [e1, h1]; omega

theorem iblk2 (c : Dev nD) (t : Fin cfg0.N) (j : S1x1024.Idx) (q : Fin 12288) (h1 : q.val = 1024 * t.val + (j 1).val) :
    (iblk m c 2 t : Vec Ideal S1x1024 .f32) j = m ((c : Thread nD τ).loc main_arg2) (ix1 q) := by
  obtain ⟨-, -, ⟨e0, e1⟩, -⟩ := idx0 t
  unfold iblk
  rw [View.read_apply]
  show V m c main_v1 _ = m (c.tc.loc main_arg2) _
  refine (V1 m c _).trans ?_
  congr 1
  funext a
  apply Fin.ext
  match a with
  | ⟨0, _⟩ => show win0_2.index t 1 * 1024 + 1 * (j 1).val = q.val; rw [e1, h1]; omega

/-- One entry of the modulation. -/
def entry (x : Vec Ideal S2x2048 .f32) (w : Vec Ideal S2048x12288 .f32) (b : Vec Ideal S12288 .f32) (r : Fin 8) (k : Fin 12288) : EReal :=
  (∑ d : Fin 2048, act (rows x (ix2 r d)) * w (ix2 d k)) + b (ix1 k)

/-- The block a point leaves is the modulation's column tile. -/
theorem block (c : Dev nD) (t : Fin cfg0.N) (r : Fin 8) (k : Fin 1024) :
    out0_3 (iblk m c 0 t) (iblk m c 1 t) (iblk m c 2 t) (ix2 r k)
      = entry (m ((c : Thread nD τ).loc main_arg0)) (m ((c : Thread nD τ).loc main_arg1)) (m ((c : Thread nD τ).loc main_arg2)) r
        ⟨1024 * t.val + k.val, by have : t.val < 12 := lt_of_lt_of_eq t.isLt N_0; omega⟩ := by
  unfold out0_3
  rw [View.canon_unit_zero hz, View.ld_unit_zero (S := S8x2048) hz, View.ld_unit_zero (S := S2048x1024) hz, View.ld_unit_zero (S := S1x1024) hz, pay1_apply]
  unfold entry
  refine congrArg₂ (fun a b : EReal => a + b) (Finset.sum_congr rfl fun d _ => congrArg₂ (fun a b : EReal => a * b) (congrArg act ?_) ?_) ?_
  · exact iblk0 m c t (ix2 r d)
  · exact iblk1 m c t (ix2 d k) (ix2 d _) rfl rfl
  · exact iblk2 m c t (ix2 0 k) _ rfl

/-- What the result array ends holding. -/
def G (c : Dev nD) : Vec Ideal S8x12288 .f32 := fun I => entry (m ((c : Thread nD τ).loc main_arg0)) (m ((c : Thread nD τ).loc main_arg1)) (m ((c : Thread nD τ).loc main_arg2)) (I 0) (I 1)

theorem result (c : Dev nD) : (dats m 0 c).arrAt 3 cfg0.N = G m c := by
  refine (dats m 0 c).arrAt_eq_of_covers 3 (G m c) (by decide +kernel) fun t hf y => ?_
  obtain ⟨-, -, -, ⟨e0, e1⟩⟩ := idx0 t
  blk_simp
  rw [after0_3]
  refine (congrArg _ (eq_ix2 (n0 := 8) (n1 := 1024) y)).trans ((block m c t (y 0) (y 1)).trans ?_)
  unfold G
  refine congrArg₂ (entry (m ((c : Thread nD τ).loc main_arg0)) (m ((c : Thread nD τ).loc main_arg1)) (m ((c : Thread nD τ).loc main_arg2))) (Fin.ext ?_) (Fin.ext ?_)
  · show (y 0).val = win0_3.index t 0 * 8 + 1 * (y 0).val
    rw [e0]; omega
  · show 1024 * t.val + (y 1).val = win0_3.index t 1 * 1024 + 1 * (y 1).val
    rw [e1]; omega

end Cert.AdaIdeal.Val

namespace Cert.AdaRefIdeal.Val

open Cert.AdaRefIdeal Cert.AdaRefIdeal.Read Idealize.ShloMosaic

theorem one_bits : (Ideal.ofBits .f32 0x3F800000#32 : EReal) = 1 := by
  simp [Ideal.ofBits, Ideal.ieee, -EReal.coe_mul]; norm_num

theorem act (x : Vec Ideal S2x2048 .f32) (i : S8x2048.Idx) :
    val_main_v1 (F := Ideal) x i = Cert.AdaIdeal.Val.act (val_main_v0 (F := Ideal) x i) := by
  rw [val_main_v1_apply, val_main_call1_v5_apply, val_main_call1_v4_apply, val_main_call1_v3_apply,
    val_main_call1_v2_apply, val_main_call1_v1_apply, val_main_call1_v0_apply, val_main_call1_cst_apply, val_main_call1_cst_0_apply]
  generalize val_main_v0 (F := Ideal) x i = g
  show (g : EReal) * Ideal.div (Ideal.ofBits .f32 0x3F800000#32) (Ideal.ofBits .f32 0x3F800000#32 + Ideal.exp (-g)) = _
  rw [one_bits]
  rfl

/-- The reference's result is the modulation. -/
theorem modulation (x : Vec Ideal S2x2048 .f32) (w : Vec Ideal S2048x12288 .f32) (b : Vec Ideal S12288 .f32) :
    val_main_v5 (F := Ideal) x w b = fun i => Cert.AdaIdeal.Val.entry x w b (i 0) (i 1) := by
  funext i
  rw [val_main_v5_apply, val_main_v4_apply, val_main_v3_apply, val_main_v2_apply]
  refine congrArg₂ (fun a b : EReal => a + b) (Finset.sum_congr rfl fun d _ => congrArg₂ (fun a b : EReal => a * b) ?_ ?_) ?_
  · rw [act]
    refine congrArg Cert.AdaIdeal.Val.act (congrArg _ (funext fun a => ?_))
    match a with | ⟨0, _⟩ => rfl | ⟨1, _⟩ => rfl
  · congr 1; funext a; match a with | ⟨0, _⟩ => rfl | ⟨1, _⟩ => rfl
  · congr 1; funext a; match a with | ⟨0, _⟩ => rfl

end Cert.AdaRefIdeal.Val

namespace Cert.Proof.Ada

open Idealize.ShloMosaic Idealize.ShloMosaic.TcCoe Idealize.SL.Sem

theorem algebraic : Cert.algebraic_AdaIdeal_AdaRefIdeal := by
  intro m ρ m' ρ' _ hagree
  refine ⟨fun c => Cert.AdaIdeal.Val.G m c, ?_, ?_⟩
  · exact (θ_run Cert.AdaIdeal.defs _ _).mono (fun _ h c => ⟨(h c).1.trans (Cert.AdaIdeal.Val.result m c), (h c).2⟩) (Cert.AdaIdeal.Value.run_blocks (F := Ideal) m ρ)
  refine (θ_run Cert.AdaRefIdeal.defs _ _).mono (fun _ h c => ⟨(h c).1.trans ?_, (h c).2⟩) (Cert.AdaRefIdeal.Value.run (F := Ideal) m' ρ')
  obtain ⟨a0, a1, a2⟩ := hagree c
  rw [Cert.AdaRefIdeal.Read.val_main_v5_eq, a0, a1, a2]
  exact Cert.AdaRefIdeal.Val.modulation _ _ _

end Cert.Proof.Ada

end
-- ==== Proof.PrenormValue.lean ====
/-
  The first norm with its modulation: what the kernel's result array ends holding is, in each row, the row times the
  inverse root of its mean square, times the gain, times one plus the batch's scale, plus the batch's shift, and that is
  what the reference computes.
-/
module

public import proofs.«01_k».proof.Defs
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.OutprojMath
public import Idealize.ShloMosaic.Lib.Pipeline.Value
public import Idealize.ShloMosaic.Lib.Pipeline.ValueKit.Geometry
public import Idealize.ShloMosaic.Lib.Pointwise
public import Idealize.ShloMosaic.Lib.Claim
public import Idealize.ShloMosaic.Lib.Tactic

@[expose] public section

set_option maxRecDepth 16384

noncomputable section

namespace Cert.PrenormIdeal.Val

open Cert.Proof Cert.PrenormIdeal Cert.PrenormIdeal.Gen Cert.PrenormIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A row normed, weighted by the gain, and modulated. -/
def normRow (x g sc sh : Fin 2048 → EReal) (k : Fin 2048) : EReal :=
  x k * OutprojMath.rinv x * g k * (1 + sc k) + sh k

theorem pay1_apply (x : Vec Ideal S1024x2048 .f32) (g : Vec Ideal S1x2048 .f32) (sh sc : Vec Ideal S1x1x2048 .f32) (r : Fin 1024) (k : Fin 2048) :
    k0_pay1 (F := Ideal) x g sh sc (ix2 r k) = normRow (fun j => x (ix2 r j)) (fun j => g (ix2 0 j)) (fun j => sc (ix3 0 0 j)) (fun j => sh (ix3 0 0 j)) k := by
  pointwise [k0_pay1]
  rfl

theorem shift_ld (x : Vec Ideal S1x6x2048 .f32) (k : Fin 2048) : View.ld x r0_2 (ix3 0 0 k) = x (ix3 0 0 k) := by
  show x _ = x _
  congr 1
  funext a
  apply Fin.ext
  match a with
  | ⟨0, _⟩ => rfl
  | ⟨1, _⟩ => rfl
  | ⟨2, _⟩ => show 0 + 1 * k.val = k.val; omega

theorem scale_ld (x : Vec Ideal S1x6x2048 .f32) (k : Fin 2048) : View.ld x r0_3 (ix3 0 0 k) = x (ix3 0 1 k) := by
  show x _ = x _
  congr 1
  funext a
  apply Fin.ext
  match a with
  | ⟨0, _⟩ => rfl
  | ⟨1, _⟩ => rfl
  | ⟨2, _⟩ => show 0 + 1 * k.val = k.val; omega

/-- The batch of a row. -/
def bat (R : Fin 8192) : Fin 2 := ⟨R.val / 4096, by omega⟩

/-- One entry of the result. -/
def entry (x : Vec Ideal S8192x2048 .f32) (g : Vec Ideal S2048 .f32) (md : Vec Ideal S2x6x2048 .f32) (R : Fin 8192) (k : Fin 2048) : EReal :=
  normRow (fun j => x (ix2 R j)) (fun j => g (ix1 j)) (fun j => md (ix3 (bat R) 1 j)) (fun j => md (ix3 (bat R) 0 j)) k

variable (m : (ℓ : Loc nD τ sig) → Buf (Elt Ideal) ℓ)

/-- The block indices of the windows, in closed form. -/
theorem idx0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = t.val / 4 ∧ win0_2.index t (1 : Fin 3) = 0 ∧ win0_2.index t (2 : Fin 3) = 0)
    ∧ (win0_3.index t (0 : Fin 2) = t.val ∧ win0_3.index t (1 : Fin 2) = 0) :=
  (by decide +kernel : ∀ t : Fin grid0.N, _)

/-- The gain, as the call finds it. -/
theorem V0 (c : Dev nD) (j : S1x2048.Idx) : V m c main_v0 j = m ((c : Thread nD τ).loc main_arg1) (ix1 (j 1)) := by
  have e : V m c main_v0 = shapeCast S1x2048 (m ((c : Thread nD τ).loc main_arg1)) shapeCasts_S2048_S1x2048 := by
    show StableHlo.after hostOps0 _ (Proc.devRef .tc main_v0) = _
    simp only [hostOps0]
    after_results
    rfl
  rw [e]
  refine shapeCast_apply _ _ j (ix1 (j 1)) ?_
  refine (Shape.rowMajor_val_one _).trans (Eq.trans ?_ (Shape.rowMajor_val_two _).symm)
  have j0 : (j 0).val < 1 := (j 0).isLt
  show (j 1).val = (j 0).val * 2048 + (j 1).val
  omega

theorem iblk0 (c : Dev nD) (t : Fin cfg0.N) (j : S1024x2048.Idx) (J : S8192x2048.Idx)
    (h0 : (J 0).val = 1024 * t.val + (j 0).val) (h1 : (J 1).val = (j 1).val) :
    (iblk m c 0 t : Vec Ideal S1024x2048 .f32) j = m ((c : Thread nD τ).loc main_arg0) J := by
  obtain ⟨⟨e0, e1⟩, -, -, -⟩ := idx0 t
  unfold iblk
  rw [View.read_apply]
  show V m c main_arg0 _ = m (c.tc.loc main_arg0) _
  refine (congrFun (V_main_arg0 m c) _).trans ?_
  congr 1
  funext a
  apply Fin.ext
  match a with
  | ⟨0, _⟩ => show win0_0.index t 0 * 1024 + 1 * (j 0).val = (J 0).val; rw [e0, h0]; omega
  | ⟨1, _⟩ => show win0_0.index t 1 * 2048 + 1 * (j 1).val = (J 1).val; rw [e1, h1]; omega

theorem iblk1 (c : Dev nD) (t : Fin cfg0.N) (k : Fin 2048) :
    (iblk m c 1 t : Vec Ideal S1x2048 .f32) (ix2 0 k) = m ((c : Thread nD τ).loc main_arg1) (ix1 k) := by
  obtain ⟨-, ⟨e0, e1⟩, -, -⟩ := idx0 t
  unfold iblk
  rw [View.read_apply]
  show V m c main_v0 _ = m (c.tc.loc main_arg1) _
  refine (V0 m c _).trans ?_
  congr 1
  funext a
  apply Fin.ext
  match a with
  | ⟨0, _⟩ => show win0_1.index t 1 * 2048 + 1 * k.val = k.val; rw [e1]; omega

theorem iblk2 (c : Dev nD) (t : Fin cfg0.N) (j : S1x6x2048.Idx) (J : S2x6x2048.Idx)
    (h0 : (J 0).val = t.val / 4 + (j 0).val) (h1 : (J 1).val = (j 1).val) (h2 : (J 2).val = (j 2).val) :
    (iblk m c 2 t : Vec Ideal S1x6x2048 .f32) j = m ((c : Thread nD τ).loc main_arg2) J := by
  obtain ⟨-, -, ⟨e0, e1, e2⟩, -⟩ := idx0 t
  unfold iblk
  rw [View.read_apply]
  show V m c main_arg2 _ = m (c.tc.loc main_arg2) _
  refine (congrFun (V_main_arg2 m c) _).trans ?_
  congr 1
  funext a
  apply Fin.ext
  match a with
  | ⟨0, _⟩ => show win0_2.index t 0 * 1 + 1 * (j 0).val = (J 0).val; rw [e0, h0]; omega
  | ⟨1, _⟩ => show win0_2.index t 1 * 6 + 1 * (j 1).val = (J 1).val; rw [e1, h1]; omega
  | ⟨2, _⟩ => show win0_2.index t 2 * 2048 + 1 * (j 2).val = (J 2).val; rw [e2, h2]; omega

/-- The block a point leaves is the result's row tile. -/
theorem block (c : Dev nD) (t : Fin cfg0.N) (r : Fin 1024) (k : Fin 2048) :
    out0_3 (iblk m c 0 t) (iblk m c 1 t) (iblk m c 2 t) (ix2 r k)
      = entry (m ((c : Thread nD τ).loc main_arg0)) (m ((c : Thread nD τ).loc main_arg1)) (m ((c : Thread nD τ).loc main_arg2)) ⟨1024 * t.val + r.val, by have : t.val < 8 := lt_of_lt_of_eq t.isLt N_0; omega⟩ k := by
  have ht : t.val < 8 := lt_of_lt_of_eq t.isLt N_0
  unfold out0_3
  rw [View.canon_unit_zero hz, View.ld_unit_zero (S := S1024x2048) hz, View.ld_unit_zero (S := S1x2048) hz, pay1_apply]
  unfold entry
  have a0 : (fun j => (iblk m c 0 t : Vec Ideal S1024x2048 .f32) (ix2 r j)) = fun j => m ((c : Thread nD τ).loc main_arg0) (ix2 (⟨1024 * t.val + r.val, by omega⟩ : Fin 8192) j) :=
    funext fun j => iblk0 m c t (ix2 r j) (ix2 _ j) rfl rfl
  have a1 : (fun j => (iblk m c 1 t : Vec Ideal S1x2048 .f32) (ix2 0 j)) = fun j => m ((c : Thread nD τ).loc main_arg1) (ix1 j) :=
    funext fun j => iblk1 m c t j
  have a2 : (fun j => View.ld (iblk m c 2 t : Vec Ideal S1x6x2048 .f32) r0_3 (ix3 0 0 j)) = fun j => m ((c : Thread nD τ).loc main_arg2) (ix3 (bat ⟨1024 * t.val + r.val, by omega⟩) 1 j) :=
    funext fun j => (scale_ld _ j).trans (iblk2 m c t (ix3 0 1 j) (ix3 _ 1 j) (by show (1024 * t.val + r.val) / 4096 = t.val / 4 + 0; omega) rfl rfl)
  have a3 : (fun j => View.ld (iblk m c 2 t : Vec Ideal S1x6x2048 .f32) r0_2 (ix3 0 0 j)) = fun j => m ((c : Thread nD τ).loc main_arg2) (ix3 (bat ⟨1024 * t.val + r.val, by omega⟩) 0 j) :=
    funext fun j => (shift_ld _ j).trans (iblk2 m c t (ix3 0 0 j) (ix3 _ 0 j) (by show (1024 * t.val + r.val) / 4096 = t.val / 4 + 0; omega) rfl rfl)
  rw [a0, a1, a2, a3]

/-- What the result array ends holding. -/
def G (c : Dev nD) : Vec Ideal S8192x2048 .bf16 := fun I => entry (m ((c : Thread nD τ).loc main_arg0)) (m ((c : Thread nD τ).loc main_arg1)) (m ((c : Thread nD τ).loc main_arg2)) (I 0) (I 1)

theorem result (c : Dev nD) : (dats m 0 c).arrAt 3 cfg0.N = G m c := by
  refine (dats m 0 c).arrAt_eq_of_covers 3 (G m c) (by decide +kernel) fun t hf y => ?_
  obtain ⟨-, -, -, ⟨e0, e1⟩⟩ := idx0 t
  blk_simp
  rw [after0_3]
  refine (congrArg _ (eq_ix2 (n0 := 1024) (n1 := 2048) y)).trans ((block m c t (y 0) (y 1)).trans ?_)
  unfold G
  refine congrArg₂ (entry (m ((c : Thread nD τ).loc main_arg0)) (m ((c : Thread nD τ).loc main_arg1)) (m ((c : Thread nD τ).loc main_arg2))) (Fin.ext ?_) (Fin.ext ?_)
  · show 1024 * t.val + (y 0).val = win0_3.index t 0 * 1024 + 1 * (y 0).val
    rw [e0]; omega
  · show (y 1).val = win0_3.index t 1 * 2048 + 1 * (y 1).val
    rw [e1]; omega

end Cert.PrenormIdeal.Val

namespace Cert.PrenormRefIdeal.Val

open Cert.Proof Cert.PrenormRefIdeal Cert.PrenormRefIdeal.Read Idealize.ShloMosaic
open Cert.PrenormIdeal.Val (bat entry normRow)

theorem zero_bits : (Ideal.ofBits .f32 0x00000000#32 : EReal) = 0 := by
  simp [Ideal.ofBits, Ideal.ieee]

theorem one_bits : (Ideal.ofBits .f32 0x3F800000#32 : EReal) = 1 := by
  simp [Ideal.ofBits, Ideal.ieee, -EReal.coe_mul]; norm_num

/-- Row `s` of batch `b`, among the rows of both. -/
def rw8 (b : Fin 2) (s : Fin 4096) : Fin 8192 := ⟨b.val * 4096 + s.val, by omega⟩

theorem bat_rw8 (b : Fin 2) (s : Fin 4096) : bat (rw8 b s) = b := Fin.ext (by show (b.val * 4096 + s.val) / 4096 = b.val; omega)

theorem x_read (x0 : Vec Ideal S8192x2048 .f32) (b : Fin 2) (s : Fin 4096) (k : Fin 2048) :
    val_main_v2 (F := Ideal) x0 (ix3 b s k) = x0 (ix2 (rw8 b s) k) := by
  rw [val_main_v2_apply]
  refine congrArg x0 ?_
  funext a
  apply Fin.ext
  match a with
  | ⟨0, _⟩ => show ((b.val * 4096 + s.val) * 2048 + k.val) / 2048 = b.val * 4096 + s.val; omega
  | ⟨1, _⟩ => show ((b.val * 4096 + s.val) * 2048 + k.val) % 2048 = k.val; omega

/-- The norm's factor. -/
theorem norm (x0 : Vec Ideal S8192x2048 .f32) (b : Fin 2) (s : Fin 4096) :
    val_main_v10 (F := Ideal) x0 (ix3 b s 0) = OutprojMath.rinv (fun j => x0 (ix2 (rw8 b s) j)) := by
  rw [val_main_v10_apply, val_main_v9_apply, val_main_v7_apply, val_main_v5_apply, val_main_v4_apply, val_main_v6_apply,
    val_main_v8_apply, val_main_cst_apply, val_main_cst_0_apply, val_main_cst_1_apply]
  have e : ∀ k : Fin 2048, val_main_v3 (F := Ideal) x0 (idx_main_v4 (idx_main_v5 (ix3 b s 0)) k)
      = (x0 (ix2 (rw8 b s) k) * x0 (ix2 (rw8 b s) k) : EReal) := fun k => by
    have ei : idx_main_v4 (idx_main_v5 (ix3 b s 0)) k = ix3 b s k := by
      funext a
      match a with
      | ⟨0, _⟩ => rfl
      | ⟨1, _⟩ => rfl
      | ⟨2, _⟩ => rfl
    rw [ei, val_main_v3_apply, x_read]
    rfl
  rw [Finset.sum_congr rfl fun k _ => e k]
  show Ideal.rsqrt (Ideal.div (Ideal.ofBits .f32 0x00000000#32 + _) _ + _) = _
  rw [zero_bits, zero_add]
  rfl

/-- One entry of the reference's result. -/
theorem entry_read (x0 : Vec Ideal S8192x2048 .f32) (x1 : Vec Ideal S2048 .f32) (x2 : Vec Ideal S2x6x2048 .f32) (b : Fin 2) (s : Fin 4096) (k : Fin 2048) :
    val_main_v21 (F := Ideal) x0 x1 x2 (ix3 b s k) = entry x0 x1 x2 (rw8 b s) k := by
  rw [val_main_v21_apply, val_main_v20_apply, val_main_v0_apply, val_main_v19_apply, val_main_v18_apply, val_main_v17_apply, val_main_v16_apply,
    val_main_v1_apply, val_main_v15_apply, val_main_v14_apply, val_main_v13_apply, val_main_v12_apply, val_main_v11_apply, val_main_cst_2_apply, x_read]
  have e0 : idx_main_v0 (idx_main_v20 (ix3 b s k)) = ix3 (bat (rw8 b s)) 0 k := by
    rw [bat_rw8]
    funext a
    match a with
    | ⟨0, _⟩ => rfl
    | ⟨1, _⟩ => rfl
    | ⟨2, _⟩ => rfl
  have e1 : idx_main_v1 (idx_main_v18 (ix3 b s k)) = ix3 (bat (rw8 b s)) 1 k := by
    rw [bat_rw8]
    funext a
    match a with
    | ⟨0, _⟩ => rfl
    | ⟨1, _⟩ => rfl
    | ⟨2, _⟩ => rfl
  have e2 : idx_main_v11 (ix3 b s k) = ix3 b s 0 := by
    funext a
    match a with
    | ⟨0, _⟩ => rfl
    | ⟨1, _⟩ => rfl
    | ⟨2, _⟩ => rfl
  have e3 : idx_main_v13 (idx_main_v14 (ix3 b s k)) = ix1 k := by
    funext a
    match a with
    | ⟨0, _⟩ => rfl
  rw [e0, e1, e2, e3, norm]
  show (_ * (Ideal.ofBits .f32 0x3F800000#32 + _) + _ : EReal) = _
  rw [one_bits]
  rfl

/-- The batch and the place in it, of a row. -/
theorem split (R : Fin 8192) : rw8 ⟨R.val / 4096, by omega⟩ ⟨R.val % 4096, by omega⟩ = R := Fin.ext (by show R.val / 4096 * 4096 + R.val % 4096 = R.val; omega)

theorem result (x0 : Vec Ideal S8192x2048 .f32) (x1 : Vec Ideal S2048 .f32) (x2 : Vec Ideal S2x6x2048 .f32) (I : S8192x2048.Idx) :
    val_main_v23 (F := Ideal) x0 x1 x2 I = entry x0 x1 x2 (I 0) (I 1) := by
  have h0 : (I 0).val < 8192 := (I 0).isLt
  have h1 : (I 1).val < 2048 := (I 1).isLt
  rw [val_main_v23_apply, val_main_v22_apply]
  have e : idx_main_v22 I = ix3 (⟨(I 0).val / 4096, by omega⟩ : Fin 2) (⟨(I 0).val % 4096, by omega⟩ : Fin 4096) (I 1) := by
    funext a
    apply Fin.ext
    match a with
    | ⟨0, _⟩ => show ((I 0).val * 2048 + (I 1).val) / 8388608 = (I 0).val / 4096; omega
    | ⟨1, _⟩ => show ((I 0).val * 2048 + (I 1).val) / 2048 % 4096 = (I 0).val % 4096; omega
    | ⟨2, _⟩ => show ((I 0).val * 2048 + (I 1).val) % 2048 = (I 1).val; omega
  rw [e]
  refine (entry_read x0 x1 x2 _ _ (I 1)).trans ?_
  exact congrArg (fun R => entry x0 x1 x2 R (I 1)) (split (I 0))

end Cert.PrenormRefIdeal.Val

namespace Cert.Proof.Prenorm

open Idealize.ShloMosaic Idealize.ShloMosaic.TcCoe Idealize.SL.Sem

theorem algebraic : Cert.algebraic_PrenormIdeal_PrenormRefIdeal := by
  intro m ρ m' ρ' _ hagree
  refine ⟨fun c => Cert.PrenormIdeal.Val.G m c, ?_, ?_⟩
  · exact (θ_run Cert.PrenormIdeal.defs _ _).mono (fun _ h c => ⟨(h c).1.trans (Cert.PrenormIdeal.Val.result m c), (h c).2⟩) (Cert.PrenormIdeal.Value.run_blocks (F := Ideal) m ρ)
  refine (θ_run Cert.PrenormRefIdeal.defs _ _).mono (fun _ h c => ⟨(h c).1.trans ?_, (h c).2⟩) (Cert.PrenormRefIdeal.Value.run (F := Ideal) m' ρ')
  obtain ⟨a0, a1, a2⟩ := hagree c
  rw [Cert.PrenormRefIdeal.Read.val_main_v23_eq, a0, a1, a2]
  exact funext fun I => Cert.PrenormRefIdeal.Val.result _ _ _ I

end Cert.Proof.Prenorm

end
-- ==== Proof.RopeValue.lean ====
/-
  The rotary embedding of queries and keys: each output block is its heads' columns, a head's lanes turned by the row's
  position, a lane paired with the lane half a head away. The kernel rolls the lanes by half a head and keeps the sign
  of the second term in a table, the reference writes the two halves of the lanes apart; both have the same entries.
-/
module

public import proofs.«01_k».proof.Defs
public import proofs.«01_k».proof.Proof.Gen.RopeIdeal.Value
public import proofs.«01_k».proof.Proof.Gen.RopeRefIdeal.Run
public import proofs.«01_k».proof.Proof.Gen.RopeRefIdeal.Read
public import Idealize.ShloMosaic.Lib.Pipeline.Value
public import Idealize.ShloMosaic.Lib.Pipeline.ValueKit.Geometry
public import Idealize.ShloMosaic.Lib.Pointwise
public import Idealize.ShloMosaic.Lib.Claim
public import Idealize.ShloMosaic.Lib.Tactic

@[expose] public section

set_option maxRecDepth 16384

noncomputable section

namespace Cert.RopeIdeal.Val

open Cert.RopeIdeal Cert.RopeIdeal.Gen Cert.RopeIdeal.Value Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The lane half a head away. -/
def other (e : Fin 128) : Fin 128 := ⟨(e.val + 128 - 64) % 128, Nat.mod_lt _ (by decide)⟩

/-- The frequency a lane uses. -/
def lower (e : Fin 128) : Fin 64 := ⟨e.val % 64, Nat.mod_lt _ (by decide)⟩

/-- The frequencies. -/
def freq (f : Fin 64) : EReal := Cert.RopeRefIdeal.Read.val_main_v19 (F := Ideal) (ix1 f)

/-- A position times a frequency. -/
def angle (p : BitVec 32) (f : EReal) : EReal := (FloatOps.sitofp .f32 p : Ideal .f32) * f

/-- Minus one in the lower half of the lanes, one in the upper. -/
def sign (e : Fin 128) : EReal := if e.val < 64 then -1 else 1

/-- Lane `e` turned by the angle `a`, the other lane's part with the sign `s`. -/
def turned (x : Fin 128 → EReal) (a s : EReal) (e : Fin 128) : EReal := x e * Ideal.cos a + x (other e) * (Ideal.sin a * s)

theorem turned_congr {x y : Fin 128 → EReal} {a b s u : EReal} {e : Fin 128} (h : ∀ l, x l = y l) (ha : a = b) (hs : s = u) :
    turned x a s e = turned y b u e := by
  subst ha hs
  rw [funext h]

theorem pay1_apply (cs sn : FVec Ideal S512x128 .f32) (x : Vec Ideal S512x128 .bf16) (r : Fin 512) (e : Fin 128) :
    k0_pay1 (F := Ideal) cs sn x (ix2 r e) = x (ix2 r e) * cs (ix2 r e) + x (ix2 r (other e)) * sn (ix2 r e) := by
  pointwise [k0_pay1]
  rfl

theorem pay5_apply (p : Vec Ideal S512x1 .i32) (v : Vec Ideal S1x128 .f32) (r : Fin 512) (e : Fin 128) :
    k0_pay5 (F := Ideal) p v (ix2 r e) = Ideal.cos (angle (p (ix2 r 0)) (v (ix2 0 e))) := by
  pointwise [k0_pay5, k0_pay4]
  rfl

theorem pay6_apply (p : Vec Ideal S512x1 .i32) (v s : Vec Ideal S1x128 .f32) (r : Fin 512) (e : Fin 128) :
    k0_pay6 (F := Ideal) p v s (ix2 r e) = Ideal.sin (angle (p (ix2 r 0)) (v (ix2 0 e))) * s (ix2 0 e) := by
  pointwise [k0_pay6, k0_pay4]
  rfl

theorem head_apply (p : Vec Ideal S512x1 .i32) (v s : Vec Ideal S1x128 .f32) (x : Vec Ideal S512x128 .bf16) (r : Fin 512) (e : Fin 128) :
    k0_pay1 (F := Ideal) (k0_pay5 p v) (k0_pay6 p v s) x (ix2 r e) = turned (fun l => x (ix2 r l)) (angle (p (ix2 r 0)) (v (ix2 0 e))) (s (ix2 0 e)) e := by
  rw [pay1_apply, pay5_apply, pay6_apply]
  rfl

section
variable {F : FTy → Type} [FloatOps F]

/-- The queries' output block's pieces as the body stores them, the last head's first. -/
def qpieces (x : Vec F S512x1024 .bf16) (x2 : Vec F S512x1 .i32) (x3 x4 : Vec F S1x128 .f32) : List (View.Piece (Elt F) S512x1024 .bf16) :=
  [⟨Rect.unit (s := S512x1024) ![0, 896] S512x128.size inb_S512x1024_S512x128_0_896, k0_pay1 (k0_pay5 x2 x3) (k0_pay6 x2 x3 x4) (View.ld x (Rect.unit (s := S512x1024) ![0, 896] S512x128.size inb_S512x1024_S512x128_0_896))⟩,
    ⟨Rect.unit (s := S512x1024) ![0, 768] S512x128.size inb_S512x1024_S512x128_0_768, k0_pay1 (k0_pay5 x2 x3) (k0_pay6 x2 x3 x4) (View.ld x (Rect.unit (s := S512x1024) ![0, 768] S512x128.size inb_S512x1024_S512x128_0_768))⟩,
    ⟨Rect.unit (s := S512x1024) ![0, 640] S512x128.size inb_S512x1024_S512x128_0_640, k0_pay1 (k0_pay5 x2 x3) (k0_pay6 x2 x3 x4) (View.ld x (Rect.unit (s := S512x1024) ![0, 640] S512x128.size inb_S512x1024_S512x128_0_640))⟩,
    ⟨Rect.unit (s := S512x1024) ![0, 512] S512x128.size inb_S512x1024_S512x128_0_512, k0_pay1 (k0_pay5 x2 x3) (k0_pay6 x2 x3 x4) (View.ld x (Rect.unit (s := S512x1024) ![0, 512] S512x128.size inb_S512x1024_S512x128_0_512))⟩,
    ⟨Rect.unit (s := S512x1024) ![0, 384] S512x128.size inb_S512x1024_S512x128_0_384, k0_pay1 (k0_pay5 x2 x3) (k0_pay6 x2 x3 x4) (View.ld x (Rect.unit (s := S512x1024) ![0, 384] S512x128.size inb_S512x1024_S512x128_0_384))⟩,
    ⟨Rect.unit (s := S512x1024) ![0, 256] S512x128.size inb_S512x1024_S512x128_0_256, k0_pay1 (k0_pay5 x2 x3) (k0_pay6 x2 x3 x4) (View.ld x (Rect.unit (s := S512x1024) ![0, 256] S512x128.size inb_S512x1024_S512x128_0_256))⟩,
    ⟨Rect.unit (s := S512x1024) ![0, 128] S512x128.size inb_S512x1024_S512x128_0_128, k0_pay1 (k0_pay5 x2 x3) (k0_pay6 x2 x3 x4) (View.ld x (Rect.unit (s := S512x1024) ![0, 128] S512x128.size inb_S512x1024_S512x128_0_128))⟩,
    ⟨Rect.unit (s := S512x1024) ![0, 0] S512x128.size inb_S512x1024_S512x128_0_0, k0_pay1 (k0_pay5 x2 x3) (k0_pay6 x2 x3 x4) (View.ld x (Rect.unit (s := S512x1024) ![0, 0] S512x128.size inb_S512x1024_S512x128_0_0))⟩]

theorem out5_eq (c : Dev nD) (i : grid0.Coords) (arg1 : Memref sig .tc .vmem S512x1024 .bf16) (harg1 : arg1.IsWhole) (arg2 : Memref sig .tc .vmem S512x256 .bf16) (harg2 : arg2.IsWhole) (arg3 : Memref sig .tc .vmem S512x1 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x1024 .bf16) (harg6 : arg6.IsWhole) (arg7 : Memref sig .tc .vmem S512x256 .bf16) (harg7 : arg7.IsWhole)
    (x0 : Vec F S512x1024 .bf16) (x1 : Vec F S512x256 .bf16) (x2 : Vec F S512x1 .i32) (x3 : Vec F S1x128 .f32) (x4 : Vec F S1x128 .f32) :
    out0_A_5 c i arg1 harg1 arg2 harg2 arg3 harg3 arg4 harg4 arg5 harg5 arg6 harg6 arg7 harg7 x0 x1 x2 x3 x4 = View.canon (qpieces x0 x2 x3 x4) := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  simp only [View.readAt_eq_ld, harg1.read_unread, harg2.read_unread, harg3.read_unread, harg4.read_unread, harg5.read_unread, View.ld_unit_zero (S := S512x1) hz, View.ld_unit_zero (S := S1x128) hz]
  rfl

end

/-- The queries' output block: each head's columns turned. -/
def qblk (x : Vec Ideal S512x1024 .bf16) (x2 : Vec Ideal S512x1 .i32) (x3 x4 : Vec Ideal S1x128 .f32) (r : Fin 512) (h : Fin 8) (e : Fin 128) : EReal :=
  turned (fun l => x (ix2 r ⟨128 * h.val + l.val, by omega⟩)) (angle (x2 (ix2 r 0)) (x3 (ix2 0 e))) (x4 (ix2 0 e)) e

/-- The block as one vector. -/
def qblkG (x : Vec Ideal S512x1024 .bf16) (x2 : Vec Ideal S512x1 .i32) (x3 x4 : Vec Ideal S1x128 .f32) : Vec Ideal S512x1024 .bf16 := fun y =>
  qblk x x2 x3 x4 (y 0) ⟨(y 1).val / 128, by have : (y 1).val < 1024 := (y 1).isLt; omega⟩ ⟨(y 1).val % 128, by omega⟩

theorem qld (x : Vec Ideal S512x1024 .bf16) (o : ℕ) (inb : ∀ a : Fin 2, ![0, o] a + S512x128.size a ≤ S512x1024.size a) (r : Fin 512) (e : Fin 128) (l : Fin 1024) (hl : l.val = o + e.val) :
    View.ld x (Rect.unit (s := S512x1024) ![0, o] S512x128.size inb) (ix2 r e) = x (ix2 r l) := by
  show x _ = x _
  congr 1
  funext a
  apply Fin.ext
  match a with
  | ⟨0, _⟩ => show 0 + 1 * r.val = r.val; omega
  | ⟨1, _⟩ => show o + 1 * e.val = l.val; omega

/-- A piece of the block is a head's columns. -/
theorem qpiece (x : Vec Ideal S512x1024 .bf16) (x2 : Vec Ideal S512x1 .i32) (x3 x4 : Vec Ideal S1x128 .f32) (h : Fin 8) (o : ℕ) (ho : o = 128 * h.val)
    (inb : ∀ a : Fin 2, ![0, o] a + S512x128.size a ≤ S512x1024.size a) (j : S512x128.Idx) :
    k0_pay1 (F := Ideal) (k0_pay5 x2 x3) (k0_pay6 x2 x3 x4) (View.ld x (Rect.unit (s := S512x1024) ![0, o] S512x128.size inb)) j
      = qblkG x x2 x3 x4 ((Rect.unit (s := S512x1024) ![0, o] S512x128.size inb).emb j) := by
  have h1 : (j 1).val < 128 := (j 1).isLt
  have e1 : (((Rect.unit (s := S512x1024) ![0, o] S512x128.size inb).emb j) 1).val = o + 1 * (j 1).val := rfl
  have e0 : (((Rect.unit (s := S512x1024) ![0, o] S512x128.size inb).emb j) 0) = j 0 := Fin.ext (by show 0 + 1 * (j 0).val = (j 0).val; omega)
  have l : k0_pay1 (F := Ideal) (k0_pay5 x2 x3) (k0_pay6 x2 x3 x4) (View.ld x (Rect.unit (s := S512x1024) ![0, o] S512x128.size inb)) j = qblk x x2 x3 x4 (j 0) h (j 1) := by
    refine (congrArg _ (eq_ix2 (n0 := 512) (n1 := 128) j)).trans ((head_apply x2 x3 x4 _ (j 0) (j 1)).trans ?_)
    unfold qblk
    refine congrArg (fun f => turned f _ _ (j 1)) (funext fun l => ?_)
    exact qld x o inb (j 0) l _ (by show 128 * h.val + l.val = o + l.val; omega)
  rw [l]
  unfold qblkG
  congr 1
  · exact e0.symm
  · apply Fin.ext
    show h.val = (((Rect.unit (s := S512x1024) ![0, o] S512x128.size inb).emb j) 1).val / 128
    rw [e1]; omega
  · apply Fin.ext
    show (j 1).val = (((Rect.unit (s := S512x1024) ![0, o] S512x128.size inb).emb j) 1).val % 128
    rw [e1]; omega

theorem qmem (o : ℕ) (inb : ∀ a : Fin 2, ![0, o] a + S512x128.size a ≤ S512x1024.size a) (y : S512x1024.Idx) (h : o ≤ (y 1).val ∧ (y 1).val < o + 128) :
    y ∈ (Rect.unit (s := S512x1024) ![0, o] S512x128.size inb).set := by
  have h0 : (y 0).val < 512 := (y 0).isLt
  rw [Rect.mem_set_unit]
  intro a
  match a with
  | ⟨0, _⟩ => show 0 ≤ (y 0).val ∧ (y 0).val < 0 + 512; omega
  | ⟨1, _⟩ => exact h

theorem qpieces_apply (x : Vec Ideal S512x1024 .bf16) (x2 : Vec Ideal S512x1 .i32) (x3 x4 : Vec Ideal S1x128 .f32) (y : S512x1024.Idx) :
    View.canon (qpieces (F := Ideal) x x2 x3 x4) y
      = qblk x x2 x3 x4 (y 0) ⟨(y 1).val / 128, by have : (y 1).val < 1024 := (y 1).isLt; omega⟩ ⟨(y 1).val % 128, by omega⟩ := by
  refine View.canon_apply_of_pieces (qblkG x x2 x3 x4) _ ?_ y ?_
  · intro p hp
    unfold qpieces at hp
    simp only [List.mem_cons, List.mem_nil_iff, or_false] at hp
    rcases hp with rfl | rfl | rfl | rfl | rfl | rfl | rfl | rfl
    · exact fun j => qpiece x x2 x3 x4 7 896 rfl inb_S512x1024_S512x128_0_896 j
    · exact fun j => qpiece x x2 x3 x4 6 768 rfl inb_S512x1024_S512x128_0_768 j
    · exact fun j => qpiece x x2 x3 x4 5 640 rfl inb_S512x1024_S512x128_0_640 j
    · exact fun j => qpiece x x2 x3 x4 4 512 rfl inb_S512x1024_S512x128_0_512 j
    · exact fun j => qpiece x x2 x3 x4 3 384 rfl inb_S512x1024_S512x128_0_384 j
    · exact fun j => qpiece x x2 x3 x4 2 256 rfl inb_S512x1024_S512x128_0_256 j
    · exact fun j => qpiece x x2 x3 x4 1 128 rfl inb_S512x1024_S512x128_0_128 j
    · exact fun j => qpiece x x2 x3 x4 0 0 rfl inb_S512x1024_S512x128_0_0 j
  · have h1 : (y 1).val < 1024 := (y 1).isLt
    have hd : 896 ≤ (y 1).val ∧ (y 1).val < 896 + 128 ∨ 768 ≤ (y 1).val ∧ (y 1).val < 768 + 128 ∨ 640 ≤ (y 1).val ∧ (y 1).val < 640 + 128 ∨ 512 ≤ (y 1).val ∧ (y 1).val < 512 + 128 ∨ 384 ≤ (y 1).val ∧ (y 1).val < 384 + 128 ∨ 256 ≤ (y 1).val ∧ (y 1).val < 256 + 128 ∨ 128 ≤ (y 1).val ∧ (y 1).val < 128 + 128 ∨ 0 ≤ (y 1).val ∧ (y 1).val < 0 + 128 := by omega
    unfold qpieces
    simp only [List.mem_cons, List.mem_nil_iff, or_false, exists_eq_or_imp, exists_eq_left]
    rcases hd with h | h | h | h | h | h | h | h
    · exact Or.inl (qmem _ _ y h)
    · exact Or.inr (Or.inl (qmem _ _ y h))
    · exact Or.inr (Or.inr (Or.inl (qmem _ _ y h)))
    · exact Or.inr (Or.inr (Or.inr (Or.inl (qmem _ _ y h))))
    · exact Or.inr (Or.inr (Or.inr (Or.inr (Or.inl (qmem _ _ y h)))))
    · exact Or.inr (Or.inr (Or.inr (Or.inr (Or.inr (Or.inl (qmem _ _ y h))))))
    · exact Or.inr (Or.inr (Or.inr (Or.inr (Or.inr (Or.inr (Or.inl (qmem _ _ y h)))))))
    · exact Or.inr (Or.inr (Or.inr (Or.inr (Or.inr (Or.inr (Or.inr (qmem _ _ y h)))))))

section
variable {F : FTy → Type} [FloatOps F]

/-- The keys' output block's pieces as the body stores them, the last head's first. -/
def kpieces (x : Vec F S512x256 .bf16) (x2 : Vec F S512x1 .i32) (x3 x4 : Vec F S1x128 .f32) : List (View.Piece (Elt F) S512x256 .bf16) :=
  [⟨Rect.unit (s := S512x256) ![0, 128] S512x128.size inb_S512x256_S512x128_0_128, k0_pay1 (k0_pay5 x2 x3) (k0_pay6 x2 x3 x4) (View.ld x (Rect.unit (s := S512x256) ![0, 128] S512x128.size inb_S512x256_S512x128_0_128))⟩,
    ⟨Rect.unit (s := S512x256) ![0, 0] S512x128.size inb_S512x256_S512x128_0_0, k0_pay1 (k0_pay5 x2 x3) (k0_pay6 x2 x3 x4) (View.ld x (Rect.unit (s := S512x256) ![0, 0] S512x128.size inb_S512x256_S512x128_0_0))⟩]

theorem out6_eq (c : Dev nD) (i : grid0.Coords) (arg1 : Memref sig .tc .vmem S512x1024 .bf16) (harg1 : arg1.IsWhole) (arg2 : Memref sig .tc .vmem S512x256 .bf16) (harg2 : arg2.IsWhole) (arg3 : Memref sig .tc .vmem S512x1 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S512x1024 .bf16) (harg6 : arg6.IsWhole) (arg7 : Memref sig .tc .vmem S512x256 .bf16) (harg7 : arg7.IsWhole)
    (x0 : Vec F S512x1024 .bf16) (x1 : Vec F S512x256 .bf16) (x2 : Vec F S512x1 .i32) (x3 : Vec F S1x128 .f32) (x4 : Vec F S1x128 .f32) :
    out0_A_6 c i arg1 harg1 arg2 harg2 arg3 harg3 arg4 harg4 arg5 harg5 arg6 harg6 arg7 harg7 x0 x1 x2 x3 x4 = View.canon (kpieces x1 x2 x3 x4) := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  sl_unfold_words
  simp only [View.readAt_eq_ld, harg1.read_unread, harg2.read_unread, harg3.read_unread, harg4.read_unread, harg5.read_unread, View.ld_unit_zero (S := S512x1) hz, View.ld_unit_zero (S := S1x128) hz]
  rfl

end

/-- The keys' output block: each head's columns turned. -/
def kblk (x : Vec Ideal S512x256 .bf16) (x2 : Vec Ideal S512x1 .i32) (x3 x4 : Vec Ideal S1x128 .f32) (r : Fin 512) (h : Fin 2) (e : Fin 128) : EReal :=
  turned (fun l => x (ix2 r ⟨128 * h.val + l.val, by omega⟩)) (angle (x2 (ix2 r 0)) (x3 (ix2 0 e))) (x4 (ix2 0 e)) e

/-- The block as one vector. -/
def kblkG (x : Vec Ideal S512x256 .bf16) (x2 : Vec Ideal S512x1 .i32) (x3 x4 : Vec Ideal S1x128 .f32) : Vec Ideal S512x256 .bf16 := fun y =>
  kblk x x2 x3 x4 (y 0) ⟨(y 1).val / 128, by have : (y 1).val < 256 := (y 1).isLt; omega⟩ ⟨(y 1).val % 128, by omega⟩

theorem kld (x : Vec Ideal S512x256 .bf16) (o : ℕ) (inb : ∀ a : Fin 2, ![0, o] a + S512x128.size a ≤ S512x256.size a) (r : Fin 512) (e : Fin 128) (l : Fin 256) (hl : l.val = o + e.val) :
    View.ld x (Rect.unit (s := S512x256) ![0, o] S512x128.size inb) (ix2 r e) = x (ix2 r l) := by
  show x _ = x _
  congr 1
  funext a
  apply Fin.ext
  match a with
  | ⟨0, _⟩ => show 0 + 1 * r.val = r.val; omega
  | ⟨1, _⟩ => show o + 1 * e.val = l.val; omega

/-- A piece of the block is a head's columns. -/
theorem kpiece (x : Vec Ideal S512x256 .bf16) (x2 : Vec Ideal S512x1 .i32) (x3 x4 : Vec Ideal S1x128 .f32) (h : Fin 2) (o : ℕ) (ho : o = 128 * h.val)
    (inb : ∀ a : Fin 2, ![0, o] a + S512x128.size a ≤ S512x256.size a) (j : S512x128.Idx) :
    k0_pay1 (F := Ideal) (k0_pay5 x2 x3) (k0_pay6 x2 x3 x4) (View.ld x (Rect.unit (s := S512x256) ![0, o] S512x128.size inb)) j
      = kblkG x x2 x3 x4 ((Rect.unit (s := S512x256) ![0, o] S512x128.size inb).emb j) := by
  have h1 : (j 1).val < 128 := (j 1).isLt
  have e1 : (((Rect.unit (s := S512x256) ![0, o] S512x128.size inb).emb j) 1).val = o + 1 * (j 1).val := rfl
  have e0 : (((Rect.unit (s := S512x256) ![0, o] S512x128.size inb).emb j) 0) = j 0 := Fin.ext (by show 0 + 1 * (j 0).val = (j 0).val; omega)
  have l : k0_pay1 (F := Ideal) (k0_pay5 x2 x3) (k0_pay6 x2 x3 x4) (View.ld x (Rect.unit (s := S512x256) ![0, o] S512x128.size inb)) j = kblk x x2 x3 x4 (j 0) h (j 1) := by
    refine (congrArg _ (eq_ix2 (n0 := 512) (n1 := 128) j)).trans ((head_apply x2 x3 x4 _ (j 0) (j 1)).trans ?_)
    unfold kblk
    refine congrArg (fun f => turned f _ _ (j 1)) (funext fun l => ?_)
    exact kld x o inb (j 0) l _ (by show 128 * h.val + l.val = o + l.val; omega)
  rw [l]
  unfold kblkG
  congr 1
  · exact e0.symm
  · apply Fin.ext
    show h.val = (((Rect.unit (s := S512x256) ![0, o] S512x128.size inb).emb j) 1).val / 128
    rw [e1]; omega
  · apply Fin.ext
    show (j 1).val = (((Rect.unit (s := S512x256) ![0, o] S512x128.size inb).emb j) 1).val % 128
    rw [e1]; omega

theorem kmem (o : ℕ) (inb : ∀ a : Fin 2, ![0, o] a + S512x128.size a ≤ S512x256.size a) (y : S512x256.Idx) (h : o ≤ (y 1).val ∧ (y 1).val < o + 128) :
    y ∈ (Rect.unit (s := S512x256) ![0, o] S512x128.size inb).set := by
  have h0 : (y 0).val < 512 := (y 0).isLt
  rw [Rect.mem_set_unit]
  intro a
  match a with
  | ⟨0, _⟩ => show 0 ≤ (y 0).val ∧ (y 0).val < 0 + 512; omega
  | ⟨1, _⟩ => exact h

theorem kpieces_apply (x : Vec Ideal S512x256 .bf16) (x2 : Vec Ideal S512x1 .i32) (x3 x4 : Vec Ideal S1x128 .f32) (y : S512x256.Idx) :
    View.canon (kpieces (F := Ideal) x x2 x3 x4) y
      = kblk x x2 x3 x4 (y 0) ⟨(y 1).val / 128, by have : (y 1).val < 256 := (y 1).isLt; omega⟩ ⟨(y 1).val % 128, by omega⟩ := by
  refine View.canon_apply_of_pieces (kblkG x x2 x3 x4) _ ?_ y ?_
  · intro p hp
    unfold kpieces at hp
    simp only [List.mem_cons, List.mem_nil_iff, or_false] at hp
    rcases hp with rfl | rfl
    · exact fun j => kpiece x x2 x3 x4 1 128 rfl inb_S512x256_S512x128_0_128 j
    · exact fun j => kpiece x x2 x3 x4 0 0 rfl inb_S512x256_S512x128_0_0 j
  · have h1 : (y 1).val < 256 := (y 1).isLt
    have hd : 128 ≤ (y 1).val ∧ (y 1).val < 128 + 128 ∨ 0 ≤ (y 1).val ∧ (y 1).val < 0 + 128 := by omega
    unfold kpieces
    simp only [List.mem_cons, List.mem_nil_iff, or_false, exists_eq_or_imp, exists_eq_left]
    rcases hd with h | h
    · exact Or.inl (kmem _ _ y h)
    · exact Or.inr (kmem _ _ y h)

variable (m : (ℓ : Loc nD τ sig) → Buf (Elt Ideal) ℓ)

/-- The block indices of the windows, in closed form. -/
theorem idx0 : ∀ t : Fin cfg0.N, (win0_0.index t (0 : Fin 2) = t.val ∧ win0_0.index t (1 : Fin 2) = 5)
    ∧ (win0_1.index t (0 : Fin 2) = t.val ∧ win0_1.index t (1 : Fin 2) = 24)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem one_bits : (Ideal.ofBits .f32 0x3F800000#32 : EReal) = 1 := by
  simp [Ideal.ofBits, Ideal.ieee, -EReal.coe_mul]; norm_num

/-- The position of a row. -/
def posAt (p : Vec Ideal S2x4096 .i32) (R : Fin 8192) : BitVec 32 := p (ix2 ⟨R.val / 4096, by omega⟩ ⟨R.val % 4096, by omega⟩)

/-- The positions as a column, as the call finds them. -/
theorem V0 (c : Dev nD) (j : S8192x1.Idx) : V m c main_v0 j = posAt (m ((c : Thread nD τ).loc main_arg1)) (j 0) := by
  have e : V m c main_v0 = shapeCast S8192x1 (m ((c : Thread nD τ).loc main_arg1)) shapeCasts_S2x4096_S8192x1 := by
    show StableHlo.after hostOps0 _ (Proc.devRef .tc main_v0) = _
    simp only [hostOps0]
    after_results
    rfl
  rw [e]
  have j0 : (j 0).val < 8192 := (j 0).isLt
  have j1 : (j 1).val < 1 := (j 1).isLt
  refine shapeCast_apply _ _ j (ix2 (⟨(j 0).val / 4096, by omega⟩ : Fin 2) (⟨(j 0).val % 4096, by omega⟩ : Fin 4096)) ?_
  refine (Shape.rowMajor_val_two _).trans (Eq.trans ?_ (Shape.rowMajor_val_two _).symm)
  show (j 0).val / 4096 * 4096 + (j 0).val % 4096 = (j 0).val * 1 + (j 1).val
  omega

/-- A vector of 128 lanes as one row. -/
theorem row_apply (x : Vec Ideal S128 .f32) (j : S1x128.Idx) : shapeCast S1x128 x shapeCasts_S128_S1x128 j = x (ix1 (j 1)) := by
  refine shapeCast_apply _ _ j (ix1 (j 1)) ?_
  refine (Shape.rowMajor_val_one _).trans (Eq.trans ?_ (Shape.rowMajor_val_two _).symm)
  have j0 : (j 0).val < 1 := (j 0).isLt
  show (j 1).val = (j 0).val * 128 + (j 1).val
  omega

/-- Two halves of the lanes, joined. -/
theorem join_apply (x y : Vec Ideal S64 .f32) (e : Fin 128) :
    (concatenate S128 0 [⟨S64, x⟩, ⟨S64, y⟩] concatenates_S64_S64_S128_d0 : Vec Ideal S128 .f32) (ix1 e)
      = if e.val < 64 then x (ix1 (lower e)) else y (ix1 (lower e)) := by
  have he : e.val < 128 := e.isLt
  by_cases hlt : e.val < 64
  · rw [if_pos hlt]
    refine concatenate_pair_apply_left (s₁ := S64) (s₂ := S64) (t := S128) (0 : Fin 1) _ _ _ (ix1 e) rfl (ix1 (lower e)) (fun a => ?_)
    match a with | ⟨0, _⟩ => show e.val % 64 = e.val; omega
  · rw [if_neg hlt]
    refine concatenate_pair_apply_right (s₁ := S64) (s₂ := S64) (t := S128) (0 : Fin 1) _ _ _ (ix1 e) rfl rfl (ix1 (lower e)) (fun a ha => ?_) ?_
    · match a with | ⟨0, _⟩ => exact absurd rfl ha
    · show e.val % 64 + 64 = e.val; omega

/-- The frequencies by lane, as the call finds them. -/
theorem V8 (c : Dev nD) (j : S1x128.Idx) : V m c main_v8 j = freq (lower (j 1)) := by
  have e : V m c main_v8 = shapeCast S1x128 (concatenate S128 0 [⟨S64, Cert.RopeRefIdeal.Read.val_main_v19 (F := Ideal)⟩, ⟨S64, Cert.RopeRefIdeal.Read.val_main_v19 (F := Ideal)⟩] concatenates_S64_S64_S128_d0) shapeCasts_S128_S1x128 := by
    show StableHlo.after hostOps0 _ (Proc.devRef .tc main_v8) = _
    simp only [hostOps0]
    after_results
    rfl
  rw [e]
  refine (row_apply _ j).trans ((join_apply _ _ (j 1)).trans ?_)
  rw [ite_self]
  rfl

/-- The signs by lane, as the call finds them. -/
theorem V13 (c : Dev nD) (j : S1x128.Idx) : V m c main_v13 j = sign (j 1) := by
  have e : V m c main_v13 = shapeCast S1x128 (concatenate S128 0 [⟨S64, fun _ => (-(Ideal.ofBits .f32 0x3F800000#32 : EReal) : EReal)⟩, ⟨S64, fun _ => (Ideal.ofBits .f32 0x3F800000#32 : EReal)⟩] concatenates_S64_S64_S128_d0) shapeCasts_S128_S1x128 := by
    show StableHlo.after hostOps0 _ (Proc.devRef .tc main_v13) = _
    simp only [hostOps0]
    after_results
    rfl
  rw [e]
  refine (row_apply _ j).trans ((join_apply _ _ (j 1)).trans ?_)
  rw [one_bits]
  rfl

theorem iblk2 (c : Dev nD) (t : Fin cfg0.N) (j : S512x1.Idx) (R : Fin 8192) (h0 : R.val = 512 * t.val + (j 0).val) :
    (iblk m c 2 t : Vec Ideal S512x1 .i32) j = posAt (m ((c : Thread nD τ).loc main_arg1)) R := by
  obtain ⟨-, -, ⟨e0, e1⟩, -, -, -, -⟩ := idx0 t
  unfold iblk
  rw [View.read_apply]
  show V m c main_v0 _ = _
  refine (V0 m c _).trans (congrArg _ (Fin.ext ?_))
  show win0_2.index t 0 * 512 + 1 * (j 0).val = R.val
  rw [e0, h0]; omega

theorem iblk3 (c : Dev nD) (t : Fin cfg0.N) (j : S1x128.Idx) :
    (iblk m c 3 t : Vec Ideal S1x128 .f32) j = freq (lower (j 1)) := by
  obtain ⟨-, -, -, ⟨e0, e1⟩, -, -, -⟩ := idx0 t
  unfold iblk
  rw [View.read_apply]
  show V m c main_v8 _ = _
  refine (V8 m c _).trans (congrArg (fun e => freq (lower e)) (Fin.ext ?_))
  show win0_3.index t 1 * 128 + 1 * (j 1).val = (j 1).val
  rw [e1]; omega

theorem iblk4 (c : Dev nD) (t : Fin cfg0.N) (j : S1x128.Idx) :
    (iblk m c 4 t : Vec Ideal S1x128 .f32) j = sign (j 1) := by
  obtain ⟨-, -, -, -, ⟨e0, e1⟩, -, -⟩ := idx0 t
  unfold iblk
  rw [View.read_apply]
  show V m c main_v13 _ = _
  refine (V13 m c _).trans (congrArg sign (Fin.ext ?_))
  show win0_4.index t 1 * 128 + 1 * (j 1).val = (j 1).val
  rw [e1]; omega

/-- The queries' entry at a row, a head and a lane: the head's lanes turned by the row's position. -/
def qentry (x : Vec Ideal S8192x10752 .bf16) (p : Vec Ideal S2x4096 .i32) (R : Fin 8192) (h : Fin 8) (e : Fin 128) : EReal :=
  turned (fun l => x (ix2 R ⟨5120 + 128 * h.val + l.val, by omega⟩)) (angle (posAt p R) (freq (lower e))) (sign e) e

theorem qin (c : Dev nD) (t : Fin cfg0.N) (j : S512x1024.Idx) (J : S8192x10752.Idx)
    (h0 : (J 0).val = 512 * t.val + (j 0).val) (h1 : (J 1).val = 5120 + (j 1).val) :
    (X0_0 m c t : Vec Ideal S512x1024 .bf16) j = m ((c : Thread nD τ).loc main_arg0) J := by
  obtain ⟨⟨a0, a1⟩, ⟨b0, b1⟩, -, -, -, -, -⟩ := idx0 t
  unfold X0_0 Pipeline.Window.fill
  rw [dif_pos (moved0_0 t j)]
  unfold iblk
  rw [View.read_apply]
  show V m c main_arg0 _ = m (c.tc.loc main_arg0) _
  refine (congrFun (V_main_arg0 m c) _).trans ?_
  congr 1
  funext a
  apply Fin.ext
  match a with
  | ⟨0, _⟩ => show win0_0.index t 0 * 512 + 1 * (j 0).val = (J 0).val; rw [a0, h0]; omega
  | ⟨1, _⟩ => show win0_0.index t 1 * 1024 + 1 * (j 1).val = (J 1).val; rw [a1, h1]; omega

/-- The block a point leaves of the queries. -/
theorem qblock (c : Dev nD) (t : Fin cfg0.N) (r : Fin 512) (k : Fin 1024) (R : Fin 8192) (hR : R.val = 512 * t.val + r.val) :
    (outsAt0 m c t).1 (ix2 r k)
      = qentry (m ((c : Thread nD τ).loc main_arg0)) (m ((c : Thread nD τ).loc main_arg1)) R ⟨k.val / 128, by omega⟩ ⟨k.val % 128, by omega⟩ := by
  unfold outsAt0
  dsimp only
  rw [out5_eq]
  refine (qpieces_apply _ _ _ _ (ix2 r k)).trans ?_
  show qblk _ _ _ _ r ⟨k.val / 128, _⟩ ⟨k.val % 128, _⟩ = _
  unfold qblk qentry
  refine turned_congr (fun l => ?_) (congrArg₂ angle ?_ ?_) ?_
  · exact qin m c t _ _ (by show R.val = _; exact hR) (by show 5120 + 128 * (k.val / 128) + l.val = 5120 + (128 * (k.val / 128) + l.val); omega)
  · exact iblk2 m c t _ R hR
  · exact iblk3 m c t _
  · exact iblk4 m c t _

/-- What the queries' array ends holding. -/
def qG (c : Dev nD) : Vec Ideal S8192x1024 .bf16 := fun I =>
  qentry (m ((c : Thread nD τ).loc main_arg0)) (m ((c : Thread nD τ).loc main_arg1)) (I 0) ⟨(I 1).val / 128, by have : (I 1).val < 1024 := (I 1).isLt; omega⟩ ⟨(I 1).val % 128, by omega⟩

theorem qresult (c : Dev nD) : (dats m 0 c).arrAt 5 cfg0.N = qG m c := by
  refine (dats m 0 c).arrAt_eq_of_covers 5 (qG m c) (by decide +kernel) fun t hf y => ?_
  obtain ⟨-, -, -, -, -, ⟨a0, a1⟩, ⟨b0, b1⟩⟩ := idx0 t
  have hy : (y 0).val < 512 := (y 0).isLt
  have ht : t.val < 16 := lt_of_lt_of_eq t.isLt N_0
  blk_simp
  rw [after0_5]
  refine (congrArg _ (eq_ix2 (n0 := 512) (n1 := 1024) y)).trans ((qblock m c t (y 0) (y 1) ⟨512 * t.val + (y 0).val, by omega⟩ rfl).trans ?_)
  unfold qG
  refine congr (congrArg₂ (qentry (m ((c : Thread nD τ).loc main_arg0)) (m ((c : Thread nD τ).loc main_arg1))) (Fin.ext ?_) (Fin.ext ?_)) (Fin.ext ?_)
  · show 512 * t.val + (y 0).val = win0_5.index t 0 * 512 + 1 * (y 0).val
    rw [a0]; omega
  · show (y 1).val / 128 = (win0_5.index t 1 * 1024 + 1 * (y 1).val) / 128
    rw [a1]; congr 1; omega
  · show (y 1).val % 128 = (win0_5.index t 1 * 1024 + 1 * (y 1).val) % 128
    rw [a1]; congr 1; omega

/-- The keys' entry at a row, a head and a lane: the head's lanes turned by the row's position. -/
def kentry (x : Vec Ideal S8192x10752 .bf16) (p : Vec Ideal S2x4096 .i32) (R : Fin 8192) (h : Fin 2) (e : Fin 128) : EReal :=
  turned (fun l => x (ix2 R ⟨6144 + 128 * h.val + l.val, by omega⟩)) (angle (posAt p R) (freq (lower e))) (sign e) e

theorem kin (c : Dev nD) (t : Fin cfg0.N) (j : S512x256.Idx) (J : S8192x10752.Idx)
    (h0 : (J 0).val = 512 * t.val + (j 0).val) (h1 : (J 1).val = 6144 + (j 1).val) :
    (iblk m c 1 t : Vec Ideal S512x256 .bf16) j = m ((c : Thread nD τ).loc main_arg0) J := by
  obtain ⟨⟨a0, a1⟩, ⟨b0, b1⟩, -, -, -, -, -⟩ := idx0 t
  unfold iblk
  rw [View.read_apply]
  show V m c main_arg0 _ = m (c.tc.loc main_arg0) _
  refine (congrFun (V_main_arg0 m c) _).trans ?_
  congr 1
  funext a
  apply Fin.ext
  match a with
  | ⟨0, _⟩ => show win0_1.index t 0 * 512 + 1 * (j 0).val = (J 0).val; rw [b0, h0]; omega
  | ⟨1, _⟩ => show win0_1.index t 1 * 256 + 1 * (j 1).val = (J 1).val; rw [b1, h1]; omega

/-- The block a point leaves of the keys. -/
theorem kblock (c : Dev nD) (t : Fin cfg0.N) (r : Fin 512) (k : Fin 256) (R : Fin 8192) (hR : R.val = 512 * t.val + r.val) :
    (outsAt0 m c t).2 (ix2 r k)
      = kentry (m ((c : Thread nD τ).loc main_arg0)) (m ((c : Thread nD τ).loc main_arg1)) R ⟨k.val / 128, by omega⟩ ⟨k.val % 128, by omega⟩ := by
  unfold outsAt0
  dsimp only
  rw [out6_eq]
  refine (kpieces_apply _ _ _ _ (ix2 r k)).trans ?_
  show kblk _ _ _ _ r ⟨k.val / 128, _⟩ ⟨k.val % 128, _⟩ = _
  unfold kblk kentry
  refine turned_congr (fun l => ?_) (congrArg₂ angle ?_ ?_) ?_
  · exact kin m c t _ _ (by show R.val = _; exact hR) (by show 6144 + 128 * (k.val / 128) + l.val = 6144 + (128 * (k.val / 128) + l.val); omega)
  · exact iblk2 m c t _ R hR
  · exact iblk3 m c t _
  · exact iblk4 m c t _

/-- What the keys' array ends holding. -/
def kG (c : Dev nD) : Vec Ideal S8192x256 .bf16 := fun I =>
  kentry (m ((c : Thread nD τ).loc main_arg0)) (m ((c : Thread nD τ).loc main_arg1)) (I 0) ⟨(I 1).val / 128, by have : (I 1).val < 256 := (I 1).isLt; omega⟩ ⟨(I 1).val % 128, by omega⟩

theorem kresult (c : Dev nD) : (dats m 0 c).arrAt 6 cfg0.N = kG m c := by
  refine (dats m 0 c).arrAt_eq_of_covers 6 (kG m c) (by decide +kernel) fun t hf y => ?_
  obtain ⟨-, -, -, -, -, ⟨a0, a1⟩, ⟨b0, b1⟩⟩ := idx0 t
  have hy : (y 0).val < 512 := (y 0).isLt
  have ht : t.val < 16 := lt_of_lt_of_eq t.isLt N_0
  blk_simp
  rw [after0_6]
  refine (congrArg _ (eq_ix2 (n0 := 512) (n1 := 256) y)).trans ((kblock m c t (y 0) (y 1) ⟨512 * t.val + (y 0).val, by omega⟩ rfl).trans ?_)
  unfold kG
  refine congr (congrArg₂ (kentry (m ((c : Thread nD τ).loc main_arg0)) (m ((c : Thread nD τ).loc main_arg1))) (Fin.ext ?_) (Fin.ext ?_)) (Fin.ext ?_)
  · show 512 * t.val + (y 0).val = win0_6.index t 0 * 512 + 1 * (y 0).val
    rw [b0]; omega
  · show (y 1).val / 128 = (win0_6.index t 1 * 256 + 1 * (y 1).val) / 128
    rw [b1]; congr 1; omega
  · show (y 1).val % 128 = (win0_6.index t 1 * 256 + 1 * (y 1).val) % 128
    rw [b1]; congr 1; omega

end Cert.RopeIdeal.Val

namespace Cert.RopeRefIdeal.Val

open Cert.RopeRefIdeal Cert.RopeRefIdeal.Read Idealize.ShloMosaic
open Cert.RopeIdeal.Val (turned turned_congr angle freq lower other sign qentry kentry)

/-- The row of a batch's position. -/
def rowOf (b : Fin 2) (s : Fin 4096) : Fin 8192 := ⟨b.val * 4096 + s.val, by omega⟩

theorem turned_lower (x : Fin 128 → EReal) (a : EReal) (e : Fin 128) (h : e.val < 64) (v : EReal) (hv : x (other e) = v) :
    turned x a (sign e) e = x e * Ideal.cos a - v * Ideal.sin a := by
  unfold turned sign
  rw [if_pos h, hv, mul_neg, mul_neg, mul_one, sub_eq_add_neg]

theorem turned_upper (x : Fin 128 → EReal) (a : EReal) (e : Fin 128) (h : ¬ e.val < 64) (v w : EReal) (hv : x (other e) = v) (hw : x e = w) :
    turned x a (sign e) e = v * Ideal.sin a + w * Ideal.cos a := by
  unfold turned sign
  rw [if_neg h, hv, hw, mul_one, add_comm]

/-- The queries by batch, head, position and lane. -/
theorem qread (x : Vec Ideal S8192x10752 .bf16) (b : Fin 2) (h : Fin 8) (s : Fin 4096) (e : Fin 128) :
    val_main_v13 (F := Ideal) x (ix4 b h s e) = x (ix2 (rowOf b s) ⟨5120 + 128 * h.val + e.val, by omega⟩) := by
  rw [val_main_v13_apply, val_main_v12_apply, val_main_v7_apply, val_main_v1_apply, val_main_v0_apply]
  show x _ = x _
  congr 1
  have n0 : (((b.val * 4096 + s.val) * 8 + h.val) * 128 + e.val) / 4194304 = b.val := by omega
  have n1 : (((b.val * 4096 + s.val) * 8 + h.val) * 128 + e.val) / 1024 % 4096 = s.val := by omega
  have n2 : (((b.val * 4096 + s.val) * 8 + h.val) * 128 + e.val) % 1024 = h.val * 128 + e.val := by omega
  funext a
  apply Fin.ext
  match a with
  | ⟨0, _⟩ =>
    show (((((b.val * 4096 + s.val) * 8 + h.val) * 128 + e.val) / 4194304 * 4096 + (((b.val * 4096 + s.val) * 8 + h.val) * 128 + e.val) / 1024 % 4096) * 10752
      + (5120 + (((b.val * 4096 + s.val) * 8 + h.val) * 128 + e.val) % 1024)) / 10752 = b.val * 4096 + s.val
    rw [n0, n1, n2]; omega
  | ⟨1, _⟩ =>
    show (((((b.val * 4096 + s.val) * 8 + h.val) * 128 + e.val) / 4194304 * 4096 + (((b.val * 4096 + s.val) * 8 + h.val) * 128 + e.val) / 1024 % 4096) * 10752
      + (5120 + (((b.val * 4096 + s.val) * 8 + h.val) * 128 + e.val) % 1024)) % 10752 = 5120 + 128 * h.val + e.val
    rw [n0, n1, n2]; omega

theorem qangle (p : Vec Ideal S2x4096 .i32) (b : Fin 2) (s : Fin 4096) (f : Fin 64) :
    val_main_v25 (F := Ideal) p (ix4 b (0 : Fin 1) s f) = angle (p (ix2 b s)) (freq f) := by
  rw [val_main_v25_apply, val_main_v23_apply, val_main_v21_apply, val_main_v20_apply, val_main_v24_apply, val_main_v22_apply]
  unfold angle freq
  refine congrArg₂ (fun a b : EReal => a * b) (congrArg _ (congrArg p ?_)) ?_
  · funext a; match a with | ⟨0, _⟩ => rfl | ⟨1, _⟩ => rfl
  · show val_main_v19 (F := Ideal) _ = val_main_v19 (F := Ideal) _
    refine (congrArg (val_main_v19 (F := Ideal)) (?_ : _ = ix1 f)).trans ?_
    · funext a; match a with | ⟨0, _⟩ => rfl
    · rfl

theorem qcos1 (p : Vec Ideal S2x4096 .i32) (b : Fin 2) (h : Fin 8) (s : Fin 4096) (f : Fin 64) :
    val_main_v30 (F := Ideal) p (ix4 b h s f) = Ideal.cos (angle (p (ix2 b s)) (freq f)) := by
  rw [val_main_v30_apply, val_main_v26_apply, ← qangle p b s f]
  refine congrArg (fun i => Ideal.cos (val_main_v25 (F := Ideal) p i)) ?_
  funext a; match a with | ⟨0, _⟩ => rfl | ⟨1, _⟩ => rfl | ⟨2, _⟩ => rfl | ⟨3, _⟩ => rfl

theorem qcos2 (p : Vec Ideal S2x4096 .i32) (b : Fin 2) (h : Fin 8) (s : Fin 4096) (f : Fin 64) :
    val_main_v37 (F := Ideal) p (ix4 b h s f) = Ideal.cos (angle (p (ix2 b s)) (freq f)) := qcos1 p b h s f

theorem qsin1 (p : Vec Ideal S2x4096 .i32) (b : Fin 2) (h : Fin 8) (s : Fin 4096) (f : Fin 64) :
    val_main_v32 (F := Ideal) p (ix4 b h s f) = Ideal.sin (angle (p (ix2 b s)) (freq f)) := by
  rw [val_main_v32_apply, val_main_v27_apply, ← qangle p b s f]
  refine congrArg (fun i => Ideal.sin (val_main_v25 (F := Ideal) p i)) ?_
  funext a; match a with | ⟨0, _⟩ => rfl | ⟨1, _⟩ => rfl | ⟨2, _⟩ => rfl | ⟨3, _⟩ => rfl

theorem qsin2 (p : Vec Ideal S2x4096 .i32) (b : Fin 2) (h : Fin 8) (s : Fin 4096) (f : Fin 64) :
    val_main_v35 (F := Ideal) p (ix4 b h s f) = Ideal.sin (angle (p (ix2 b s)) (freq f)) := qsin1 p b h s f

theorem qlo (x : Vec Ideal S8192x10752 .bf16) (b : Fin 2) (h : Fin 8) (s : Fin 4096) (f : Fin 64) :
    val_main_v28 (F := Ideal) x (ix4 b h s f) = x (ix2 (rowOf b s) ⟨5120 + 128 * h.val + f.val, by omega⟩) := by
  rw [val_main_v28_apply, ← qread x b h s ⟨f.val, by omega⟩]
  congr 1
  funext a; match a with | ⟨0, _⟩ => rfl | ⟨1, _⟩ => rfl | ⟨2, _⟩ => rfl | ⟨3, _⟩ => rfl

theorem qhi (x : Vec Ideal S8192x10752 .bf16) (b : Fin 2) (h : Fin 8) (s : Fin 4096) (f : Fin 64) :
    val_main_v29 (F := Ideal) x (ix4 b h s f) = x (ix2 (rowOf b s) ⟨5120 + 128 * h.val + (64 + f.val), by omega⟩) := by
  rw [val_main_v29_apply, ← qread x b h s ⟨64 + f.val, by omega⟩]
  congr 1
  funext a; match a with | ⟨0, _⟩ => rfl | ⟨1, _⟩ => rfl | ⟨2, _⟩ => rfl | ⟨3, _⟩ => rfl

/-- The two halves of the lanes turned, as the reference writes them, are the turned lanes. -/
theorem qturned (x : Vec Ideal S8192x10752 .bf16) (p : Vec Ideal S2x4096 .i32) (b : Fin 2) (h : Fin 8) (s : Fin 4096) (e : Fin 128) :
    val_main_v40 (F := Ideal) x p (ix4 b h s e)
      = turned (fun l => x (ix2 (rowOf b s) ⟨5120 + 128 * h.val + l.val, by omega⟩)) (angle (p (ix2 b s)) (freq (lower e))) (sign e) e := by
  unfold val_main_v40
  have he : e.val < 128 := e.isLt
  by_cases hlt : e.val < 64
  · have ee : lower e = ⟨e.val, hlt⟩ := Fin.ext (Nat.mod_eq_of_lt hlt)
    refine (concatenate_pair_apply_left (s₁ := S2x8x4096x64) (s₂ := S2x8x4096x64) (t := S2x8x4096x128) (3 : Fin 4) _ _ _ (ix4 b h s e) rfl (ix4 b h s (⟨e.val, hlt⟩ : Fin 64)) (fun a => ?_)).trans ?_
    · match a with | ⟨0, _⟩ => rfl | ⟨1, _⟩ => rfl | ⟨2, _⟩ => rfl | ⟨3, _⟩ => rfl
    rw [val_main_v34_apply, val_main_v31_apply, val_main_v33_apply, qlo, qhi, qcos1, qsin1, ee]
    have oe : other e = ⟨64 + e.val, by omega⟩ := Fin.ext (by show (e.val + 128 - 64) % 128 = 64 + e.val; omega)
    exact (turned_lower (fun l : Fin 128 => x (ix2 (rowOf b s) ⟨5120 + 128 * h.val + l.val, by omega⟩)) _ e hlt _ (congrArg (fun l : Fin 128 => x (ix2 (rowOf b s) ⟨5120 + 128 * h.val + l.val, by omega⟩)) oe)).symm
  · have ee : lower e = ⟨e.val - 64, by omega⟩ := Fin.ext (by show e.val % 64 = e.val - 64; omega)
    refine (concatenate_pair_apply_right (s₁ := S2x8x4096x64) (s₂ := S2x8x4096x64) (t := S2x8x4096x128) (3 : Fin 4) _ _ _ (ix4 b h s e) rfl rfl (ix4 b h s (⟨e.val - 64, by omega⟩ : Fin 64)) (fun a ha => ?_) ?_).trans ?_
    · match a with | ⟨0, _⟩ => rfl | ⟨1, _⟩ => rfl | ⟨2, _⟩ => rfl | ⟨3, _⟩ => exact absurd rfl ha
    · show e.val - 64 + 64 = e.val; omega
    rw [val_main_v39_apply, val_main_v36_apply, val_main_v38_apply, qlo, qhi, qcos2, qsin2, ee]
    have oe : other e = ⟨e.val - 64, by omega⟩ := Fin.ext (by show (e.val + 128 - 64) % 128 = e.val - 64; omega)
    have se : e = ⟨64 + (e.val - 64), by omega⟩ := Fin.ext (by show e.val = 64 + (e.val - 64); omega)
    exact (turned_upper (fun l : Fin 128 => x (ix2 (rowOf b s) ⟨5120 + 128 * h.val + l.val, by omega⟩)) _ e hlt _ _ (congrArg (fun l : Fin 128 => x (ix2 (rowOf b s) ⟨5120 + 128 * h.val + l.val, by omega⟩)) oe)
      (congrArg (fun l : Fin 128 => x (ix2 (rowOf b s) ⟨5120 + 128 * h.val + l.val, by omega⟩)) se)).symm

/-- The reference's queries. -/
theorem qresult (x : Vec Ideal S8192x10752 .bf16) (p : Vec Ideal S2x4096 .i32) :
    val_main_v72 (F := Ideal) x p = fun i : S8192x1024.Idx => qentry x p (i 0) ⟨(i 1).val / 128, by have : (i 1).val < 1024 := (i 1).isLt; omega⟩ ⟨(i 1).val % 128, by omega⟩ := by
  funext i
  have h0 : (i 0).val < 8192 := (i 0).isLt
  have h1 : (i 1).val < 1024 := (i 1).isLt
  rw [val_main_v72_apply, val_main_v71_apply, val_main_v70_apply]
  have e : idx_main_v70 (idx_main_v71 i) = ix4 (⟨(i 0).val / 4096, by omega⟩ : Fin 2) (⟨(i 1).val / 128, by omega⟩ : Fin 8) (⟨(i 0).val % 4096, by omega⟩ : Fin 4096) (⟨(i 1).val % 128, by omega⟩ : Fin 128) := by
    funext a
    apply Fin.ext
    match a with
    | ⟨0, _⟩ => show ((i 0).val * 1024 + (i 1).val) / 4194304 = (i 0).val / 4096; omega
    | ⟨1, _⟩ => show ((i 0).val * 1024 + (i 1).val) / 128 % 8 = (i 1).val / 128; omega
    | ⟨2, _⟩ => show ((i 0).val * 1024 + (i 1).val) / 1024 % 4096 = (i 0).val % 4096; omega
    | ⟨3, _⟩ => show ((i 0).val * 1024 + (i 1).val) % 128 = (i 1).val % 128; omega
  rw [e]
  refine (qturned x p _ _ _ _).trans ?_
  unfold qentry
  refine turned_congr (fun l => ?_) rfl rfl
  have r : rowOf (⟨(i 0).val / 4096, by omega⟩ : Fin 2) (⟨(i 0).val % 4096, by omega⟩ : Fin 4096) = i 0 :=
    Fin.ext (by show (i 0).val / 4096 * 4096 + (i 0).val % 4096 = (i 0).val; omega)
  rw [r]

/-- The keys by batch, head, position and lane. -/
theorem kread (x : Vec Ideal S8192x10752 .bf16) (b : Fin 2) (h : Fin 2) (s : Fin 4096) (e : Fin 128) :
    val_main_v42 (F := Ideal) x (ix4 b h s e) = x (ix2 (rowOf b s) ⟨6144 + 128 * h.val + e.val, by omega⟩) := by
  rw [val_main_v42_apply, val_main_v41_apply, val_main_v8_apply, val_main_v1_apply, val_main_v0_apply]
  show x _ = x _
  congr 1
  have n0 : (((b.val * 4096 + s.val) * 2 + h.val) * 128 + e.val) / 1048576 = b.val := by omega
  have n1 : (((b.val * 4096 + s.val) * 2 + h.val) * 128 + e.val) / 256 % 4096 = s.val := by omega
  have n2 : (((b.val * 4096 + s.val) * 2 + h.val) * 128 + e.val) % 256 = h.val * 128 + e.val := by omega
  funext a
  apply Fin.ext
  match a with
  | ⟨0, _⟩ =>
    show (((((b.val * 4096 + s.val) * 2 + h.val) * 128 + e.val) / 1048576 * 4096 + (((b.val * 4096 + s.val) * 2 + h.val) * 128 + e.val) / 256 % 4096) * 10752
      + (6144 + (((b.val * 4096 + s.val) * 2 + h.val) * 128 + e.val) % 256)) / 10752 = b.val * 4096 + s.val
    rw [n0, n1, n2]; omega
  | ⟨1, _⟩ =>
    show (((((b.val * 4096 + s.val) * 2 + h.val) * 128 + e.val) / 1048576 * 4096 + (((b.val * 4096 + s.val) * 2 + h.val) * 128 + e.val) / 256 % 4096) * 10752
      + (6144 + (((b.val * 4096 + s.val) * 2 + h.val) * 128 + e.val) % 256)) % 10752 = 6144 + 128 * h.val + e.val
    rw [n0, n1, n2]; omega

theorem kangle (p : Vec Ideal S2x4096 .i32) (b : Fin 2) (s : Fin 4096) (f : Fin 64) :
    val_main_v54 (F := Ideal) p (ix4 b (0 : Fin 1) s f) = angle (p (ix2 b s)) (freq f) := by
  rw [val_main_v54_apply, val_main_v52_apply, val_main_v50_apply, val_main_v49_apply, val_main_v53_apply, val_main_v51_apply]
  unfold angle freq
  refine congrArg₂ (fun a b : EReal => a * b) (congrArg _ (congrArg p ?_)) ?_
  · funext a; match a with | ⟨0, _⟩ => rfl | ⟨1, _⟩ => rfl
  · show val_main_v48 (F := Ideal) _ = val_main_v19 (F := Ideal) _
    refine (congrArg (val_main_v48 (F := Ideal)) (?_ : _ = ix1 f)).trans ?_
    · funext a; match a with | ⟨0, _⟩ => rfl
    · rfl

theorem kcos1 (p : Vec Ideal S2x4096 .i32) (b : Fin 2) (h : Fin 2) (s : Fin 4096) (f : Fin 64) :
    val_main_v59 (F := Ideal) p (ix4 b h s f) = Ideal.cos (angle (p (ix2 b s)) (freq f)) := by
  rw [val_main_v59_apply, val_main_v55_apply, ← kangle p b s f]
  refine congrArg (fun i => Ideal.cos (val_main_v54 (F := Ideal) p i)) ?_
  funext a; match a with | ⟨0, _⟩ => rfl | ⟨1, _⟩ => rfl | ⟨2, _⟩ => rfl | ⟨3, _⟩ => rfl

theorem kcos2 (p : Vec Ideal S2x4096 .i32) (b : Fin 2) (h : Fin 2) (s : Fin 4096) (f : Fin 64) :
    val_main_v66 (F := Ideal) p (ix4 b h s f) = Ideal.cos (angle (p (ix2 b s)) (freq f)) := kcos1 p b h s f

theorem ksin1 (p : Vec Ideal S2x4096 .i32) (b : Fin 2) (h : Fin 2) (s : Fin 4096) (f : Fin 64) :
    val_main_v61 (F := Ideal) p (ix4 b h s f) = Ideal.sin (angle (p (ix2 b s)) (freq f)) := by
  rw [val_main_v61_apply, val_main_v56_apply, ← kangle p b s f]
  refine congrArg (fun i => Ideal.sin (val_main_v54 (F := Ideal) p i)) ?_
  funext a; match a with | ⟨0, _⟩ => rfl | ⟨1, _⟩ => rfl | ⟨2, _⟩ => rfl | ⟨3, _⟩ => rfl

theorem ksin2 (p : Vec Ideal S2x4096 .i32) (b : Fin 2) (h : Fin 2) (s : Fin 4096) (f : Fin 64) :
    val_main_v64 (F := Ideal) p (ix4 b h s f) = Ideal.sin (angle (p (ix2 b s)) (freq f)) := ksin1 p b h s f

theorem klo (x : Vec Ideal S8192x10752 .bf16) (b : Fin 2) (h : Fin 2) (s : Fin 4096) (f : Fin 64) :
    val_main_v57 (F := Ideal) x (ix4 b h s f) = x (ix2 (rowOf b s) ⟨6144 + 128 * h.val + f.val, by omega⟩) := by
  rw [val_main_v57_apply, ← kread x b h s ⟨f.val, by omega⟩]
  congr 1
  funext a; match a with | ⟨0, _⟩ => rfl | ⟨1, _⟩ => rfl | ⟨2, _⟩ => rfl | ⟨3, _⟩ => rfl

theorem khi (x : Vec Ideal S8192x10752 .bf16) (b : Fin 2) (h : Fin 2) (s : Fin 4096) (f : Fin 64) :
    val_main_v58 (F := Ideal) x (ix4 b h s f) = x (ix2 (rowOf b s) ⟨6144 + 128 * h.val + (64 + f.val), by omega⟩) := by
  rw [val_main_v58_apply, ← kread x b h s ⟨64 + f.val, by omega⟩]
  congr 1
  funext a; match a with | ⟨0, _⟩ => rfl | ⟨1, _⟩ => rfl | ⟨2, _⟩ => rfl | ⟨3, _⟩ => rfl

/-- The two halves of the lanes turned, as the reference writes them, are the turned lanes. -/
theorem kturned (x : Vec Ideal S8192x10752 .bf16) (p : Vec Ideal S2x4096 .i32) (b : Fin 2) (h : Fin 2) (s : Fin 4096) (e : Fin 128) :
    val_main_v69 (F := Ideal) x p (ix4 b h s e)
      = turned (fun l => x (ix2 (rowOf b s) ⟨6144 + 128 * h.val + l.val, by omega⟩)) (angle (p (ix2 b s)) (freq (lower e))) (sign e) e := by
  unfold val_main_v69
  have he : e.val < 128 := e.isLt
  by_cases hlt : e.val < 64
  · have ee : lower e = ⟨e.val, hlt⟩ := Fin.ext (Nat.mod_eq_of_lt hlt)
    refine (concatenate_pair_apply_left (s₁ := S2x2x4096x64) (s₂ := S2x2x4096x64) (t := S2x2x4096x128) (3 : Fin 4) _ _ _ (ix4 b h s e) rfl (ix4 b h s (⟨e.val, hlt⟩ : Fin 64)) (fun a => ?_)).trans ?_
    · match a with | ⟨0, _⟩ => rfl | ⟨1, _⟩ => rfl | ⟨2, _⟩ => rfl | ⟨3, _⟩ => rfl
    rw [val_main_v63_apply, val_main_v60_apply, val_main_v62_apply, klo, khi, kcos1, ksin1, ee]
    have oe : other e = ⟨64 + e.val, by omega⟩ := Fin.ext (by show (e.val + 128 - 64) % 128 = 64 + e.val; omega)
    exact (turned_lower (fun l : Fin 128 => x (ix2 (rowOf b s) ⟨6144 + 128 * h.val + l.val, by omega⟩)) _ e hlt _ (congrArg (fun l : Fin 128 => x (ix2 (rowOf b s) ⟨6144 + 128 * h.val + l.val, by omega⟩)) oe)).symm
  · have ee : lower e = ⟨e.val - 64, by omega⟩ := Fin.ext (by show e.val % 64 = e.val - 64; omega)
    refine (concatenate_pair_apply_right (s₁ := S2x2x4096x64) (s₂ := S2x2x4096x64) (t := S2x2x4096x128) (3 : Fin 4) _ _ _ (ix4 b h s e) rfl rfl (ix4 b h s (⟨e.val - 64, by omega⟩ : Fin 64)) (fun a ha => ?_) ?_).trans ?_
    · match a with | ⟨0, _⟩ => rfl | ⟨1, _⟩ => rfl | ⟨2, _⟩ => rfl | ⟨3, _⟩ => exact absurd rfl ha
    · show e.val - 64 + 64 = e.val; omega
    rw [val_main_v68_apply, val_main_v65_apply, val_main_v67_apply, klo, khi, kcos2, ksin2, ee]
    have oe : other e = ⟨e.val - 64, by omega⟩ := Fin.ext (by show (e.val + 128 - 64) % 128 = e.val - 64; omega)
    have se : e = ⟨64 + (e.val - 64), by omega⟩ := Fin.ext (by show e.val = 64 + (e.val - 64); omega)
    exact (turned_upper (fun l : Fin 128 => x (ix2 (rowOf b s) ⟨6144 + 128 * h.val + l.val, by omega⟩)) _ e hlt _ _ (congrArg (fun l : Fin 128 => x (ix2 (rowOf b s) ⟨6144 + 128 * h.val + l.val, by omega⟩)) oe)
      (congrArg (fun l : Fin 128 => x (ix2 (rowOf b s) ⟨6144 + 128 * h.val + l.val, by omega⟩)) se)).symm

/-- The reference's keys. -/
theorem kresult (x : Vec Ideal S8192x10752 .bf16) (p : Vec Ideal S2x4096 .i32) :
    val_main_v75 (F := Ideal) x p = fun i : S8192x256.Idx => kentry x p (i 0) ⟨(i 1).val / 128, by have : (i 1).val < 256 := (i 1).isLt; omega⟩ ⟨(i 1).val % 128, by omega⟩ := by
  funext i
  have h0 : (i 0).val < 8192 := (i 0).isLt
  have h1 : (i 1).val < 256 := (i 1).isLt
  rw [val_main_v75_apply, val_main_v74_apply, val_main_v73_apply]
  have e : idx_main_v73 (idx_main_v74 i) = ix4 (⟨(i 0).val / 4096, by omega⟩ : Fin 2) (⟨(i 1).val / 128, by omega⟩ : Fin 2) (⟨(i 0).val % 4096, by omega⟩ : Fin 4096) (⟨(i 1).val % 128, by omega⟩ : Fin 128) := by
    funext a
    apply Fin.ext
    match a with
    | ⟨0, _⟩ => show ((i 0).val * 256 + (i 1).val) / 1048576 = (i 0).val / 4096; omega
    | ⟨1, _⟩ => show ((i 0).val * 256 + (i 1).val) / 128 % 2 = (i 1).val / 128; omega
    | ⟨2, _⟩ => show ((i 0).val * 256 + (i 1).val) / 256 % 4096 = (i 0).val % 4096; omega
    | ⟨3, _⟩ => show ((i 0).val * 256 + (i 1).val) % 128 = (i 1).val % 128; omega
  rw [e]
  refine (kturned x p _ _ _ _).trans ?_
  unfold kentry
  refine turned_congr (fun l => ?_) rfl rfl
  have r : rowOf (⟨(i 0).val / 4096, by omega⟩ : Fin 2) (⟨(i 0).val % 4096, by omega⟩ : Fin 4096) = i 0 :=
    Fin.ext (by show (i 0).val / 4096 * 4096 + (i 0).val % 4096 = (i 0).val; omega)
  rw [r]

end Cert.RopeRefIdeal.Val

namespace Cert.Proof.Rope

open Idealize.ShloMosaic Idealize.ShloMosaic.TcCoe Idealize.SL.Sem

theorem algebraic : Cert.algebraic_RopeIdeal_RopeRefIdeal := by
  intro m ρ m' ρ' _ hagree
  refine ⟨fun c => Cert.RopeIdeal.Val.qG m c, fun c => Cert.RopeIdeal.Val.kG m c, ?_, ?_⟩
  · exact (θ_run Cert.RopeIdeal.defs _ _).mono (fun _ h c => ⟨(h c).1.trans (Cert.RopeIdeal.Val.qresult m c), (h c).2.1.trans (Cert.RopeIdeal.Val.kresult m c), (h c).2.2⟩)
      (Cert.RopeIdeal.Value.run_blocks (F := Ideal) m ρ)
  refine (θ_run Cert.RopeRefIdeal.defs _ _).mono (fun _ h c => ⟨(h c).1.trans ?_, (h c).2.1.trans ?_, (h c).2.2⟩) (Cert.RopeRefIdeal.Value.run (F := Ideal) m' ρ')
  · obtain ⟨a0, a1⟩ := hagree c
    rw [Cert.RopeRefIdeal.Read.val_main_v72_eq, a0, a1]
    exact Cert.RopeRefIdeal.Val.qresult _ _
  · obtain ⟨a0, a1⟩ := hagree c
    rw [Cert.RopeRefIdeal.Read.val_main_v75_eq, a0, a1]
    exact Cert.RopeRefIdeal.Val.kresult _ _

end Cert.Proof.Rope

end
-- ==== Proof.lean ====
/-
  The claim: the programs' stated facts, then the frames, then for each call that its idealization preserves it and
  that it computes what its reference computes.
-/
module

public import proofs.«01_k».proof.Defs
public import proofs.«01_k».proof.Proof.Frames
public import proofs.«01_k».proof.Proof.AttnValue
public import proofs.«01_k».proof.Proof.InprojValue
public import proofs.«01_k».proof.Proof.FfnValue
public import proofs.«01_k».proof.Proof.MergeValue
public import proofs.«01_k».proof.Proof.OutprojValue
public import proofs.«01_k».proof.Proof.AdaValue
public import proofs.«01_k».proof.Proof.PrenormValue
public import proofs.«01_k».proof.Proof.RopeValue
public import proofs.«01_k».proof.Proof.Gen.Attn
public import proofs.«01_k».proof.Proof.Gen.AttnIdeal
public import proofs.«01_k».proof.Proof.Gen.AttnRefIdeal
public import proofs.«01_k».proof.Proof.Gen.Inproj
public import proofs.«01_k».proof.Proof.Gen.InprojIdeal
public import proofs.«01_k».proof.Proof.Gen.InprojRefIdeal
public import proofs.«01_k».proof.Proof.Gen.Ffn
public import proofs.«01_k».proof.Proof.Gen.FfnIdeal
public import proofs.«01_k».proof.Proof.Gen.FfnRefIdeal
public import proofs.«01_k».proof.Proof.Gen.Merge
public import proofs.«01_k».proof.Proof.Gen.MergeIdeal
public import proofs.«01_k».proof.Proof.Gen.MergeRefIdeal
public import proofs.«01_k».proof.Proof.Gen.Outproj
public import proofs.«01_k».proof.Proof.Gen.OutprojIdeal
public import proofs.«01_k».proof.Proof.Gen.OutprojRefIdeal
public import proofs.«01_k».proof.Proof.Gen.Ada
public import proofs.«01_k».proof.Proof.Gen.AdaIdeal
public import proofs.«01_k».proof.Proof.Gen.AdaRefIdeal
public import proofs.«01_k».proof.Proof.Gen.Prenorm
public import proofs.«01_k».proof.Proof.Gen.PrenormIdeal
public import proofs.«01_k».proof.Proof.Gen.PrenormRefIdeal
public import proofs.«01_k».proof.Proof.Gen.Rope
public import proofs.«01_k».proof.Proof.Gen.RopeIdeal
public import proofs.«01_k».proof.Proof.Gen.RopeRefIdeal
public import proofs.«01_k».proof.Proof.Gen.Route
public import proofs.«01_k».proof.Proof.Gen.RouteIdeal
public import Idealize.ShloMosaic.Adequacy
public import Idealize.ShloMosaic.Init

@[expose] public section

noncomputable section

namespace Cert.Proof

open Idealize.ShloMosaic Idealize.SL.Sem

theorem claim : Cert.Claim :=
  haveI := Frames.routerFacts
  ⟨Cert.Attn.Gen.facts, Cert.AttnIdeal.Gen.facts, Cert.AttnRefIdeal.Gen.facts, Cert.Inproj.Gen.facts, Cert.InprojIdeal.Gen.facts, Cert.InprojRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Outproj.Gen.facts, Cert.OutprojIdeal.Gen.facts, Cert.OutprojRefIdeal.Gen.facts, Cert.Ada.Gen.facts, Cert.AdaIdeal.Gen.facts, Cert.AdaRefIdeal.Gen.facts, Cert.Prenorm.Gen.facts, Cert.PrenormIdeal.Gen.facts, Cert.PrenormRefIdeal.Gen.facts, Cert.Rope.Gen.facts, Cert.RopeIdeal.Gen.facts, Cert.RopeRefIdeal.Gen.facts, Cert.Route.Gen.facts, Cert.RouteIdeal.Gen.facts, Frames.routerFacts,
    Frames.attn, Frames.attnIdeal, Frames.attnRefIdeal, Frames.inproj, Frames.inprojIdeal, Frames.inprojRefIdeal, Frames.ffn, Frames.ffnIdeal, Frames.ffnRefIdeal, Frames.merge, Frames.mergeIdeal, Frames.mergeRefIdeal, Frames.outproj, Frames.outprojIdeal, Frames.outprojIdeal_pre, Frames.outprojRefIdeal, Frames.outprojRefIdeal_pre, Frames.ada, Frames.adaIdeal, Frames.adaRefIdeal, Frames.prenorm, Frames.prenormIdeal, Frames.prenormRefIdeal, Frames.rope, Frames.ropeIdeal, Frames.ropeRefIdeal, Frames.route, Frames.routeIdeal,
    Frames.attn_preserves, Attn.algebraic, trivial, Inproj.algebraic, trivial, Ffn.algebraic, trivial, Merge.algebraic, trivial, Outproj.algebraic, trivial, Ada.algebraic, trivial, Prenorm.algebraic, trivial, Rope.algebraic, trivial⟩

end Cert.Proof

end
